-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActReferenceIdeal (m : (ℓ : Loc Cert.ActReferenceIdeal.nD Cert.ActReferenceIdeal.τ Cert.ActReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_proj [hPre_finite_proj : Cert.Pre_finite_proj.Facts] (m : (ℓ : Loc Cert.ProjIdeal.nD Cert.ProjIdeal.τ Cert.ProjIdeal.sig) → Buf (Elt Ideal) ℓ) : Prop :=
  ∀ c : Dev Cert.ProjIdeal.nD,
    (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2))).1 = (fun _ => 1#1)
    ∧ (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2))).2 = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_finite_proj [hPre_finite_proj : Cert.Pre_finite_proj.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2))).1 = (fun _ => 1#1)
    ∧ (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2))).2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_mla [hPre_finite_mla : Cert.Pre_finite_mla.Facts] (m : (ℓ : Loc Cert.MlaIdeal.nD Cert.MlaIdeal.τ Cert.MlaIdeal.sig) → Buf (Elt Ideal) ℓ) : Prop :=
  ∀ c : Dev Cert.MlaIdeal.nD,
    (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7))).1 = (fun _ => 1#1)
    ∧ (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7))).2 = (fun _ => 1#1)

def Pre_MlaReferenceIdeal (m : (ℓ : Loc Cert.MlaReferenceIdeal.nD Cert.MlaReferenceIdeal.τ Cert.MlaReferenceIdeal.sig) → Buf (Elt Ideal) ℓ) : Prop :=
  True

def Pre_MlaReferenceIdeal_finite_mla [hPre_finite_mla : Cert.Pre_finite_mla.Facts] (m : (ℓ : Loc Cert.MlaReferenceIdeal.nD Cert.MlaReferenceIdeal.τ Cert.MlaReferenceIdeal.sig) → Buf (Elt Ideal) ℓ) : Prop :=
  ∀ c : Dev Cert.MlaReferenceIdeal.nD,
    (Cert.Pre_finite_mla.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3)) (m ((c.tc : Thread Cert.MlaReferenceIdeal.nD Cert.MlaReferenceIdeal.τ).loc Cert.MlaReferenceIdeal.main_arg4)) (m ((c.tc : Thread Cert.MlaReferenceIdeal.nD Cert.MlaReferenceIdeal.τ).loc Cert.MlaReferenceIdeal.main_arg5)) (m ((c.tc : Thread Cert.MlaReferenceIdeal.nD Cert.MlaReferenceIdeal.τ).loc Cert.MlaReferenceIdeal.main_arg6)) (m ((c.tc : Thread Cert.MlaReferenceIdeal.nD Cert.MlaReferenceIdeal.τ).loc Cert.MlaReferenceIdeal.main_arg7))).1 = (fun _ => 1#1)
    ∧ (Cert.Pre_finite_mla.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3)) (m ((c.tc : Thread Cert.MlaReferenceIdeal.nD Cert.MlaReferenceIdeal.τ).loc Cert.MlaReferenceIdeal.main_arg4)) (m ((c.tc : Thread Cert.MlaReferenceIdeal.nD Cert.MlaReferenceIdeal.τ).loc Cert.MlaReferenceIdeal.main_arg5)) (m ((c.tc : Thread Cert.MlaReferenceIdeal.nD Cert.MlaReferenceIdeal.τ).loc Cert.MlaReferenceIdeal.main_arg6)) (m ((c.tc : Thread Cert.MlaReferenceIdeal.nD Cert.MlaReferenceIdeal.τ).loc Cert.MlaReferenceIdeal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3)
      ∧ r.2.mem ((c.tc : Thread Cert.Act.nD Cert.Act.τ).loc Cert.Act.main_arg4) = m ((c.tc : Thread Cert.Act.nD Cert.Act.τ).loc Cert.Act.main_arg4))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3)
      ∧ r.2.mem ((c.tc : Thread Cert.ActReferenceIdeal.nD Cert.ActReferenceIdeal.τ).loc Cert.ActReferenceIdeal.main_arg4) = m ((c.tc : Thread Cert.ActReferenceIdeal.nD Cert.ActReferenceIdeal.τ).loc Cert.ActReferenceIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjIdeal_pre_finite_proj [hProjIdeal : Cert.ProjIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_proj m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_ProjReferenceIdeal_pre_finite_proj [hProjReferenceIdeal : Cert.ProjReferenceIdeal.Facts] [hPre_finite_proj : Cert.Pre_finite_proj.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_finite_proj m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5)
      ∧ r.2.mem ((c.tc : Thread Cert.Mla.nD Cert.Mla.τ).loc Cert.Mla.main_arg6) = m ((c.tc : Thread Cert.Mla.nD Cert.Mla.τ).loc Cert.Mla.main_arg6)
      ∧ r.2.mem ((c.tc : Thread Cert.Mla.nD Cert.Mla.τ).loc Cert.Mla.main_arg7) = m ((c.tc : Thread Cert.Mla.nD Cert.Mla.τ).loc Cert.Mla.main_arg7))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7))
      ∧ r.2.sem = fun _ => 0)

def quiescent_MlaIdeal_pre_finite_mla [hMlaIdeal : Cert.MlaIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_mla m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4)
      ∧ r.2.mem ((c.tc : Thread Cert.MlaReferenceIdeal.nD Cert.MlaReferenceIdeal.τ).loc Cert.MlaReferenceIdeal.main_arg5) = m ((c.tc : Thread Cert.MlaReferenceIdeal.nD Cert.MlaReferenceIdeal.τ).loc Cert.MlaReferenceIdeal.main_arg5)
      ∧ r.2.mem ((c.tc : Thread Cert.MlaReferenceIdeal.nD Cert.MlaReferenceIdeal.τ).loc Cert.MlaReferenceIdeal.main_arg6) = m ((c.tc : Thread Cert.MlaReferenceIdeal.nD Cert.MlaReferenceIdeal.τ).loc Cert.MlaReferenceIdeal.main_arg6)
      ∧ r.2.mem ((c.tc : Thread Cert.MlaReferenceIdeal.nD Cert.MlaReferenceIdeal.τ).loc Cert.MlaReferenceIdeal.main_arg7) = m ((c.tc : Thread Cert.MlaReferenceIdeal.nD Cert.MlaReferenceIdeal.τ).loc Cert.MlaReferenceIdeal.main_arg7))
      ∧ r.2.sem = fun _ => 0)

def quiescent_MlaReferenceIdeal_pre_finite_mla [hMlaReferenceIdeal : Cert.MlaReferenceIdeal.Facts] [hPre_finite_mla : Cert.Pre_finite_mla.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal_finite_mla m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4)
      ∧ r.2.mem ((c.tc : Thread Cert.MlaReferenceIdeal.nD Cert.MlaReferenceIdeal.τ).loc Cert.MlaReferenceIdeal.main_arg5) = m ((c.tc : Thread Cert.MlaReferenceIdeal.nD Cert.MlaReferenceIdeal.τ).loc Cert.MlaReferenceIdeal.main_arg5)
      ∧ r.2.mem ((c.tc : Thread Cert.MlaReferenceIdeal.nD Cert.MlaReferenceIdeal.τ).loc Cert.MlaReferenceIdeal.main_arg6) = m ((c.tc : Thread Cert.MlaReferenceIdeal.nD Cert.MlaReferenceIdeal.τ).loc Cert.MlaReferenceIdeal.main_arg6)
      ∧ r.2.mem ((c.tc : Thread Cert.MlaReferenceIdeal.nD Cert.MlaReferenceIdeal.τ).loc Cert.MlaReferenceIdeal.main_arg7) = m ((c.tc : Thread Cert.MlaReferenceIdeal.nD Cert.MlaReferenceIdeal.τ).loc Cert.MlaReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Act_ActIdeal : Prop :=
  True

def algebraic_ActIdeal_ActReferenceIdeal [hActIdeal : Cert.ActIdeal.Facts] [hActReferenceIdeal : Cert.ActReferenceIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActIdeal m →
    (∀ c : Dev Cert.ActIdeal.nD,
      m' ((c.tc : Thread Cert.ActReferenceIdeal.nD Cert.ActReferenceIdeal.τ).loc Cert.ActReferenceIdeal.main_arg0) = m ((c.tc : Thread Cert.ActIdeal.nD Cert.ActIdeal.τ).loc Cert.ActIdeal.main_arg0)
      ∧ m' ((c.tc : Thread Cert.ActReferenceIdeal.nD Cert.ActReferenceIdeal.τ).loc Cert.ActReferenceIdeal.main_arg1) = m ((c.tc : Thread Cert.ActIdeal.nD Cert.ActIdeal.τ).loc Cert.ActIdeal.main_arg1)
      ∧ m' ((c.tc : Thread Cert.ActReferenceIdeal.nD Cert.ActReferenceIdeal.τ).loc Cert.ActReferenceIdeal.main_arg2) = m ((c.tc : Thread Cert.ActIdeal.nD Cert.ActIdeal.τ).loc Cert.ActIdeal.main_arg2)
      ∧ m' ((c.tc : Thread Cert.ActReferenceIdeal.nD Cert.ActReferenceIdeal.τ).loc Cert.ActReferenceIdeal.main_arg3) = m ((c.tc : Thread Cert.ActIdeal.nD Cert.ActIdeal.τ).loc Cert.ActIdeal.main_arg3)
      ∧ m' ((c.tc : Thread Cert.ActReferenceIdeal.nD Cert.ActReferenceIdeal.τ).loc Cert.ActReferenceIdeal.main_arg4) = m ((c.tc : Thread Cert.ActIdeal.nD Cert.ActIdeal.τ).loc Cert.ActIdeal.main_arg4)) →
    ∃ (v0 : (c : Dev Cert.ActIdeal.nD) → Buf (Elt Ideal) ((c.tc : Thread Cert.ActIdeal.nD Cert.ActIdeal.τ).loc Cert.ActIdeal.main_v5)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v5) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
          ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v29) = v0 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2)
          ∧ r.2.mem ((c.tc : Thread Cert.ActReferenceIdeal.nD Cert.ActReferenceIdeal.τ).loc Cert.ActReferenceIdeal.main_arg3) = m' ((c.tc : Thread Cert.ActReferenceIdeal.nD Cert.ActReferenceIdeal.τ).loc Cert.ActReferenceIdeal.main_arg3)
          ∧ r.2.mem ((c.tc : Thread Cert.ActReferenceIdeal.nD Cert.ActReferenceIdeal.τ).loc Cert.ActReferenceIdeal.main_arg4) = m' ((c.tc : Thread Cert.ActReferenceIdeal.nD Cert.ActReferenceIdeal.τ).loc Cert.ActReferenceIdeal.main_arg4))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v5)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v15) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Proj_ProjIdeal : Prop :=
  True

def algebraic_ProjIdeal_ProjReferenceIdeal_pre_finite_proj [hProjIdeal : Cert.ProjIdeal.Facts] [hProjReferenceIdeal : Cert.ProjReferenceIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal_finite_proj m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v21)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v21) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v29) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v7_0)) (v1 : (c : Dev Cert.OutIdeal.nD) → Buf (Elt Ideal) ((c.tc : Thread Cert.OutIdeal.nD Cert.OutIdeal.τ).loc Cert.OutIdeal.main_v7_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v7_0) = v0 c
          ∧ r.2.mem ((c.tc : Thread Cert.OutIdeal.nD Cert.OutIdeal.τ).loc Cert.OutIdeal.main_v7_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_v18) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_Mla_MlaIdeal : Prop :=
  IdealRules.named_const.Statement Cert.MlaIdeal.κ "scale" .f32 0x3DD53B95#32 ((((Real.sqrt 192) * (Real.log 2))⁻¹ : ℝ) : EReal)

def algebraic_MlaIdeal_MlaReferenceIdeal_pre_finite_mla [hMlaIdeal : Cert.MlaIdeal.Facts] [hMlaReferenceIdeal : Cert.MlaReferenceIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaIdeal_finite_mla m →
    (∀ c : Dev Cert.MlaIdeal.nD,
      m' ((c.tc : Thread Cert.MlaReferenceIdeal.nD Cert.MlaReferenceIdeal.τ).loc Cert.MlaReferenceIdeal.main_arg0) = m ((c.tc : Thread Cert.MlaIdeal.nD Cert.MlaIdeal.τ).loc Cert.MlaIdeal.main_arg0)
      ∧ m' ((c.tc : Thread Cert.MlaReferenceIdeal.nD Cert.MlaReferenceIdeal.τ).loc Cert.MlaReferenceIdeal.main_arg1) = m ((c.tc : Thread Cert.MlaIdeal.nD Cert.MlaIdeal.τ).loc Cert.MlaIdeal.main_arg1)
      ∧ m' ((c.tc : Thread Cert.MlaReferenceIdeal.nD Cert.MlaReferenceIdeal.τ).loc Cert.MlaReferenceIdeal.main_arg2) = m ((c.tc : Thread Cert.MlaIdeal.nD Cert.MlaIdeal.τ).loc Cert.MlaIdeal.main_arg2)
      ∧ m' ((c.tc : Thread Cert.MlaReferenceIdeal.nD Cert.MlaReferenceIdeal.τ).loc Cert.MlaReferenceIdeal.main_arg3) = m ((c.tc : Thread Cert.MlaIdeal.nD Cert.MlaIdeal.τ).loc Cert.MlaIdeal.main_arg3)
      ∧ m' ((c.tc : Thread Cert.MlaReferenceIdeal.nD Cert.MlaReferenceIdeal.τ).loc Cert.MlaReferenceIdeal.main_arg4) = m ((c.tc : Thread Cert.MlaIdeal.nD Cert.MlaIdeal.τ).loc Cert.MlaIdeal.main_arg4)
      ∧ m' ((c.tc : Thread Cert.MlaReferenceIdeal.nD Cert.MlaReferenceIdeal.τ).loc Cert.MlaReferenceIdeal.main_arg5) = m ((c.tc : Thread Cert.MlaIdeal.nD Cert.MlaIdeal.τ).loc Cert.MlaIdeal.main_arg5)
      ∧ m' ((c.tc : Thread Cert.MlaReferenceIdeal.nD Cert.MlaReferenceIdeal.τ).loc Cert.MlaReferenceIdeal.main_arg6) = m ((c.tc : Thread Cert.MlaIdeal.nD Cert.MlaIdeal.τ).loc Cert.MlaIdeal.main_arg6)
      ∧ m' ((c.tc : Thread Cert.MlaReferenceIdeal.nD Cert.MlaReferenceIdeal.τ).loc Cert.MlaReferenceIdeal.main_arg7) = m ((c.tc : Thread Cert.MlaIdeal.nD Cert.MlaIdeal.τ).loc Cert.MlaIdeal.main_arg7)) →
    ∃ (v0 : (c : Dev Cert.MlaIdeal.nD) → Buf (Elt Ideal) ((c.tc : Thread Cert.MlaIdeal.nD Cert.MlaIdeal.τ).loc Cert.MlaIdeal.main_v43_0)) (v1 : (c : Dev Cert.MlaIdeal.nD) → Buf (Elt Ideal) ((c.tc : Thread Cert.MlaIdeal.nD Cert.MlaIdeal.τ).loc Cert.MlaIdeal.main_v43_1)) (v2 : (c : Dev Cert.MlaIdeal.nD) → Buf (Elt Ideal) ((c.tc : Thread Cert.MlaIdeal.nD Cert.MlaIdeal.τ).loc Cert.MlaIdeal.main_v43_2)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v43_0) = v0 c
          ∧ r.2.mem ((c.tc : Thread Cert.MlaIdeal.nD Cert.MlaIdeal.τ).loc Cert.MlaIdeal.main_v43_1) = v1 c
          ∧ r.2.mem ((c.tc : Thread Cert.MlaIdeal.nD Cert.MlaIdeal.τ).loc Cert.MlaIdeal.main_v43_2) = v2 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
          ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
          ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v104) = v0 c
          ∧ r.2.mem ((c.tc : Thread Cert.MlaReferenceIdeal.nD Cert.MlaReferenceIdeal.τ).loc Cert.MlaReferenceIdeal.main_v105) = v1 c
          ∧ r.2.mem ((c.tc : Thread Cert.MlaReferenceIdeal.nD Cert.MlaReferenceIdeal.τ).loc Cert.MlaReferenceIdeal.main_v106) = v2 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2)
          ∧ r.2.mem ((c.tc : Thread Cert.MlaReferenceIdeal.nD Cert.MlaReferenceIdeal.τ).loc Cert.MlaReferenceIdeal.main_arg3) = m' ((c.tc : Thread Cert.MlaReferenceIdeal.nD Cert.MlaReferenceIdeal.τ).loc Cert.MlaReferenceIdeal.main_arg3)
          ∧ r.2.mem ((c.tc : Thread Cert.MlaReferenceIdeal.nD Cert.MlaReferenceIdeal.τ).loc Cert.MlaReferenceIdeal.main_arg4) = m' ((c.tc : Thread Cert.MlaReferenceIdeal.nD Cert.MlaReferenceIdeal.τ).loc Cert.MlaReferenceIdeal.main_arg4)
          ∧ r.2.mem ((c.tc : Thread Cert.MlaReferenceIdeal.nD Cert.MlaReferenceIdeal.τ).loc Cert.MlaReferenceIdeal.main_arg5) = m' ((c.tc : Thread Cert.MlaReferenceIdeal.nD Cert.MlaReferenceIdeal.τ).loc Cert.MlaReferenceIdeal.main_arg5)
          ∧ r.2.mem ((c.tc : Thread Cert.MlaReferenceIdeal.nD Cert.MlaReferenceIdeal.τ).loc Cert.MlaReferenceIdeal.main_arg6) = m' ((c.tc : Thread Cert.MlaReferenceIdeal.nD Cert.MlaReferenceIdeal.τ).loc Cert.MlaReferenceIdeal.main_arg6)
          ∧ r.2.mem ((c.tc : Thread Cert.MlaReferenceIdeal.nD Cert.MlaReferenceIdeal.τ).loc Cert.MlaReferenceIdeal.main_arg7) = m' ((c.tc : Thread Cert.MlaReferenceIdeal.nD Cert.MlaReferenceIdeal.τ).loc Cert.MlaReferenceIdeal.main_arg7))

def Claim : Prop :=
  ∃ (hKernel : Cert.Kernel.Facts) (hKernelIdeal : Cert.KernelIdeal.Facts) (hReferenceIdeal : Cert.ReferenceIdeal.Facts) (hAct : Cert.Act.Facts) (hActIdeal : Cert.ActIdeal.Facts) (hActReferenceIdeal : Cert.ActReferenceIdeal.Facts) (hDown : Cert.Down.Facts) (hDownIdeal : Cert.DownIdeal.Facts) (hDownReferenceIdeal : Cert.DownReferenceIdeal.Facts) (hProj : Cert.Proj.Facts) (hProjIdeal : Cert.ProjIdeal.Facts) (hProjReferenceIdeal : Cert.ProjReferenceIdeal.Facts) (hOut : Cert.Out.Facts) (hOutIdeal : Cert.OutIdeal.Facts) (hOutReferenceIdeal : Cert.OutReferenceIdeal.Facts) (hMla : Cert.Mla.Facts) (hMlaIdeal : Cert.MlaIdeal.Facts) (hMlaReferenceIdeal : Cert.MlaReferenceIdeal.Facts) (hPre_finite_scores : Cert.Pre_finite_scores.Facts) (hPre_finite_proj : Cert.Pre_finite_proj.Facts) (hPre_finite_mla : Cert.Pre_finite_mla.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Act (hAct := hAct)
    ∧ quiescent_ActIdeal (hActIdeal := hActIdeal)
    ∧ quiescent_ActReferenceIdeal (hActReferenceIdeal := hActReferenceIdeal)
    ∧ quiescent_Down (hDown := hDown)
    ∧ quiescent_DownIdeal (hDownIdeal := hDownIdeal)
    ∧ quiescent_DownReferenceIdeal (hDownReferenceIdeal := hDownReferenceIdeal)
    ∧ quiescent_Proj (hProj := hProj)
    ∧ quiescent_ProjIdeal (hProjIdeal := hProjIdeal)
    ∧ quiescent_ProjIdeal_pre_finite_proj (hProjIdeal := hProjIdeal) (hPre_finite_proj := hPre_finite_proj)
    ∧ quiescent_ProjReferenceIdeal (hProjReferenceIdeal := hProjReferenceIdeal)
    ∧ quiescent_ProjReferenceIdeal_pre_finite_proj (hProjReferenceIdeal := hProjReferenceIdeal) (hPre_finite_proj := hPre_finite_proj)
    ∧ quiescent_Out (hOut := hOut)
    ∧ quiescent_OutIdeal (hOutIdeal := hOutIdeal)
    ∧ quiescent_OutReferenceIdeal (hOutReferenceIdeal := hOutReferenceIdeal)
    ∧ quiescent_Mla (hMla := hMla)
    ∧ quiescent_MlaIdeal (hMlaIdeal := hMlaIdeal)
    ∧ quiescent_MlaIdeal_pre_finite_mla (hMlaIdeal := hMlaIdeal) (hPre_finite_mla := hPre_finite_mla)
    ∧ quiescent_MlaReferenceIdeal (hMlaReferenceIdeal := hMlaReferenceIdeal)
    ∧ quiescent_MlaReferenceIdeal_pre_finite_mla (hMlaReferenceIdeal := hMlaReferenceIdeal) (hPre_finite_mla := hPre_finite_mla)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Act_ActIdeal
    ∧ algebraic_ActIdeal_ActReferenceIdeal (hActIdeal := hActIdeal) (hActReferenceIdeal := hActReferenceIdeal)
    ∧ preserves_Down_DownIdeal
    ∧ algebraic_DownIdeal_DownReferenceIdeal (hDownIdeal := hDownIdeal) (hDownReferenceIdeal := hDownReferenceIdeal)
    ∧ preserves_Proj_ProjIdeal
    ∧ algebraic_ProjIdeal_ProjReferenceIdeal_pre_finite_proj (hProjIdeal := hProjIdeal) (hProjReferenceIdeal := hProjReferenceIdeal) (hPre_finite_proj := hPre_finite_proj)
    ∧ preserves_Out_OutIdeal
    ∧ algebraic_OutIdeal_OutReferenceIdeal (hOutIdeal := hOutIdeal) (hOutReferenceIdeal := hOutReferenceIdeal)
    ∧ preserves_Mla_MlaIdeal
    ∧ algebraic_MlaIdeal_MlaReferenceIdeal_pre_finite_mla (hMlaIdeal := hMlaIdeal) (hMlaReferenceIdeal := hMlaReferenceIdeal) (hPre_finite_mla := hPre_finite_mla)
-- ==== Pre_finite_mla.lean ====
abbrev S8x2048x512 : Shape := ⟨3, ![8, 2048, 512]⟩
abbrev S8x2048x64 : Shape := ⟨3, ![8, 2048, 64]⟩
abbrev S8x2048 : Shape := ⟨2, ![8, 2048]⟩
abbrev S512 : Shape := ⟨1, ![512]⟩
abbrev S512x1536 : Shape := ⟨2, ![512, 1536]⟩
abbrev S512x2048 : Shape := ⟨2, ![512, 2048]⟩
abbrev S512x8x192 : Shape := ⟨3, ![512, 8, 192]⟩
abbrev S512x8x32 : Shape := ⟨3, ![512, 8, 32]⟩
abbrev S_ : Shape := ⟨0, ![]⟩

class Facts : Prop where
  shapeCasts_S512x1536_S512x8x192 : S512x1536.ShapeCasts S512x8x192
  slices_S512x8x192_S512x8x32_0_0_160 : S512x8x192.Slices ![0, 0, 160] S512x8x32
  bcast_S_S512 : S_.BroadcastsInDim S512 (![] : Fin 0 → Fin S512.rank)
  bcast_S_S512x8x32 : S_.BroadcastsInDim S512x8x32 (![] : Fin 0 → Fin S512x8x32.rank)

variable [Facts]

def fn {F : FTy → Type} [FloatOps F] (main_arg0 : FVec F S8x2048x512 .f32) (main_arg1 : FVec F S8x2048x512 .f32) (main_arg2 : FVec F S8x2048x64 .f32) (main_arg3 : IVec S8x2048 32) (main_arg4 : FVec F S512 .f32) (main_arg5 : FVec F S512x1536 .f32) (main_arg6 : FVec F S512 .f32) (main_arg7 : FVec F S512x2048 .f32) : IVec S512 1 × IVec S512x8x32 1 :=
  let main_v0 : FVec F S512x8x192 .f32 := shapeCast S512x8x192 main_arg5 shapeCasts_S512x1536_S512x8x192
  let main_v1 : FVec F S512x8x32 .f32 := (extractStridedSlice S512x8x32 ![0, 0, 160] · slices_S512x8x192_S512x8x32_0_0_160) main_v0
  let main_v2 : FVec F S512 .f32 := Host.absf main_arg4
  let main_cst : FVec F S_ .f32 := constant S_ .f32 0x7F800000#32
  let main_v3 : FVec F S512 .f32 := broadcastInDim S512 ![] bcast_S_S512 main_cst
  let main_v4 : IVec S512 1 := cmpf .olt main_v2 main_v3
  let main_v5 : FVec F S512x8x32 .f32 := Host.absf main_v1
  let main_cst_0 : FVec F S_ .f32 := constant S_ .f32 0x7F800000#32
  let main_v6 : FVec F S512x8x32 .f32 := broadcastInDim S512x8x32 ![] bcast_S_S512x8x32 main_cst_0
  let main_v7 : IVec S512x8x32 1 := cmpf .olt main_v5 main_v6
  (main_v4, main_v7)
-- ==== Pre_finite_proj.lean ====
abbrev S8x2048x2048 : Shape := ⟨3, ![8, 2048, 2048]⟩
abbrev S2048 : Shape := ⟨1, ![2048]⟩
abbrev S2048x4448 : Shape := ⟨2, ![2048, 4448]⟩
abbrev S2048x32 : Shape := ⟨2, ![2048, 32]⟩
abbrev S_ : Shape := ⟨0, ![]⟩

class Facts : Prop where
  slices_S2048x4448_S2048x32_0_4416 : S2048x4448.Slices ![0, 4416] S2048x32
  bcast_S_S2048 : S_.BroadcastsInDim S2048 (![] : Fin 0 → Fin S2048.rank)
  bcast_S_S2048x32 : S_.BroadcastsInDim S2048x32 (![] : Fin 0 → Fin S2048x32.rank)

variable [Facts]

def fn {F : FTy → Type} [FloatOps F] (main_arg0 : FVec F S8x2048x2048 .f32) (main_arg1 : FVec F S2048 .f32) (main_arg2 : FVec F S2048x4448 .f32) : IVec S2048 1 × IVec S2048x32 1 :=
  let main_v0 : FVec F S2048x32 .f32 := (extractStridedSlice S2048x32 ![0, 4416] · slices_S2048x4448_S2048x32_0_4416) main_arg2
  let main_v1 : FVec F S2048 .f32 := Host.absf main_arg1
  let main_cst : FVec F S_ .f32 := constant S_ .f32 0x7F800000#32
  let main_v2 : FVec F S2048 .f32 := broadcastInDim S2048 ![] bcast_S_S2048 main_cst
  let main_v3 : IVec S2048 1 := cmpf .olt main_v1 main_v2
  let main_v4 : FVec F S2048x32 .f32 := Host.absf main_v0
  let main_cst_0 : FVec F S_ .f32 := constant S_ .f32 0x7F800000#32
  let main_v5 : FVec F S2048x32 .f32 := broadcastInDim S2048x32 ![] bcast_S_S2048x32 main_cst_0
  let main_v6 : IVec S2048x32 1 := cmpf .olt main_v4 main_v5
  (main_v3, main_v6)
-- ==== Pre_finite_scores.lean ====
abbrev S8x2048x8x128 : Shape := ⟨4, ![8, 2048, 8, 128]⟩
abbrev S8x2048x8x64 : Shape := ⟨4, ![8, 2048, 8, 64]⟩
abbrev S8x2048x64 : Shape := ⟨3, ![8, 2048, 64]⟩
abbrev S_ : Shape := ⟨0, ![]⟩

class Facts : Prop where
  bcast_S_S8x2048x8x128 : S_.BroadcastsInDim S8x2048x8x128 (![] : Fin 0 → Fin S8x2048x8x128.rank)
  bcast_S_S8x2048x8x64 : S_.BroadcastsInDim S8x2048x8x64 (![] : Fin 0 → Fin S8x2048x8x64.rank)
  bcast_S_S8x2048x64 : S_.BroadcastsInDim S8x2048x64 (![] : Fin 0 → Fin S8x2048x64.rank)

variable [Facts]

def fn {F : FTy → Type} [FloatOps F] (main_arg0 : FVec F S8x2048x8x128 .f32) (main_arg1 : FVec F S8x2048x8x64 .f32) (main_arg2 : FVec F S8x2048x8x128 .f32) (main_arg3 : FVec F S8x2048x64 .f32) (main_arg4 : FVec F S8x2048x8x128 .f32) : IVec S8x2048x8x128 1 × IVec S8x2048x8x64 1 × IVec S8x2048x8x128 1 × IVec S8x2048x64 1 :=
  let main_v0 : FVec F S8x2048x8x128 .f32 := Host.absf main_arg0
  let main_cst : FVec F S_ .f32 := constant S_ .f32 0x7F800000#32
  let main_v1 : FVec F S8x2048x8x128 .f32 := broadcastInDim S8x2048x8x128 ![] bcast_S_S8x2048x8x128 main_cst
  let main_v2 : IVec S8x2048x8x128 1 := cmpf .olt main_v0 main_v1
  let main_v3 : FVec F S8x2048x8x64 .f32 := Host.absf main_arg1
  let main_cst_0 : FVec F S_ .f32 := constant S_ .f32 0x7F800000#32
  let main_v4 : FVec F S8x2048x8x64 .f32 := broadcastInDim S8x2048x8x64 ![] bcast_S_S8x2048x8x64 main_cst_0
  let main_v5 : IVec S8x2048x8x64 1 := cmpf .olt main_v3 main_v4
  let main_v6 : FVec F S8x2048x8x128 .f32 := Host.absf main_arg2
  let main_cst_1 : FVec F S_ .f32 := constant S_ .f32 0x7F800000#32
  let main_v7 : FVec F S8x2048x8x128 .f32 := broadcastInDim S8x2048x8x128 ![] bcast_S_S8x2048x8x128 main_cst_1
  let main_v8 : IVec S8x2048x8x128 1 := cmpf .olt main_v6 main_v7
  let main_v9 : FVec F S8x2048x64 .f32 := Host.absf main_arg3
  let main_cst_2 : FVec F S_ .f32 := constant S_ .f32 0x7F800000#32
  let main_v10 : FVec F S8x2048x64 .f32 := broadcastInDim S8x2048x64 ![] bcast_S_S8x2048x64 main_cst_2
  let main_v11 : IVec S8x2048x64 1 := cmpf .olt main_v9 main_v10
  (main_v2, main_v5, main_v8, main_v11)
-- ==== Kernel.lean ====
abbrev S8x2048x8x128 : Shape := ⟨4, ![8, 2048, 8, 128]⟩
abbrev S8x2048x8x64 : Shape := ⟨4, ![8, 2048, 8, 64]⟩
abbrev S8x2048x64 : Shape := ⟨3, ![8, 2048, 64]⟩
abbrev S_ : Shape := ⟨0, ![]⟩
abbrev S16384x8x64 : Shape := ⟨3, ![16384, 8, 64]⟩
abbrev S16384x8x128 : Shape := ⟨3, ![16384, 8, 128]⟩
abbrev S16384x8x256 : Shape := ⟨3, ![16384, 8, 256]⟩
abbrev S16384x2048 : Shape := ⟨2, ![16384, 2048]⟩
abbrev S16384x1x64 : Shape := ⟨3, ![16384, 1, 64]⟩
abbrev S16384x8x16 : Shape := ⟨3, ![16384, 8, 16]⟩
abbrev S16384x8x144 : Shape := ⟨3, ![16384, 8, 144]⟩
abbrev S16384x1152 : Shape := ⟨2, ![16384, 1152]⟩
abbrev S1152x16384 : Shape := ⟨2, ![1152, 16384]⟩
abbrev S16384x1024 : Shape := ⟨2, ![16384, 1024]⟩
abbrev S512x1024 : Shape := ⟨2, ![512, 1024]⟩
abbrev S2048x1024 : Shape := ⟨2, ![2048, 1024]⟩
abbrev S576x2048 : Shape := ⟨2, ![576, 2048]⟩
abbrev S512x512 : Shape := ⟨2, ![512, 512]⟩
abbrev S1x512 : Shape := ⟨2, ![1, 512]⟩
abbrev S144x512 : Shape := ⟨2, ![144, 512]⟩
abbrev S512x256 : Shape := ⟨2, ![512, 256]⟩
abbrev S512 : Shape := ⟨1, ![512]⟩
abbrev S64x512 : Shape := ⟨2, ![64, 512]⟩
abbrev S256x512 : Shape := ⟨2, ![256, 512]⟩
abbrev S256x256 : Shape := ⟨2, ![256, 256]⟩
abbrev S1x256 : Shape := ⟨2, ![1, 256]⟩
abbrev S256 : Shape := ⟨1, ![256]⟩
abbrev S64x256 : Shape := ⟨2, ![64, 256]⟩
abbrev S144x256 : Shape := ⟨2, ![144, 256]⟩
abbrev S128x512 : Shape := ⟨2, ![128, 512]⟩
abbrev S512x128 : Shape := ⟨2, ![512, 128]⟩

abbrev nBuf : Space → Nat
  | .hbm => 37
  | .vmem => 8
  | .smem => 0
  | _ => 0

abbrev bufTy : (tb : Table) → Fin (tcTables nBuf tb) → BufTy
  | .hbm, ⟨0, _⟩ => ⟨S8x2048x8x128, .f32⟩
  | .hbm, ⟨1, _⟩ => ⟨S8x2048x8x64, .f32⟩
  | .hbm, ⟨2, _⟩ => ⟨S8x2048x8x128, .f32⟩
  | .hbm, ⟨3, _⟩ => ⟨S8x2048x64, .f32⟩
  | .hbm, ⟨4, _⟩ => ⟨S8x2048x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16384x8x64, .f32⟩
  | .hbm, ⟨14, _⟩ => ⟨S16384x8x128, .f32⟩
  | .hbm, ⟨15, _⟩ => ⟨S16384x8x128, .f32⟩
  | .hbm, ⟨16, _⟩ => ⟨S16384x8x128, .f32⟩
  | .hbm, ⟨17, _⟩ => ⟨S16384x8x64, .f32⟩
  | .hbm, ⟨18, _⟩ => ⟨S16384x8x64, .f32⟩
  | .hbm, ⟨19, _⟩ => ⟨S16384x8x64, .f32⟩
  | .hbm, ⟨20, _⟩ => ⟨S16384x8x256, .f32⟩
  | .hbm, ⟨21, _⟩ => ⟨S16384x2048, .f32⟩
  | .hbm, ⟨22, _⟩ => ⟨S16384x2048, .bf16⟩
  | .hbm, ⟨23, _⟩ => ⟨S16384x1x64, .f32⟩
  | .hbm, ⟨24, _⟩ => ⟨S16384x8x64, .f32⟩
  | .hbm, ⟨25, _⟩ => ⟨S16384x8x128, .f32⟩
  | .hbm, ⟨26, _⟩ => ⟨S16384x8x256, .f32⟩
  | .hbm, ⟨27, _⟩ => ⟨S16384x2048, .f32⟩
  | .hbm, ⟨28, _⟩ => ⟨S16384x2048, .bf16⟩
  | .hbm, ⟨29, _⟩ => ⟨S16384x8x128, .f32⟩
  | .hbm, ⟨30, _⟩ => ⟨S_, .f32⟩
  | .hbm, ⟨31, _⟩ => ⟨S16384x8x16, .f32⟩
  | .hbm, ⟨32, _⟩ => ⟨S16384x8x144, .f32⟩
  | .hbm, ⟨33, _⟩ => ⟨S16384x1152, .f32⟩
  | .hbm, ⟨34, _⟩ => ⟨S1152x16384, .f32⟩
  | .hbm, ⟨35, _⟩ => ⟨S1152x16384, .bf16⟩
  | .hbm, ⟨36, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S576x2048, .bf16⟩
  | .local _ .vmem, ⟨5, _⟩ => ⟨S576x2048, .bf16⟩
  | .local _ .vmem, ⟨6, _⟩ => ⟨S512x512, .bf16⟩
  | .local _ .vmem, ⟨7, _⟩ => ⟨S512x512, .bf16⟩
  | _, _ => ⟨S8x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

@[reducible] def k0_t1_loop (i : grid0.Coords) : Scf.Loop 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_7 : BitVec 32 := 1#32
  ⟨c0_i32, v12, c1_i32_7⟩
def k0_mult1 (i : grid0.Coords) (k0_t1 : Fin (k0_t1_loop i).trips) : BitVec 32 :=
  let c0_i32 : BitVec 32 := 0#32
  let c1_i32_7 : BitVec 32 := 1#32
  let arg7 : BitVec 32 := Scf.iv c0_i32 c1_i32_7 k0_t1
  let c512_i32_73 : BitVec 32 := 512#32
  let v392 : BitVec 32 := Scalar.muli arg7 c512_i32_73
  v392
def k0_off1 (i : grid0.Coords) (k0_t1 : Fin (k0_t1_loop i).trips) : Fin 2 → Nat :=
  let c0_i32 : BitVec 32 := 0#32
  let c1_i32_7 : BitVec 32 := 1#32
  let arg7 : BitVec 32 := Scf.iv c0_i32 c1_i32_7 k0_t1
  let c512_i32_73 : BitVec 32 := 512#32
  let v392 : BitVec 32 := Scalar.muli arg7 c512_i32_73
  let v393 : BitVec 32 := v392
  let v394 : Index := Scalar.indexCast v393
  let c0_74 : Index := 0#32
  ![v394.toNat, 0]
def k0_off2 (i : grid0.Coords) (k0_t1 : Fin (k0_t1_loop i).trips) : Fin 2 → Nat :=
  let c0_i32 : BitVec 32 := 0#32
  let c1_i32_7 : BitVec 32 := 1#32
  let arg7 : BitVec 32 := Scf.iv c0_i32 c1_i32_7 k0_t1
  let c512_i32_73 : BitVec 32 := 512#32
  let v392 : BitVec 32 := Scalar.muli arg7 c512_i32_73
  let v393 : BitVec 32 := v392
  let v400 : Index := Scalar.indexCast v393
  let c256_78 : Index := 256#32
  ![v400.toNat, 256]
def k0_off3 (i : grid0.Coords) (k0_t1 : Fin (k0_t1_loop i).trips) : Fin 2 → Nat :=
  let c0_i32 : BitVec 32 := 0#32
  let c1_i32_7 : BitVec 32 := 1#32
  let arg7 : BitVec 32 := Scf.iv c0_i32 c1_i32_7 k0_t1
  let c512_i32_73 : BitVec 32 := 512#32
  let v392 : BitVec 32 := Scalar.muli arg7 c512_i32_73
  let v393 : BitVec 32 := v392
  let v452 : Index := Scalar.indexCast v393
  let c512_83 : Index := 512#32
  ![v452.toNat, 512]
def k0_off4 (i : grid0.Coords) (k0_t1 : Fin (k0_t1_loop i).trips) : Fin 2 → Nat :=
  let c0_88 : Index := 0#32
  let c0_i32 : BitVec 32 := 0#32
  let c1_i32_7 : BitVec 32 := 1#32
  let arg7 : BitVec 32 := Scf.iv c0_i32 c1_i32_7 k0_t1
  let c512_i32_73 : BitVec 32 := 512#32
  let v392 : BitVec 32 := Scalar.muli arg7 c512_i32_73
  let v393 : BitVec 32 := v392
  let v506 : Index := Scalar.indexCast v393
  ![0, v506.toNat]
def k0_off5 (i : grid0.Coords) (k0_t1 : Fin (k0_t1_loop i).trips) : Fin 2 → Nat :=
  let c0_i32 : BitVec 32 := 0#32
  let c1_i32_7 : BitVec 32 := 1#32
  let arg7 : BitVec 32 := Scf.iv c0_i32 c1_i32_7 k0_t1
  let c512_i32_73 : BitVec 32 := 512#32
  let v392 : BitVec 32 := Scalar.muli arg7 c512_i32_73
  let v393 : BitVec 32 := v392
  let v511 : Index := Scalar.indexCast v393
  let c768_90 : Index := 768#32
  ![v511.toNat, 768]
def k0_off6 (i : grid0.Coords) (k0_t1 : Fin (k0_t1_loop i).trips) : Fin 2 → Nat :=
  let c144_95 : Index := 144#32
  let c0_i32 : BitVec 32 := 0#32
  let c1_i32_7 : BitVec 32 := 1#32
  let arg7 : BitVec 32 := Scf.iv c0_i32 c1_i32_7 k0_t1
  let c512_i32_73 : BitVec 32 := 512#32
  let v392 : BitVec 32 := Scalar.muli arg7 c512_i32_73
  let v393 : BitVec 32 := v392
  let v565 : Index := Scalar.indexCast v393
  ![144, v565.toNat]
def k0_off7 (i : grid0.Coords) (k0_t1 : Fin (k0_t1_loop i).trips) : Fin 2 → Nat :=
  let c288_98 : Index := 288#32
  let c0_i32 : BitVec 32 := 0#32
  let c1_i32_7 : BitVec 32 := 1#32
  let arg7 : BitVec 32 := Scf.iv c0_i32 c1_i32_7 k0_t1
  let c512_i32_73 : BitVec 32 := 512#32
  let v392 : BitVec 32 := Scalar.muli arg7 c512_i32_73
  let v393 : BitVec 32 := v392
  let v618 : Index := Scalar.indexCast v393
  ![288, v618.toNat]
def k0_off8 (i : grid0.Coords) (k0_t1 : Fin (k0_t1_loop i).trips) : Fin 2 → Nat :=
  let c432_100 : Index := 432#32
  let c0_i32 : BitVec 32 := 0#32
  let c1_i32_7 : BitVec 32 := 1#32
  let arg7 : BitVec 32 := Scf.iv c0_i32 c1_i32_7 k0_t1
  let c512_i32_73 : BitVec 32 := 512#32
  let v392 : BitVec 32 := Scalar.muli arg7 c512_i32_73
  let v393 : BitVec 32 := v392
  let v625 : Index := Scalar.indexCast v393
  ![432, v625.toNat]
@[reducible] def k0_t2_loop (i : grid0.Coords) : Scf.Loop 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let v9 : BitVec 32 := Scalar.addi c0_i32 v8
  let c1_i32_8 : BitVec 32 := 1#32
  ⟨v12, v9, c1_i32_8⟩
def k0_mult2 (i : grid0.Coords) (k0_t2 : Fin (k0_t2_loop i).trips) : BitVec 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c512_i32_73 : BitVec 32 := 512#32
  let v392 : BitVec 32 := Scalar.muli arg7 c512_i32_73
  v392
def k0_off9 (i : grid0.Coords) (k0_t2 : Fin (k0_t2_loop i).trips) : Fin 2 → Nat :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c512_i32_73 : BitVec 32 := 512#32
  let v392 : BitVec 32 := Scalar.muli arg7 c512_i32_73
  let v393 : BitVec 32 := v392
  let v394 : Index := Scalar.indexCast v393
  let c0_74 : Index := 0#32
  ![v394.toNat, 0]
def k0_off10 (i : grid0.Coords) (k0_t2 : Fin (k0_t2_loop i).trips) : Fin 2 → Nat :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c512_i32_73 : BitVec 32 := 512#32
  let v392 : BitVec 32 := Scalar.muli arg7 c512_i32_73
  let v393 : BitVec 32 := v392
  let v400 : Index := Scalar.indexCast v393
  let c256_78 : Index := 256#32
  ![v400.toNat, 256]
def k0_off11 (i : grid0.Coords) (k0_t2 : Fin (k0_t2_loop i).trips) : Fin 2 → Nat :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c512_i32_73 : BitVec 32 := 512#32
  let v392 : BitVec 32 := Scalar.muli arg7 c512_i32_73
  let v393 : BitVec 32 := v392
  let v452 : Index := Scalar.indexCast v393
  let c512_83 : Index := 512#32
  ![v452.toNat, 512]
def k0_off12 (i : grid0.Coords) (k0_t2 : Fin (k0_t2_loop i).trips) : Fin 2 → Nat :=
  let c0_88 : Index := 0#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c512_i32_73 : BitVec 32 := 512#32
  let v392 : BitVec 32 := Scalar.muli arg7 c512_i32_73
  let v393 : BitVec 32 := v392
  let v506 : Index := Scalar.indexCast v393
  ![0, v506.toNat]
def k0_off13 (i : grid0.Coords) (k0_t2 : Fin (k0_t2_loop i).trips) : Fin 2 → Nat :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c512_i32_73 : BitVec 32 := 512#32
  let v392 : BitVec 32 := Scalar.muli arg7 c512_i32_73
  let v393 : BitVec 32 := v392
  let v511 : Index := Scalar.indexCast v393
  let c768_90 : Index := 768#32
  ![v511.toNat, 768]
def k0_off14 (i : grid0.Coords) (k0_t2 : Fin (k0_t2_loop i).trips) : Fin 2 → Nat :=
  let c144_95 : Index := 144#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c512_i32_73 : BitVec 32 := 512#32
  let v392 : BitVec 32 := Scalar.muli arg7 c512_i32_73
  let v393 : BitVec 32 := v392
  let v565 : Index := Scalar.indexCast v393
  ![144, v565.toNat]
def k0_off15 (i : grid0.Coords) (k0_t2 : Fin (k0_t2_loop i).trips) : Fin 2 → Nat :=
  let c288_98 : Index := 288#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c512_i32_73 : BitVec 32 := 512#32
  let v392 : BitVec 32 := Scalar.muli arg7 c512_i32_73
  let v393 : BitVec 32 := v392
  let v618 : Index := Scalar.indexCast v393
  ![288, v618.toNat]
def k0_off16 (i : grid0.Coords) (k0_t2 : Fin (k0_t2_loop i).trips) : Fin 2 → Nat :=
  let c432_100 : Index := 432#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c512_i32_73 : BitVec 32 := 512#32
  let v392 : BitVec 32 := Scalar.muli arg7 c512_i32_73
  let v393 : BitVec 32 := v392
  let v625 : Index := Scalar.indexCast v393
  ![432, v625.toNat]
def k0_mult3 (i : grid0.Coords) : BitVec 32 :=
  let arg2 : BitVec 32 := BitVec.ofNat 32 (i 2).val
  let c512_i32 : BitVec 32 := 512#32
  let v15 : BitVec 32 := Scalar.muli arg2 c512_i32
  v15
def k0_mult4 (i : grid0.Coords) : BitVec 32 :=
  let arg2 : BitVec 32 := BitVec.ofNat 32 (i 2).val
  let c512_i32_9 : BitVec 32 := 512#32
  let v17 : BitVec 32 := Scalar.muli arg2 c512_i32_9
  let c256_i32 : BitVec 32 := 256#32
  let v18 : BitVec 32 := Scalar.addi v17 c256_i32
  v18
def k0_off17 (i : grid0.Coords) : Fin 2 → Nat :=
  let arg2 : BitVec 32 := BitVec.ofNat 32 (i 2).val
  let c512_i32 : BitVec 32 := 512#32
  let v15 : BitVec 32 := Scalar.muli arg2 c512_i32
  let v16 : BitVec 32 := v15
  let v24 : Index := Scalar.indexCast v16
  let c0 : Index := 0#32
  ![v24.toNat, 0]
def k0_off18 (i : grid0.Coords) : Fin 2 → Nat :=
  let arg2 : BitVec 32 := BitVec.ofNat 32 (i 2).val
  let c512_i32_9 : BitVec 32 := 512#32
  let v17 : BitVec 32 := Scalar.muli arg2 c512_i32_9
  let c256_i32 : BitVec 32 := 256#32
  let v18 : BitVec 32 := Scalar.addi v17 c256_i32
  let v19 : BitVec 32 := v18
  let v30 : Index := Scalar.indexCast v19
  let c0_13 : Index := 0#32
  ![v30.toNat, 0]
def k0_off19 (i : grid0.Coords) : Fin 2 → Nat :=
  let arg2 : BitVec 32 := BitVec.ofNat 32 (i 2).val
  let c512_i32 : BitVec 32 := 512#32
  let v15 : BitVec 32 := Scalar.muli arg2 c512_i32
  let v16 : BitVec 32 := v15
  let v36 : Index := Scalar.indexCast v16
  let c256_16 : Index := 256#32
  ![v36.toNat, 256]
def k0_off20 (i : grid0.Coords) : Fin 2 → Nat :=
  let arg2 : BitVec 32 := BitVec.ofNat 32 (i 2).val
  let c512_i32_9 : BitVec 32 := 512#32
  let v17 : BitVec 32 := Scalar.muli arg2 c512_i32_9
  let c256_i32 : BitVec 32 := 256#32
  let v18 : BitVec 32 := Scalar.addi v17 c256_i32
  let v19 : BitVec 32 := v18
  let v42 : Index := Scalar.indexCast v19
  let c256_20 : Index := 256#32
  ![v42.toNat, 256]
def k0_off21 (i : grid0.Coords) : Fin 2 → Nat :=
  let arg2 : BitVec 32 := BitVec.ofNat 32 (i 2).val
  let c512_i32 : BitVec 32 := 512#32
  let v15 : BitVec 32 := Scalar.muli arg2 c512_i32
  let v16 : BitVec 32 := v15
  let v106 : Index := Scalar.indexCast v16
  let c512 : Index := 512#32
  ![v106.toNat, 512]
def k0_off22 (i : grid0.Coords) : Fin 2 → Nat :=
  let arg2 : BitVec 32 := BitVec.ofNat 32 (i 2).val
  let c512_i32_9 : BitVec 32 := 512#32
  let v17 : BitVec 32 := Scalar.muli arg2 c512_i32_9
  let c256_i32 : BitVec 32 := 256#32
  let v18 : BitVec 32 := Scalar.addi v17 c256_i32
  let v19 : BitVec 32 := v18
  let v112 : Index := Scalar.indexCast v19
  let c512_31 : Index := 512#32
  ![v112.toNat, 512]
def k0_off23 (i : grid0.Coords) : Fin 2 → Nat :=
  let c0_39 : Index := 0#32
  let arg2 : BitVec 32 := BitVec.ofNat 32 (i 2).val
  let c512_i32 : BitVec 32 := 512#32
  let v15 : BitVec 32 := Scalar.muli arg2 c512_i32
  let v16 : BitVec 32 := v15
  let v178 : Index := Scalar.indexCast v16
  ![0, v178.toNat]
def k0_off24 (i : grid0.Coords) : Fin 2 → Nat :=
  let c0_41 : Index := 0#32
  let arg2 : BitVec 32 := BitVec.ofNat 32 (i 2).val
  let c512_i32_9 : BitVec 32 := 512#32
  let v17 : BitVec 32 := Scalar.muli arg2 c512_i32_9
  let c256_i32 : BitVec 32 := 256#32
  let v18 : BitVec 32 := Scalar.addi v17 c256_i32
  let v19 : BitVec 32 := v18
  let v183 : Index := Scalar.indexCast v19
  ![0, v183.toNat]
def k0_off25 (i : grid0.Coords) : Fin 2 → Nat :=
  let arg2 : BitVec 32 := BitVec.ofNat 32 (i 2).val
  let c512_i32 : BitVec 32 := 512#32
  let v15 : BitVec 32 := Scalar.muli arg2 c512_i32
  let v16 : BitVec 32 := v15
  let v191 : Index := Scalar.indexCast v16
  let c768 : Index := 768#32
  ![v191.toNat, 768]
def k0_off26 (i : grid0.Coords) : Fin 2 → Nat :=
  let arg2 : BitVec 32 := BitVec.ofNat 32 (i 2).val
  let c512_i32_9 : BitVec 32 := 512#32
  let v17 : BitVec 32 := Scalar.muli arg2 c512_i32_9
  let c256_i32 : BitVec 32 := 256#32
  let v18 : BitVec 32 := Scalar.addi v17 c256_i32
  let v19 : BitVec 32 := v18
  let v197 : Index := Scalar.indexCast v19
  let c768_46 : Index := 768#32
  ![v197.toNat, 768]
def k0_off27 (i : grid0.Coords) : Fin 2 → Nat :=
  let c144 : Index := 144#32
  let arg2 : BitVec 32 := BitVec.ofNat 32 (i 2).val
  let c512_i32 : BitVec 32 := 512#32
  let v15 : BitVec 32 := Scalar.muli arg2 c512_i32
  let v16 : BitVec 32 := v15
  let v263 : Index := Scalar.indexCast v16
  ![144, v263.toNat]
def k0_off28 (i : grid0.Coords) : Fin 2 → Nat :=
  let c144_55 : Index := 144#32
  let arg2 : BitVec 32 := BitVec.ofNat 32 (i 2).val
  let c512_i32_9 : BitVec 32 := 512#32
  let v17 : BitVec 32 := Scalar.muli arg2 c512_i32_9
  let c256_i32 : BitVec 32 := 256#32
  let v18 : BitVec 32 := Scalar.addi v17 c256_i32
  let v19 : BitVec 32 := v18
  let v268 : Index := Scalar.indexCast v19
  ![144, v268.toNat]
def k0_off29 (i : grid0.Coords) : Fin 2 → Nat :=
  let c288 : Index := 288#32
  let arg2 : BitVec 32 := BitVec.ofNat 32 (i 2).val
  let c512_i32 : BitVec 32 := 512#32
  let v15 : BitVec 32 := Scalar.muli arg2 c512_i32
  let v16 : BitVec 32 := v15
  let v336 : Index := Scalar.indexCast v16
  ![288, v336.toNat]
def k0_off30 (i : grid0.Coords) : Fin 2 → Nat :=
  let c288_62 : Index := 288#32
  let arg2 : BitVec 32 := BitVec.ofNat 32 (i 2).val
  let c512_i32_9 : BitVec 32 := 512#32
  let v17 : BitVec 32 := Scalar.muli arg2 c512_i32_9
  let c256_i32 : BitVec 32 := 256#32
  let v18 : BitVec 32 := Scalar.addi v17 c256_i32
  let v19 : BitVec 32 := v18
  let v341 : Index := Scalar.indexCast v19
  ![288, v341.toNat]
def k0_off31 (i : grid0.Coords) : Fin 2 → Nat :=
  let c432 : Index := 432#32
  let arg2 : BitVec 32 := BitVec.ofNat 32 (i 2).val
  let c512_i32 : BitVec 32 := 512#32
  let v15 : BitVec 32 := Scalar.muli arg2 c512_i32
  let v16 : BitVec 32 := v15
  let v351 : Index := Scalar.indexCast v16
  ![432, v351.toNat]
def k0_off32 (i : grid0.Coords) : Fin 2 → Nat :=
  let c432_65 : Index := 432#32
  let arg2 : BitVec 32 := BitVec.ofNat 32 (i 2).val
  let c512_i32_9 : BitVec 32 := 512#32
  let v17 : BitVec 32 := Scalar.muli arg2 c512_i32_9
  let c256_i32 : BitVec 32 := 256#32
  let v18 : BitVec 32 := Scalar.addi v17 c256_i32
  let v19 : BitVec 32 := v18
  let v356 : Index := Scalar.indexCast v19
  ![432, v356.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S576x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x2048x8x128 : Shape := ⟨4, ![8, 2048, 8, 128]⟩
abbrev S8x2048x8x64 : Shape := ⟨4, ![8, 2048, 8, 64]⟩
abbrev S8x2048x64 : Shape := ⟨3, ![8, 2048, 64]⟩
abbrev S_ : Shape := ⟨0, ![]⟩
abbrev S8x8x2048x2048 : Shape := ⟨4, ![8, 8, 2048, 2048]⟩
abbrev S8x2048x2048x8 : Shape := ⟨4, ![8, 2048, 2048, 8]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x8x2048 : Shape := ⟨3, ![8, 8, 2048]⟩
abbrev S8x8x2048x1 : Shape := ⟨4, ![8, 8, 2048, 1]⟩
abbrev S8x8x128x2048 : Shape := ⟨4, ![8, 8, 128, 2048]⟩
abbrev S16384x1024 : Shape := ⟨2, ![16384, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x8x128, .f32⟩
  | .hbm, ⟨1, _⟩ => ⟨S8x2048x8x64, .f32⟩
  | .hbm, ⟨2, _⟩ => ⟨S8x2048x8x128, .f32⟩
  | .hbm, ⟨3, _⟩ => ⟨S8x2048x64, .f32⟩
  | .hbm, ⟨4, _⟩ => ⟨S8x2048x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x8x2048x2048, .f32⟩
  | .hbm, ⟨10, _⟩ => ⟨S8x2048x2048x8, .f32⟩
  | .hbm, ⟨11, _⟩ => ⟨S8x8x2048x2048, .f32⟩
  | .hbm, ⟨12, _⟩ => ⟨S8x8x2048x2048, .f32⟩
  | .hbm, ⟨13, _⟩ => ⟨S8x8x2048x2048, .f32⟩
  | .hbm, ⟨14, _⟩ => ⟨S8x8x2048x2048, .f32⟩
  | .hbm, ⟨15, _⟩ => ⟨S2048, .i32⟩
  | .hbm, ⟨16, _⟩ => ⟨S2048x1, .i32⟩
  | .hbm, ⟨17, _⟩ => ⟨S2048, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x8x2048x2048, .i1⟩
  | .hbm, ⟨25, _⟩ => ⟨S8x8x2048x2048, .f32⟩
  | .hbm, ⟨26, _⟩ => ⟨S8x8x2048x2048, .f32⟩
  | .hbm, ⟨27, _⟩ => ⟨S_, .f32⟩
  | .hbm, ⟨28, _⟩ => ⟨S8x8x2048, .f32⟩
  | .hbm, ⟨29, _⟩ => ⟨S_, .f32⟩
  | .hbm, ⟨30, _⟩ => ⟨S8x8x2048, .f32⟩
  | .hbm, ⟨31, _⟩ => ⟨S8x8x2048, .f32⟩
  | .hbm, ⟨32, _⟩ => ⟨S8x8x2048x1, .f32⟩
  | .hbm, ⟨33, _⟩ => ⟨S8x8x2048x2048, .f32⟩
  | .hbm, ⟨34, _⟩ => ⟨S8x8x2048x2048, .f32⟩
  | .hbm, ⟨35, _⟩ => ⟨S8x8x2048x2048, .f32⟩
  | .hbm, ⟨36, _⟩ => ⟨S_, .f32⟩
  | .hbm, ⟨37, _⟩ => ⟨S8x8x2048, .f32⟩
  | .hbm, ⟨38, _⟩ => ⟨S8x8x2048x1, .f32⟩
  | .hbm, ⟨39, _⟩ => ⟨S8x8x2048x2048, .f32⟩
  | .hbm, ⟨40, _⟩ => ⟨S8x8x2048x2048, .f32⟩
  | .hbm, ⟨41, _⟩ => ⟨S8x8x128x2048, .f32⟩
  | .hbm, ⟨42, _⟩ => ⟨S8x2048x8x128, .f32⟩
  | .hbm, ⟨43, _⟩ => ⟨S16384x1024, .f32⟩
  | .hbm, ⟨44, _⟩ => ⟨S16384x1024, .bf16⟩
  | _, _ => ⟨S8x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Act.lean ====
abbrev S8x2048x2048 : Shape := ⟨3, ![8, 2048, 2048]⟩
abbrev S2048x5632 : Shape := ⟨2, ![2048, 5632]⟩
abbrev S3x5632 : Shape := ⟨2, ![3, 5632]⟩
abbrev S5632 : Shape := ⟨1, ![5632]⟩
abbrev S16384x2048 : Shape := ⟨2, ![16384, 2048]⟩
abbrev S1x5632 : Shape := ⟨2, ![1, 5632]⟩
abbrev S16384x5632 : Shape := ⟨2, ![16384, 5632]⟩
abbrev S512x2048 : Shape := ⟨2, ![512, 2048]⟩
abbrev S2048x2816 : Shape := ⟨2, ![2048, 2816]⟩
abbrev S16x2048 : Shape := ⟨2, ![16, 2048]⟩
abbrev S3x2816 : Shape := ⟨2, ![3, 2816]⟩
abbrev S1x2816 : Shape := ⟨2, ![1, 2816]⟩
abbrev S512x2816 : Shape := ⟨2, ![512, 2816]⟩
abbrev S528x2048 : Shape := ⟨2, ![528, 2048]⟩
abbrev S2048x256 : Shape := ⟨2, ![2048, 256]⟩
abbrev S528x256 : Shape := ⟨2, ![528, 256]⟩
abbrev S512x256 : Shape := ⟨2, ![512, 256]⟩
abbrev S1x256 : Shape := ⟨2, ![1, 256]⟩
abbrev S8x256 : Shape := ⟨2, ![8, 256]⟩
abbrev S504x256 : Shape := ⟨2, ![504, 256]⟩

abbrev nBuf : Space → Nat
  | .hbm => 11
  | .vmem => 13
  | .smem => 0
  | _ => 0

abbrev bufTy : (tb : Table) → Fin (tcTables nBuf tb) → BufTy
  | .hbm, ⟨0, _⟩ => ⟨S8x2048x2048, .f32⟩
  | .hbm, ⟨1, _⟩ => ⟨S2048x5632, .f32⟩
  | .hbm, ⟨2, _⟩ => ⟨S2048x5632, .f32⟩
  | .hbm, ⟨3, _⟩ => ⟨S3x5632, .f32⟩
  | .hbm, ⟨4, _⟩ => ⟨S5632, .f32⟩
  | .hbm, ⟨5, _⟩ => ⟨S16384x2048, .f32⟩
  | .hbm, ⟨6, _⟩ => ⟨S16384x2048, .bf16⟩
  | .hbm, ⟨7, _⟩ => ⟨S2048x5632, .bf16⟩
  | .hbm, ⟨8, _⟩ => ⟨S2048x5632, .bf16⟩
  | .hbm, ⟨9, _⟩ => ⟨S1x5632, .f32⟩
  | .hbm, ⟨10, _⟩ => ⟨S16384x5632, .bf16⟩
  | .local _ .vmem, ⟨0, _⟩ => ⟨S512x2048, .bf16⟩
  | .local _ .vmem, ⟨1, _⟩ => ⟨S512x2048, .bf16⟩
  | .local _ .vmem, ⟨2, _⟩ => ⟨S2048x2816, .bf16⟩
  | .local _ .vmem, ⟨3, _⟩ => ⟨S2048x2816, .bf16⟩
  | .local _ .vmem, ⟨4, _⟩ => ⟨S16x2048, .bf16⟩
  | .local _ .vmem, ⟨5, _⟩ => ⟨S16x2048, .bf16⟩
  | .local _ .vmem, ⟨6, _⟩ => ⟨S3x2816, .f32⟩
  | .local _ .vmem, ⟨7, _⟩ => ⟨S3x2816, .f32⟩
  | .local _ .vmem, ⟨8, _⟩ => ⟨S1x2816, .f32⟩
  | .local _ .vmem, ⟨9, _⟩ => ⟨S1x2816, .f32⟩
  | .local _ .vmem, ⟨10, _⟩ => ⟨S512x2816, .bf16⟩
  | .local _ .vmem, ⟨11, _⟩ => ⟨S512x2816, .bf16⟩
  | .local _ .vmem, ⟨12, _⟩ => ⟨S528x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ActReferenceIdeal.lean ====
abbrev S8x2048x2048 : Shape := ⟨3, ![8, 2048, 2048]⟩
abbrev S2048x5632 : Shape := ⟨2, ![2048, 5632]⟩
abbrev S3x5632 : Shape := ⟨2, ![3, 5632]⟩
abbrev S5632 : Shape := ⟨1, ![5632]⟩
abbrev S8x2048x5632 : Shape := ⟨3, ![8, 2048, 5632]⟩
abbrev S_ : Shape := ⟨0, ![]⟩
abbrev S8x2049x5632 : Shape := ⟨3, ![8, 2049, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S16384x5632 : Shape := ⟨2, ![16384, 5632]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x5632, .f32⟩
  | .hbm, ⟨2, _⟩ => ⟨S2048x5632, .f32⟩
  | .hbm, ⟨3, _⟩ => ⟨S3x5632, .f32⟩
  | .hbm, ⟨4, _⟩ => ⟨S5632, .f32⟩
  | .hbm, ⟨5, _⟩ => ⟨S8x2048x5632, .f32⟩
  | .hbm, ⟨6, _⟩ => ⟨S_, .i32⟩
  | .hbm, ⟨7, _⟩ => ⟨S_, .f32⟩
  | .hbm, ⟨8, _⟩ => ⟨S8x2049x5632, .f32⟩
  | .hbm, ⟨9, _⟩ => ⟨S8x2048x5632, .f32⟩
  | .hbm, ⟨10, _⟩ => ⟨S_, .i32⟩
  | .hbm, ⟨11, _⟩ => ⟨S_, .f32⟩
  | .hbm, ⟨12, _⟩ => ⟨S8x2050x5632, .f32⟩
  | .hbm, ⟨13, _⟩ => ⟨S8x2048x5632, .f32⟩
  | .hbm, ⟨14, _⟩ => ⟨S1x5632, .f32⟩
  | .hbm, ⟨15, _⟩ => ⟨S5632, .f32⟩
  | .hbm, ⟨16, _⟩ => ⟨S1x1x5632, .f32⟩
  | .hbm, ⟨17, _⟩ => ⟨S8x2048x5632, .f32⟩
  | .hbm, ⟨18, _⟩ => ⟨S8x2048x5632, .f32⟩
  | .hbm, ⟨19, _⟩ => ⟨S1x5632, .f32⟩
  | .hbm, ⟨20, _⟩ => ⟨S5632, .f32⟩
  | .hbm, ⟨21, _⟩ => ⟨S1x1x5632, .f32⟩
  | .hbm, ⟨22, _⟩ => ⟨S8x2048x5632, .f32⟩
  | .hbm, ⟨23, _⟩ => ⟨S8x2048x5632, .f32⟩
  | .hbm, ⟨24, _⟩ => ⟨S8x2048x5632, .f32⟩
  | .hbm, ⟨25, _⟩ => ⟨S1x5632, .f32⟩
  | .hbm, ⟨26, _⟩ => ⟨S5632, .f32⟩
  | .hbm, ⟨27, _⟩ => ⟨S1x1x5632, .f32⟩
  | .hbm, ⟨28, _⟩ => ⟨S8x2048x5632, .f32⟩
  | .hbm, ⟨29, _⟩ => ⟨S8x2048x5632, .f32⟩
  | .hbm, ⟨30, _⟩ => ⟨S8x2048x5632, .f32⟩
  | .hbm, ⟨31, _⟩ => ⟨S1x1x5632, .f32⟩
  | .hbm, ⟨32, _⟩ => ⟨S8x2048x5632, .f32⟩
  | .hbm, ⟨33, _⟩ => ⟨S8x2048x5632, .f32⟩
  | .hbm, ⟨34, _⟩ => ⟨S8x2048x5632, .f32⟩
  | .hbm, ⟨35, _⟩ => ⟨S8x2048x5632, .f32⟩
  | .hbm, ⟨36, _⟩ => ⟨S_, .f32⟩
  | .hbm, ⟨37, _⟩ => ⟨S8x2048x5632, .f32⟩
  | .hbm, ⟨38, _⟩ => ⟨S8x2048x5632, .f32⟩
  | .hbm, ⟨39, _⟩ => ⟨S_, .f32⟩
  | .hbm, ⟨40, _⟩ => ⟨S8x2048x5632, .f32⟩
  | .hbm, ⟨41, _⟩ => ⟨S8x2048x5632, .f32⟩
  | .hbm, ⟨42, _⟩ => ⟨S8x2048x5632, .f32⟩
  | .hbm, ⟨43, _⟩ => ⟨S8x2048x5632, .f32⟩
  | .hbm, ⟨44, _⟩ => ⟨S8x2048x5632, .f32⟩
  | .hbm, ⟨45, _⟩ => ⟨S16384x5632, .f32⟩
  | .hbm, ⟨46, _⟩ => ⟨S16384x5632, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call2_v0 : Ref sig .tc := ⟨.hbm, 34, rfl⟩
abbrev main_call2_v1 : Ref sig .tc := ⟨.hbm, 35, rfl⟩
abbrev main_call2_cst : Ref sig .tc := ⟨.hbm, 36, rfl⟩
abbrev main_call2_v2 : Ref sig .tc := ⟨.hbm, 37, rfl⟩
abbrev main_call2_v3 : Ref sig .tc := ⟨.hbm, 38, rfl⟩
abbrev main_call2_cst_0 : Ref sig .tc := ⟨.hbm, 39, rfl⟩
abbrev main_call2_v4 : Ref sig .tc := ⟨.hbm, 40, rfl⟩
abbrev main_call2_v5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Down.lean ====
abbrev S8x2048x5632 : Shape := ⟨3, ![8, 2048, 5632]⟩
abbrev S5632x2048 : Shape := ⟨2, ![5632, 2048]⟩
abbrev S8x2048x2048 : Shape := ⟨3, ![8, 2048, 2048]⟩
abbrev S2048 : Shape := ⟨1, ![2048]⟩
abbrev S16384x5632 : Shape := ⟨2, ![16384, 5632]⟩
abbrev S16384x2048 : Shape := ⟨2, ![16384, 2048]⟩
abbrev S1x2048 : Shape := ⟨2, ![1, 2048]⟩
abbrev S512x5632 : Shape := ⟨2, ![512, 5632]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S8x2048x5632, .f32⟩
  | .hbm, ⟨1, _⟩ => ⟨S5632x2048, .f32⟩
  | .hbm, ⟨2, _⟩ => ⟨S8x2048x2048, .f32⟩
  | .hbm, ⟨3, _⟩ => ⟨S2048, .f32⟩
  | .hbm, ⟨4, _⟩ => ⟨S16384x5632, .f32⟩
  | .hbm, ⟨5, _⟩ => ⟨S16384x5632, .bf16⟩
  | .hbm, ⟨6, _⟩ => ⟨S5632x2048, .bf16⟩
  | .hbm, ⟨7, _⟩ => ⟨S16384x2048, .f32⟩
  | .hbm, ⟨8, _⟩ => ⟨S1x2048, .f32⟩
  | .hbm, ⟨9, _⟩ => ⟨S16384x2048, .f32⟩
  | .local _ .vmem, ⟨0, _⟩ => ⟨S512x5632, .bf16⟩
  | .local _ .vmem, ⟨1, _⟩ => ⟨S512x5632, .bf16⟩
  | .local _ .vmem, ⟨2, _⟩ => ⟨S5632x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DownReferenceIdeal.lean ====
abbrev S8x2048x5632 : Shape := ⟨3, ![8, 2048, 5632]⟩
abbrev S5632x2048 : Shape := ⟨2, ![5632, 2048]⟩
abbrev S8x2048x2048 : Shape := ⟨3, ![8, 2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x5632, .f32⟩
  | .hbm, ⟨1, _⟩ => ⟨S5632x2048, .f32⟩
  | .hbm, ⟨2, _⟩ => ⟨S8x2048x2048, .f32⟩
  | .hbm, ⟨3, _⟩ => ⟨S2048, .f32⟩
  | .hbm, ⟨4, _⟩ => ⟨S8x2048x2048, .f32⟩
  | .hbm, ⟨5, _⟩ => ⟨S8x2048x2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S1x1x2048, .f32⟩
  | .hbm, ⟨20, _⟩ => ⟨S8x2048x2048, .f32⟩
  | .hbm, ⟨21, _⟩ => ⟨S8x2048x2048, .f32⟩
  | .hbm, ⟨22, _⟩ => ⟨S16384x2048, .f32⟩
  | _, _ => ⟨S8x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proj.lean ====
abbrev S8x2048x2048 : Shape := ⟨3, ![8, 2048, 2048]⟩
abbrev S2048 : Shape := ⟨1, ![2048]⟩
abbrev S2048x4448 : Shape := ⟨2, ![2048, 4448]⟩
abbrev S2048x1376 : Shape := ⟨2, ![2048, 1376]⟩
abbrev S1376x2048 : Shape := ⟨2, ![1376, 2048]⟩
abbrev S128x2048 : Shape := ⟨2, ![128, 2048]⟩
abbrev S160x2048 : Shape := ⟨2, ![160, 2048]⟩
abbrev S512x2048 : Shape := ⟨2, ![512, 2048]⟩
abbrev S64x2048 : Shape := ⟨2, ![64, 2048]⟩
abbrev S32x2048 : Shape := ⟨2, ![32, 2048]⟩
abbrev S2048x3072 : Shape := ⟨2, ![2048, 3072]⟩
abbrev S_ : Shape := ⟨0, ![]⟩
abbrev S1536x2048 : Shape := ⟨2, ![1536, 2048]⟩
abbrev S16384x2048 : Shape := ⟨2, ![16384, 2048]⟩
abbrev S1x2048 : Shape := ⟨2, ![1, 2048]⟩
abbrev S16384x4608 : Shape := ⟨2, ![16384, 4608]⟩
abbrev S512x4608 : Shape := ⟨2, ![512, 4608]⟩
abbrev S512 : Shape := ⟨1, ![512]⟩
abbrev S512x1 : Shape := ⟨2, ![512, 1]⟩
abbrev S512x3072 : Shape := ⟨2, ![512, 3072]⟩
abbrev S512x1536 : Shape := ⟨2, ![512, 1536]⟩

abbrev nBuf : Space → Nat
  | .hbm => 27
  | .vmem => 7
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x4448, .f32⟩
  | .hbm, ⟨3, _⟩ => ⟨S2048x1376, .f32⟩
  | .hbm, ⟨4, _⟩ => ⟨S1376x2048, .f32⟩
  | .hbm, ⟨5, _⟩ => ⟨S128x2048, .f32⟩
  | .hbm, ⟨6, _⟩ => ⟨S160x2048, .f32⟩
  | .hbm, ⟨7, _⟩ => ⟨S512x2048, .f32⟩
  | .hbm, ⟨8, _⟩ => ⟨S512x2048, .f32⟩
  | .hbm, ⟨9, _⟩ => ⟨S64x2048, .f32⟩
  | .hbm, ⟨10, _⟩ => ⟨S32x2048, .f32⟩
  | .hbm, ⟨11, _⟩ => ⟨S32x2048, .f32⟩
  | .hbm, ⟨12, _⟩ => ⟨S32x2048, .f32⟩
  | .hbm, ⟨13, _⟩ => ⟨S64x2048, .f32⟩
  | .hbm, ⟨14, _⟩ => ⟨S2048x3072, .f32⟩
  | .hbm, ⟨15, _⟩ => ⟨S2048x3072, .bf16⟩
  | .hbm, ⟨16, _⟩ => ⟨S128x2048, .f32⟩
  | .hbm, ⟨17, _⟩ => ⟨S32x2048, .f32⟩
  | .hbm, ⟨18, _⟩ => ⟨S_, .f32⟩
  | .hbm, ⟨19, _⟩ => ⟨S32x2048, .f32⟩
  | .hbm, ⟨20, _⟩ => ⟨S_, .f32⟩
  | .hbm, ⟨21, _⟩ => ⟨S64x2048, .f32⟩
  | .hbm, ⟨22, _⟩ => ⟨S1536x2048, .f32⟩
  | .hbm, ⟨23, _⟩ => ⟨S1536x2048, .bf16⟩
  | .hbm, ⟨24, _⟩ => ⟨S16384x2048, .f32⟩
  | .hbm, ⟨25, _⟩ => ⟨S1x2048, .f32⟩
  | .hbm, ⟨26, _⟩ => ⟨S16384x4608, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3072, .bf16⟩
  | .local _ .vmem, ⟨4, _⟩ => ⟨S1536x2048, .bf16⟩
  | .local _ .vmem, ⟨5, _⟩ => ⟨S512x4608, .f32⟩
  | .local _ .vmem, ⟨6, _⟩ => ⟨S512x4608, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4608 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjReferenceIdeal.lean ====
abbrev S8x2048x2048 : Shape := ⟨3, ![8, 2048, 2048]⟩
abbrev S2048 : Shape := ⟨1, ![2048]⟩
abbrev S2048x4448 : Shape := ⟨2, ![2048, 4448]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x4448 : Shape := ⟨3, ![8, 2048, 4448]⟩
abbrev S8x2048x3072 : Shape := ⟨3, ![8, 2048, 3072]⟩
abbrev S8x2048x128 : Shape := ⟨3, ![8, 2048, 128]⟩
abbrev S8x2048x160 : Shape := ⟨3, ![8, 2048, 160]⟩
abbrev S8x2048x512 : Shape := ⟨3, ![8, 2048, 512]⟩
abbrev S8x2048x64 : Shape := ⟨3, ![8, 2048, 64]⟩
abbrev S8x2048x32 : Shape := ⟨3, ![8, 2048, 32]⟩
abbrev S8x2048x4608 : Shape := ⟨3, ![8, 2048, 4608]⟩
abbrev S16384x4608 : Shape := ⟨2, ![16384, 4608]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x4448, .f32⟩
  | .hbm, ⟨3, _⟩ => ⟨S8x2048x2048, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S1x1x2048, .f32⟩
  | .hbm, ⟨17, _⟩ => ⟨S8x2048x2048, .f32⟩
  | .hbm, ⟨18, _⟩ => ⟨S8x2048x2048, .f32⟩
  | .hbm, ⟨19, _⟩ => ⟨S8x2048x4448, .f32⟩
  | .hbm, ⟨20, _⟩ => ⟨S8x2048x3072, .f32⟩
  | .hbm, ⟨21, _⟩ => ⟨S8x2048x128, .f32⟩
  | .hbm, ⟨22, _⟩ => ⟨S8x2048x160, .f32⟩
  | .hbm, ⟨23, _⟩ => ⟨S8x2048x512, .f32⟩
  | .hbm, ⟨24, _⟩ => ⟨S8x2048x512, .f32⟩
  | .hbm, ⟨25, _⟩ => ⟨S8x2048x64, .f32⟩
  | .hbm, ⟨26, _⟩ => ⟨S8x2048x32, .f32⟩
  | .hbm, ⟨27, _⟩ => ⟨S8x2048x32, .f32⟩
  | .hbm, ⟨28, _⟩ => ⟨S8x2048x32, .f32⟩
  | .hbm, ⟨29, _⟩ => ⟨S8x2048x64, .f32⟩
  | .hbm, ⟨30, _⟩ => ⟨S8x2048x128, .f32⟩
  | .hbm, ⟨31, _⟩ => ⟨S8x2048x32, .f32⟩
  | .hbm, ⟨32, _⟩ => ⟨S_, .f32⟩
  | .hbm, ⟨33, _⟩ => ⟨S8x2048x32, .f32⟩
  | .hbm, ⟨34, _⟩ => ⟨S_, .f32⟩
  | .hbm, ⟨35, _⟩ => ⟨S8x2048x64, .f32⟩
  | .hbm, ⟨36, _⟩ => ⟨S8x2048x4608, .f32⟩
  | .hbm, ⟨37, _⟩ => ⟨S16384x4608, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Out.lean ====
abbrev S8x2048x1024 : Shape := ⟨3, ![8, 2048, 1024]⟩
abbrev S2048x2048 : Shape := ⟨2, ![2048, 2048]⟩
abbrev S8x2048x2048 : Shape := ⟨3, ![8, 2048, 2048]⟩
abbrev S2048 : Shape := ⟨1, ![2048]⟩
abbrev S16384x1024 : Shape := ⟨2, ![16384, 1024]⟩
abbrev S16384x2048 : Shape := ⟨2, ![16384, 2048]⟩
abbrev S1x2048 : Shape := ⟨2, ![1, 2048]⟩
abbrev S512x1024 : Shape := ⟨2, ![512, 1024]⟩
abbrev S512x2048 : Shape := ⟨2, ![512, 2048]⟩
abbrev S3x512x2048 : Shape := ⟨3, ![3, 512, 2048]⟩
abbrev S3 : Shape := ⟨1, ![3]⟩
abbrev S1 : Shape := ⟨1, ![1]⟩
abbrev S_ : Shape := ⟨0, ![]⟩
abbrev S1x512x2048 : Shape := ⟨3, ![1, 512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S2048x2048, .f32⟩
  | .hbm, ⟨3, _⟩ => ⟨S8x2048x2048, .f32⟩
  | .hbm, ⟨4, _⟩ => ⟨S2048, .f32⟩
  | .hbm, ⟨5, _⟩ => ⟨S16384x1024, .f32⟩
  | .hbm, ⟨6, _⟩ => ⟨S16384x1024, .bf16⟩
  | .hbm, ⟨7, _⟩ => ⟨S16384x1024, .f32⟩
  | .hbm, ⟨8, _⟩ => ⟨S16384x1024, .bf16⟩
  | .hbm, ⟨9, _⟩ => ⟨S2048x2048, .bf16⟩
  | .hbm, ⟨10, _⟩ => ⟨S16384x2048, .f32⟩
  | .hbm, ⟨11, _⟩ => ⟨S1x2048, .f32⟩
  | .hbm, ⟨12, _⟩ => ⟨S16384x2048, .f32⟩
  | .hbm, ⟨13, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S3x512x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c2_i32 : BitVec 32 := 2#32
  let v3 : BitVec 32 := Scalar.addi arg0 c2_i32
  let c32_i32 : BitVec 32 := 32#32
  let v4 : BitVec 1 := Scalar.cmpi .slt v3 c32_i32
  let v5 : BitVec 32 := Scalar.extui v4
  let c0_i32_1 : BitVec 32 := 0#32
  let v6 : BitVec 1 := Scalar.cmpi .ne v5 c0_i32_1
  v6

def k0_off1 (i : grid0.Coords) : Fin 1 → Nat :=
  let arg0 : BitVec 32 := BitVec.ofNat 32 (i 0).val
  let c2_i32_33 : BitVec 32 := 2#32
  let v65 : BitVec 32 := Scalar.addi arg0 c2_i32_33
  let c3_i32_34 : BitVec 32 := 3#32
  let c0_i32_35 : BitVec 32 := 0#32
  let v66 : BitVec 1 := Scalar.cmpi .eq c3_i32_34 c0_i32_35
  let c1_i32_36 : BitVec 32 := 1#32
  let v67 : BitVec 32 := Scalar.select v66 c1_i32_36 c3_i32_34
  let v68 : BitVec 32 := Scalar.remsi v65 v67
  let c0_i32_38 : BitVec 32 := 0#32
  let v70 : BitVec 1 := Scalar.cmpi .slt v68 c0_i32_38
  let c0_i32_39 : BitVec 32 := 0#32
  let v71 : BitVec 1 := Scalar.cmpi .slt v67 c0_i32_39
  let v72 : BitVec 1 := Scalar.xori v70 v71
  let c0_i32_37 : BitVec 32 := 0#32
  let v69 : BitVec 1 := Scalar.cmpi .ne v68 c0_i32_37
  let v73 : BitVec 1 := Scalar.andi v72 v69
  let v74 : BitVec 32 := Scalar.addi v68 v67
  let v75 : BitVec 32 := Scalar.select v73 v74 v68
  ![v75.toNat]
def k0_off2 (i : grid0.Coords) : Fin 3 → Nat :=
  let arg0 : BitVec 32 := BitVec.ofNat 32 (i 0).val
  let c2_i32_33 : BitVec 32 := 2#32
  let v65 : BitVec 32 := Scalar.addi arg0 c2_i32_33
  let c3_i32_34 : BitVec 32 := 3#32
  let c0_i32_35 : BitVec 32 := 0#32
  let v66 : BitVec 1 := Scalar.cmpi .eq c3_i32_34 c0_i32_35
  let c1_i32_36 : BitVec 32 := 1#32
  let v67 : BitVec 32 := Scalar.select v66 c1_i32_36 c3_i32_34
  let v68 : BitVec 32 := Scalar.remsi v65 v67
  let c0_i32_38 : BitVec 32 := 0#32
  let v70 : BitVec 1 := Scalar.cmpi .slt v68 c0_i32_38
  let c0_i32_39 : BitVec 32 := 0#32
  let v71 : BitVec 1 := Scalar.cmpi .slt v67 c0_i32_39
  let v72 : BitVec 1 := Scalar.xori v70 v71
  let c0_i32_37 : BitVec 32 := 0#32
  let v69 : BitVec 1 := Scalar.cmpi .ne v68 c0_i32_37
  let v73 : BitVec 1 := Scalar.andi v72 v69
  let v74 : BitVec 32 := Scalar.addi v68 v67
  let v75 : BitVec 32 := Scalar.select v73 v74 v68
  let c0_i32_41 : BitVec 32 := 0#32
  let c0_i32_42 : BitVec 32 := 0#32
  ![v75.toNat, 0, 0]
def k0_off3 (i : grid0.Coords) : Fin 2 → Nat :=
  let arg0 : BitVec 32 := BitVec.ofNat 32 (i 0).val
  let c2_i32_33 : BitVec 32 := 2#32
  let v65 : BitVec 32 := Scalar.addi arg0 c2_i32_33
  let c512_i32_40 : BitVec 32 := 512#32
  let v76 : BitVec 32 := Scalar.muli v65 c512_i32_40
  let c0_i32_43 : BitVec 32 := 0#32
  ![v76.toNat, 0]
def k0_off4 (i : grid0.Coords) : Fin 1 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  ![v16.toNat]
def k0_off5 (i : grid0.Coords) : Fin 3 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_6 : BitVec 32 := 0#32
  let c0_i32_7 : BitVec 32 := 0#32
  ![v16.toNat, 0, 0]
def k0_off6 (i : grid0.Coords) : Fin 2 → Nat :=
  let arg0 : BitVec 32 := BitVec.ofNat 32 (i 0).val
  let c512_i32 : BitVec 32 := 512#32
  let v17 : BitVec 32 := Scalar.muli arg0 c512_i32
  let c0_i32_8 : BitVec 32 := 0#32
  ![v17.toNat, 0]
def k0_off7 (i : grid0.Coords) : Fin 3 → Nat :=
  let arg0 : BitVec 32 := BitVec.ofNat 32 (i 0).val
  let c3_i32_9 : BitVec 32 := 3#32
  let c0_i32_10 : BitVec 32 := 0#32
  let v23 : BitVec 1 := Scalar.cmpi .eq c3_i32_9 c0_i32_10
  let c1_i32_11 : BitVec 32 := 1#32
  let v24 : BitVec 32 := Scalar.select v23 c1_i32_11 c3_i32_9
  let v25 : BitVec 32 := Scalar.remsi arg0 v24
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let c0_i32_12 : BitVec 32 := 0#32
  let v26 : BitVec 1 := Scalar.cmpi .ne v25 c0_i32_12
  let v30 : BitVec 1 := Scalar.andi v29 v26
  let v31 : BitVec 32 := Scalar.addi v25 v24
  let v32 : BitVec 32 := Scalar.select v30 v31 v25
  let v33 : Index := Scalar.indexCast v32
  let c0 : Index := 0#32
  let c0_15 : Index := 0#32
  ![v33.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutReferenceIdeal.lean ====
abbrev S8x2048x1024 : Shape := ⟨3, ![8, 2048, 1024]⟩
abbrev S2048x2048 : Shape := ⟨2, ![2048, 2048]⟩
abbrev S8x2048x2048 : Shape := ⟨3, ![8, 2048, 2048]⟩
abbrev S2048 : Shape := ⟨1, ![2048]⟩
abbrev S16384x2048 : Shape := ⟨2, ![16384, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S2048x2048, .f32⟩
  | .hbm, ⟨3, _⟩ => ⟨S8x2048x2048, .f32⟩
  | .hbm, ⟨4, _⟩ => ⟨S2048, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .hbm, ⟨8, _⟩ => ⟨S16384x2048, .f32⟩
  | .hbm, ⟨9, _⟩ => ⟨S8x2048x2048, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S1x1x2048, .f32⟩
  | .hbm, ⟨23, _⟩ => ⟨S8x2048x2048, .f32⟩
  | .hbm, ⟨24, _⟩ => ⟨S8x2048x2048, .f32⟩
  | .hbm, ⟨25, _⟩ => ⟨S16384x2048, .f32⟩
  | .hbm, ⟨26, _⟩ => ⟨S16384x2048, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Mla.lean ====
abbrev S8x2048x512 : Shape := ⟨3, ![8, 2048, 512]⟩
abbrev S8x2048x64 : Shape := ⟨3, ![8, 2048, 64]⟩
abbrev S8x2048 : Shape := ⟨2, ![8, 2048]⟩
abbrev S512 : Shape := ⟨1, ![512]⟩
abbrev S512x1536 : Shape := ⟨2, ![512, 1536]⟩
abbrev S512x2048 : Shape := ⟨2, ![512, 2048]⟩
abbrev S16384x64 : Shape := ⟨2, ![16384, 64]⟩
abbrev S_ : Shape := ⟨0, ![]⟩
abbrev S16384x3072 : Shape := ⟨2, ![16384, 3072]⟩
abbrev S16384x512 : Shape := ⟨2, ![16384, 512]⟩
abbrev S16384x256 : Shape := ⟨2, ![16384, 256]⟩
abbrev S16384x32 : Shape := ⟨2, ![16384, 32]⟩
abbrev S16384x4608 : Shape := ⟨2, ![16384, 4608]⟩
abbrev S32 : Shape := ⟨1, ![32]⟩
abbrev S64 : Shape := ⟨1, ![64]⟩
abbrev S128 : Shape := ⟨1, ![128]⟩
abbrev S1x128 : Shape := ⟨2, ![1, 128]⟩
abbrev S512x8x192 : Shape := ⟨3, ![512, 8, 192]⟩
abbrev S512x8x64 : Shape := ⟨3, ![512, 8, 64]⟩
abbrev S512x8x128 : Shape := ⟨3, ![512, 8, 128]⟩
abbrev S512x8x256 : Shape := ⟨3, ![512, 8, 256]⟩
abbrev S512x8x32 : Shape := ⟨3, ![512, 8, 32]⟩
abbrev S512x1024 : Shape := ⟨2, ![512, 1024]⟩
abbrev S16384x1 : Shape := ⟨2, ![16384, 1]⟩
abbrev S1x512 : Shape := ⟨2, ![1, 512]⟩
abbrev S16384x2048 : Shape := ⟨2, ![16384, 2048]⟩
abbrev S1152x16384 : Shape := ⟨2, ![1152, 16384]⟩
abbrev S512x512 : Shape := ⟨2, ![512, 512]⟩
abbrev S512x1 : Shape := ⟨2, ![512, 1]⟩
abbrev S1152x512 : Shape := ⟨2, ![1152, 512]⟩
abbrev S512x128 : Shape := ⟨2, ![512, 128]⟩
abbrev S16x512 : Shape := ⟨2, ![16, 512]⟩
abbrev S128x512 : Shape := ⟨2, ![128, 512]⟩

abbrev nBuf : Space → Nat
  | .hbm => 62
  | .vmem => 20
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x64, .f32⟩
  | .hbm, ⟨3, _⟩ => ⟨S8x2048, .i32⟩
  | .hbm, ⟨4, _⟩ => ⟨S512, .f32⟩
  | .hbm, ⟨5, _⟩ => ⟨S512x1536, .f32⟩
  | .hbm, ⟨6, _⟩ => ⟨S512, .f32⟩
  | .hbm, ⟨7, _⟩ => ⟨S512x2048, .f32⟩
  | .hbm, ⟨8, _⟩ => ⟨S16384x64, .f32⟩
  | .hbm, ⟨9, _⟩ => ⟨S_, .f32⟩
  | .hbm, ⟨10, _⟩ => ⟨S16384x3072, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x256, .f32⟩
  | .hbm, ⟨15, _⟩ => ⟨S_, .f32⟩
  | .hbm, ⟨16, _⟩ => ⟨S16384x64, .f32⟩
  | .hbm, ⟨17, _⟩ => ⟨S16384x32, .f32⟩
  | .hbm, ⟨18, _⟩ => ⟨S16384x32, .f32⟩
  | .hbm, ⟨19, _⟩ => ⟨S16384x32, .f32⟩
  | .hbm, ⟨20, _⟩ => ⟨S_, .f32⟩
  | .hbm, ⟨21, _⟩ => ⟨S16384x64, .f32⟩
  | .hbm, ⟨22, _⟩ => ⟨S16384x4608, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S64, .f32⟩
  | .hbm, ⟨33, _⟩ => ⟨S128, .f32⟩
  | .hbm, ⟨34, _⟩ => ⟨S1x128, .f32⟩
  | .hbm, ⟨35, _⟩ => ⟨S512x8x192, .f32⟩
  | .hbm, ⟨36, _⟩ => ⟨S512x8x64, .f32⟩
  | .hbm, ⟨37, _⟩ => ⟨S_, .f32⟩
  | .hbm, ⟨38, _⟩ => ⟨S512x8x64, .f32⟩
  | .hbm, ⟨39, _⟩ => ⟨S512x8x128, .f32⟩
  | .hbm, ⟨40, _⟩ => ⟨S512x8x256, .f32⟩
  | .hbm, ⟨41, _⟩ => ⟨S512x2048, .f32⟩
  | .hbm, ⟨42, _⟩ => ⟨S512x8x32, .f32⟩
  | .hbm, ⟨43, _⟩ => ⟨S512x8x32, .f32⟩
  | .hbm, ⟨44, _⟩ => ⟨S512x8x32, .f32⟩
  | .hbm, ⟨45, _⟩ => ⟨S512x8x128, .f32⟩
  | .hbm, ⟨46, _⟩ => ⟨S512x1024, .f32⟩
  | .hbm, ⟨47, _⟩ => ⟨S512x2048, .bf16⟩
  | .hbm, ⟨48, _⟩ => ⟨S512x1024, .bf16⟩
  | .hbm, ⟨49, _⟩ => ⟨S16384x1, .i32⟩
  | .hbm, ⟨50, _⟩ => ⟨S1x512, .f32⟩
  | .hbm, ⟨51, _⟩ => ⟨S1x512, .f32⟩
  | .hbm, ⟨52, _⟩ => ⟨S512x8x256, .f32⟩
  | .hbm, ⟨53, _⟩ => ⟨S512x8x128, .f32⟩
  | .hbm, ⟨54, _⟩ => ⟨S512x1024, .f32⟩
  | .hbm, ⟨55, _⟩ => ⟨S512x8x128, .f32⟩
  | .hbm, ⟨56, _⟩ => ⟨S512x1024, .f32⟩
  | .hbm, ⟨57, _⟩ => ⟨S512x2048, .f32⟩
  | .hbm, ⟨58, _⟩ => ⟨S512x2048, .bf16⟩
  | .hbm, ⟨59, _⟩ => ⟨S16384x2048, .bf16⟩
  | .hbm, ⟨60, _⟩ => ⟨S16384x2048, .bf16⟩
  | .hbm, ⟨61, _⟩ => ⟨S1152x16384, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1, .i32⟩
  | .local _ .vmem, ⟨7, _⟩ => ⟨S512x1, .i32⟩
  | .local _ .vmem, ⟨8, _⟩ => ⟨S1x128, .f32⟩
  | .local _ .vmem, ⟨9, _⟩ => ⟨S1x512, .f32⟩
  | .local _ .vmem, ⟨10, _⟩ => ⟨S1x512, .f32⟩
  | .local _ .vmem, ⟨11, _⟩ => ⟨S512x2048, .bf16⟩
  | .local _ .vmem, ⟨12, _⟩ => ⟨S512x1024, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S1152x512, .bf16⟩
  | .local _ .vmem, ⟨19, _⟩ => ⟨S1152x512, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43_0 : Ref sig .tc := ⟨.hbm, 59, rfl⟩
abbrev main_v43_1 : Ref sig .tc := ⟨.hbm, 60, rfl⟩
abbrev main_v43_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1152x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MlaIdeal.lean ====
variable {F : FTy → Type} [FloatOps F] [Named F]
def κ : String → Option EReal := fun
  | "scale" => some ((((Real.sqrt 192) * (Real.log 2))⁻¹ : ℝ) : EReal)
  | _ => none
-- ==== MlaReferenceIdeal.lean ====
abbrev S8x2048x512 : Shape := ⟨3, ![8, 2048, 512]⟩
abbrev S8x2048x64 : Shape := ⟨3, ![8, 2048, 64]⟩
abbrev S8x2048 : Shape := ⟨2, ![8, 2048]⟩
abbrev S512 : Shape := ⟨1, ![512]⟩
abbrev S512x1536 : Shape := ⟨2, ![512, 1536]⟩
abbrev S512x2048 : Shape := ⟨2, ![512, 2048]⟩
abbrev S_ : Shape := ⟨0, ![]⟩
abbrev S8x2048x1 : Shape := ⟨3, ![8, 2048, 1]⟩
abbrev S1x1x512 : Shape := ⟨3, ![1, 1, 512]⟩
abbrev S8x2048x1536 : Shape := ⟨3, ![8, 2048, 1536]⟩
abbrev S8x2048x8x192 : Shape := ⟨4, ![8, 2048, 8, 192]⟩
abbrev S8x2048x8x128 : Shape := ⟨4, ![8, 2048, 8, 128]⟩
abbrev S8x2048x8x64 : Shape := ⟨4, ![8, 2048, 8, 64]⟩
abbrev S32 : Shape := ⟨1, ![32]⟩
abbrev S1x1x32 : Shape := ⟨3, ![1, 1, 32]⟩
abbrev S8x2048x32 : Shape := ⟨3, ![8, 2048, 32]⟩
abbrev S8x2048x1x32 : Shape := ⟨4, ![8, 2048, 1, 32]⟩
abbrev S8x2048x8x32 : Shape := ⟨4, ![8, 2048, 8, 32]⟩
abbrev S8x2048x2048 : Shape := ⟨3, ![8, 2048, 2048]⟩
abbrev S8x2048x8x256 : Shape := ⟨4, ![8, 2048, 8, 256]⟩
abbrev S16384x2048 : Shape := ⟨2, ![16384, 2048]⟩
abbrev S8x2048x1x64 : Shape := ⟨4, ![8, 2048, 1, 64]⟩
abbrev S8x2048x8x16 : Shape := ⟨4, ![8, 2048, 8, 16]⟩
abbrev S8x2048x8x144 : Shape := ⟨4, ![8, 2048, 8, 144]⟩
abbrev S16384x1152 : Shape := ⟨2, ![16384, 1152]⟩
abbrev S1152x16384 : Shape := ⟨2, ![1152, 16384]⟩

abbrev nBuf : Space → Nat
  | .hbm => 130
  | .vmem => 0
  | .smem => 0
  | _ => 0

abbrev hbmTy0_0 (i : Nat) : BufTy := match i % 128 with
  | 0 => ⟨S8x2048x512, .f32⟩
  | 1 => ⟨S8x2048x512, .f32⟩
  | 2 => ⟨S8x2048x64, .f32⟩
  | 3 => ⟨S8x2048, .i32⟩
  | 4 => ⟨S512, .f32⟩
  | 5 => ⟨S512x1536, .f32⟩
  | 6 => ⟨S512, .f32⟩
  | 7 => ⟨S512x2048, .f32⟩
  | 8 => ⟨S8x2048x512, .f32⟩
  | 9 => ⟨S_, .f32⟩
  | 10 => ⟨S8x2048, .f32⟩
  | 11 => ⟨S8x2048x1, .f32⟩
  | 12 => ⟨S_, .f32⟩
  | 13 => ⟨S8x2048x1, .f32⟩
  | 14 => ⟨S8x2048x1, .f32⟩
  | 15 => ⟨S_, .f32⟩
  | 16 => ⟨S8x2048x1, .f32⟩
  | 17 => ⟨S8x2048x1, .f32⟩
  | 18 => ⟨S8x2048x1, .f32⟩
  | 19 => ⟨S8x2048x512, .f32⟩
  | 20 => ⟨S8x2048x512, .f32⟩
  | 21 => ⟨S1x1x512, .f32⟩
  | 22 => ⟨S8x2048x512, .f32⟩
  | 23 => ⟨S8x2048x512, .f32⟩
  | 24 => ⟨S8x2048x1536, .f32⟩
  | 25 => ⟨S8x2048x8x192, .f32⟩
  | 26 => ⟨S8x2048x8x128, .f32⟩
  | 27 => ⟨S8x2048x8x64, .f32⟩
  | 28 => ⟨S32, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S8x2048, .f32⟩
  | 37 => ⟨S8x2048x1, .f32⟩
  | 38 => ⟨S1x1x32, .f32⟩
  | 39 => ⟨S8x2048x32, .f32⟩
  | 40 => ⟨S8x2048x32, .f32⟩
  | 41 => ⟨S8x2048x32, .f32⟩
  | 42 => ⟨S8x2048x1x32, .f32⟩
  | 43 => ⟨S8x2048x1x32, .f32⟩
  | 44 => ⟨S8x2048x1x32, .f32⟩
  | 45 => ⟨S8x2048x8x32, .f32⟩
  | 46 => ⟨S8x2048x8x32, .f32⟩
  | 47 => ⟨S8x2048x8x32, .f32⟩
  | 48 => ⟨S8x2048x8x32, .f32⟩
  | 49 => ⟨S8x2048x8x32, .f32⟩
  | 50 => ⟨S8x2048x8x32, .f32⟩
  | 51 => ⟨S8x2048x8x32, .f32⟩
  | 52 => ⟨S8x2048x8x32, .f32⟩
  | 53 => ⟨S8x2048x8x32, .f32⟩
  | 54 => ⟨S8x2048x8x32, .f32⟩
  | 55 => ⟨S8x2048x8x32, .f32⟩
  | 56 => ⟨S8x2048x8x32, .f32⟩
  | 57 => ⟨S8x2048x8x64, .f32⟩
  | 58 => ⟨S8x2048x512, .f32⟩
  | 59 => ⟨S_, .f32⟩
  | 60 => ⟨S8x2048, .f32⟩
  | 61 => ⟨S8x2048x1, .f32⟩
  | 62 => ⟨S_, .f32⟩
  | 63 => ⟨S8x2048x1, .f32⟩
  | 64 => ⟨S8x2048x1, .f32⟩
  | 65 => ⟨S_, .f32⟩
  | 66 => ⟨S8x2048x1, .f32⟩
  | 67 => ⟨S8x2048x1, .f32⟩
  | 68 => ⟨S8x2048x1, .f32⟩
  | 69 => ⟨S8x2048x512, .f32⟩
  | 70 => ⟨S8x2048x512, .f32⟩
  | 71 => ⟨S1x1x512, .f32⟩
  | 72 => ⟨S8x2048x512, .f32⟩
  | 73 => ⟨S8x2048x512, .f32⟩
  | 74 => ⟨S8x2048x2048, .f32⟩
  | 75 => ⟨S8x2048x8x256, .f32⟩
  | 76 => ⟨S8x2048x8x128, .f32⟩
  | 77 => ⟨S8x2048x8x128, .f32⟩
  | 78 => ⟨S32, .f32⟩
  | 79 => ⟨S32, .f32⟩
  | 80 => ⟨S_, .f32⟩
  | 81 => ⟨S32, .f32⟩
  | 82 => ⟨S32, .f32⟩
  | 83 => ⟨S_, .f32⟩
  | 84 => ⟨S32, .f32⟩
  | 85 => ⟨S32, .f32⟩
  | 86 => ⟨S8x2048, .f32⟩
  | 87 => ⟨S8x2048x1, .f32⟩
  | 88 => ⟨S1x1x32, .f32⟩
  | 89 => ⟨S8x2048x32, .f32⟩
  | 90 => ⟨S8x2048x32, .f32⟩
  | 91 => ⟨S8x2048x32, .f32⟩
  | 92 => ⟨S8x2048x32, .f32⟩
  | 93 => ⟨S8x2048x32, .f32⟩
  | 94 => ⟨S8x2048x32, .f32⟩
  | 95 => ⟨S8x2048x32, .f32⟩
  | 96 => ⟨S8x2048x32, .f32⟩
  | 97 => ⟨S8x2048x32, .f32⟩
  | 98 => ⟨S8x2048x32, .f32⟩
  | 99 => ⟨S8x2048x32, .f32⟩
  | 100 => ⟨S8x2048x32, .f32⟩
  | 101 => ⟨S8x2048x32, .f32⟩
  | 102 => ⟨S8x2048x64, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S8x2048x8x64, .f32⟩
  | 112 => ⟨S8x2048x8x128, .f32⟩
  | 113 => ⟨S8x2048x8x128, .f32⟩
  | 114 => ⟨S8x2048x8x64, .f32⟩
  | 115 => ⟨S8x2048x8x64, .f32⟩
  | 116 => ⟨S8x2048x8x256, .f32⟩
  | 117 => ⟨S16384x2048, .f32⟩
  | 118 => ⟨S8x2048x1x64, .f32⟩
  | 119 => ⟨S8x2048x8x64, .f32⟩
  | 120 => ⟨S8x2048x8x256, .f32⟩
  | 121 => ⟨S16384x2048, .f32⟩
  | 122 => ⟨S_, .f32⟩
  | 123 => ⟨S8x2048x8x16, .f32⟩
  | 124 => ⟨S8x2048x8x144, .f32⟩
  | 125 => ⟨S16384x1152, .f32⟩
  | 126 => ⟨S1152x16384, .f32⟩
  | 127 => ⟨S16384x2048, .bf16⟩
  | _ => ⟨S8x2048x512, .f32⟩

abbrev hbmTy0_1 (i : Nat) : BufTy := match i % 128 with
  | 0 => ⟨S16384x2048, .bf16⟩
  | 1 => ⟨S1152x16384, .bf16⟩
  | _ => ⟨S8x2048x512, .f32⟩

abbrev hbmTy (i : Nat) : BufTy := match i / 128 with
  | 0 => hbmTy0_0 i
  | 1 => hbmTy0_1 i
  | _ => ⟨S8x2048x512, .f32⟩

abbrev bufTy : (tb : Table) → Fin (tcTables nBuf tb) → BufTy
  | .hbm, ⟨i, _⟩ => hbmTy i
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_7 : Ref sig .tc := ⟨.hbm, 80, rfl⟩
abbrev main_v64 : Ref sig .tc := ⟨.hbm, 81, rfl⟩
abbrev main_v65 : Ref sig .tc := ⟨.hbm, 82, rfl⟩
abbrev main_cst_8 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_9 : Ref sig .tc := ⟨.hbm, 103, rfl⟩
abbrev main_v85 : Ref sig .tc := ⟨.hbm, 104, rfl⟩
abbrev main_cst_10 : Ref sig .tc := ⟨.hbm, 105, rfl⟩
abbrev main_v86 : Ref sig .tc := ⟨.hbm, 106, rfl⟩
abbrev main_v87 : Ref sig .tc := ⟨.hbm, 107, rfl⟩
abbrev main_cst_11 : Ref sig .tc := ⟨.hbm, 108, rfl⟩
abbrev main_v88 : Ref sig .tc := ⟨.hbm, 109, rfl⟩
abbrev main_cst_12 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_cst_13 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩

abbrev nD : Nat := 1
abbrev τ : Topo := Topo.v7x

variable {F : FTy → Type} [FloatOps F]
-- ==== Proof.Attn.Ops.lean ====
module

public import proofs.«01_k».proof.Proof.Gen.KernelIdeal.Value
public import Idealize.ShloMosaic.Lib.ValueIdx
public import Idealize.ShloMosaic.Lib.Pointwise

/-! The attention kernel's arithmetic for one head, as the operations of its body: the scores of a block of
keys, the running maximum, the weights, and the accumulator, for a full block and for the diagonal block. -/

@[expose] public section

noncomputable section
namespace Cert.KernelIdeal.Attn
open Cert.KernelIdeal Cert.KernelIdeal.Gen Idealize.ShloMosaic Idealize.ShloMosaic.TcCoe Idealize.SL.Sem

variable {F : FTy → Type} [FloatOps F] [Named F]

/-- The scores of 512 keys (rows) against 512 queries (columns). -/
def scores (k q : Vec F S512x256 .bf16) : FVec F S512x512 .f32 :=
  matmul dot_S512x256_S512x256_S512x512_1_1_0_0_n_n none
    (shapeCast S512x256 k shapeCasts_S512x256_S512x256 : FVec F S512x256 .bf16)
    (shapeCast S512x256 q shapeCasts_S512x256_S512x256 : FVec F S512x256 .bf16)
    (constant S512x512 .f32 0x00000000#32)

/-- The running maximum after a full block of scores. -/
def rowMax (m : FVec F S1x512 .f32) (s : FVec F S512x512 .f32) : FVec F S1x512 .f32 :=
  maximumf m (shapeCast S1x512
    (multiReduction .maximumf [0] S512 s 0xFF800000#32 reduces_S512x512_S512 (.inl rfl) rfl : FVec F S512 .f32)
    shapeCasts_S512_S1x512)

/-- One chunk of 64 rows of weights, from its slice of the scores. -/
def chunk (x : FVec F S64x512 .f32) (m : FVec F S1x512 .f32) : FVec F S64x512 .bf16 :=
  truncf .bf16 (exp2 (subf x (broadcastTo S64x512 m broadcasts_S1x512_S64x512))) bitsLt_bf16_f32

/-- One chunk of 64 rows of weights of the second half's 256 queries. -/
def chunkB (x : FVec F S64x256 .f32) (m : FVec F S1x256 .f32) : FVec F S64x256 .bf16 :=
  truncf .bf16 (exp2 (subf x (broadcastTo S64x256 m broadcasts_S1x256_S64x256))) bitsLt_bf16_f32

/-- The weights of a full block, eight chunks of 64 rows. -/
def weights (s : FVec F S512x512 .f32) (m : FVec F S1x512 .f32) : FVec F S512x512 .bf16 :=
  concatenate S512x512 0
    [⟨S64x512, chunk (extractStridedSlice S64x512 ![0, 0] s slices_S512x512_o0_0_S64x512) m⟩,
     ⟨S64x512, chunk (extractStridedSlice S64x512 ![64, 0] s slices_S512x512_o64_0_S64x512) m⟩,
     ⟨S64x512, chunk (extractStridedSlice S64x512 ![128, 0] s slices_S512x512_o128_0_S64x512) m⟩,
     ⟨S64x512, chunk (extractStridedSlice S64x512 ![192, 0] s slices_S512x512_o192_0_S64x512) m⟩,
     ⟨S64x512, chunk (extractStridedSlice S64x512 ![256, 0] s slices_S512x512_o256_0_S64x512) m⟩,
     ⟨S64x512, chunk (extractStridedSlice S64x512 ![320, 0] s slices_S512x512_o320_0_S64x512) m⟩,
     ⟨S64x512, chunk (extractStridedSlice S64x512 ![384, 0] s slices_S512x512_o384_0_S64x512) m⟩,
     ⟨S64x512, chunk (extractStridedSlice S64x512 ![448, 0] s slices_S512x512_o448_0_S64x512) m⟩]
    concatenates_S64x512_S64x512_S64x512_S64x512_S64x512_S64x512_S64x512_S64x512_S512x512_d0

/-- The accumulator after a full block: the old one rescaled plus values times weights. -/
def accum (m m' : FVec F S1x512 .f32) (s : FVec F S512x512 .f32) (a : FVec F S144x512 .f32) (v : Vec F S144x512 .bf16) :
    FVec F S144x512 .f32 :=
  addf (mulf (broadcastTo S144x512 (exp2 (subf m m')) broadcasts_S1x512_S144x512) a)
    (matmul dot_S144x512_S512x512_S144x512_1_0_0_1_n_n none
      (shapeCast S144x512 v shapeCasts_S144x512_S144x512 : FVec F S144x512 .bf16) (weights s m')
      (constant S144x512 .f32 0x00000000#32))

/-- The first 256 keys of the diagonal block against its 512 queries, masked. -/
def scoresA (k : Vec F S256x256 .bf16) (q : Vec F S512x256 .bf16) : FVec F S256x512 .f32 :=
  select k0_pay102
    (matmul dot_S256x256_S512x256_S256x512_1_1_0_0_n_n none
      (shapeCast S256x256 k shapeCasts_S256x256_S256x256 : FVec F S256x256 .bf16)
      (shapeCast S512x256 q shapeCasts_S512x256_S512x256 : FVec F S512x256 .bf16)
      (constant S256x512 .f32 0x00000000#32))
    (broadcast S256x512 (Named.named κ "mask" 0xF149F2CA#32))

/-- The last 256 keys of the diagonal block against its last 256 queries, masked. -/
def scoresB (k q : Vec F S256x256 .bf16) : FVec F S256x256 .f32 :=
  select k0_pay103
    (matmul dot_S256x256_S256x256_S256x256_1_1_0_0_n_n none
      (shapeCast S256x256 k shapeCasts_S256x256_S256x256 : FVec F S256x256 .bf16)
      (shapeCast S256x256 q shapeCasts_S256x256_S256x256 : FVec F S256x256 .bf16)
      (constant S256x256 .f32 0x00000000#32))
    (broadcast S256x256 (Named.named κ "mask" 0xF149F2CA#32))

/-- The column maxima of the diagonal block's two score blocks. -/
def diagTop (sa : FVec F S256x512 .f32) (sb : FVec F S256x256 .f32) : FVec F S1x512 .f32 :=
  have t : FVec F S1x512 .f32 := shapeCast S1x512
    (multiReduction .maximumf [0] S512 sa 0xFF800000#32 reduces_S256x512_S512 (.inl rfl) rfl : FVec F S512 .f32) shapeCasts_S512_S1x512
  have u : FVec F S1x256 .f32 := shapeCast S1x256
    (multiReduction .maximumf [0] S256 sb 0xFF800000#32 reduces_S256x256_S256 (.inl rfl) rfl : FVec F S256 .f32) shapeCasts_S256_S1x256
  concatenate S1x512 1
    [⟨S1x256, extractStridedSlice S1x256 ![0, 0] t slices_S1x512_o0_0_S1x256⟩,
     ⟨S1x256, maximumf (extractStridedSlice S1x256 ![0, 256] t slices_S1x512_o0_256_S1x256) u⟩]
    concatenates_S1x256_S1x256_S1x512_d1

/-- The diagonal block's first weights, four chunks of 64 rows. -/
def weightsA (s : FVec F S256x512 .f32) (m : FVec F S1x512 .f32) : FVec F S256x512 .bf16 :=
  concatenate S256x512 0
    [⟨S64x512, chunk (extractStridedSlice S64x512 ![0, 0] s slices_S256x512_o0_0_S64x512) m⟩,
     ⟨S64x512, chunk (extractStridedSlice S64x512 ![64, 0] s slices_S256x512_o64_0_S64x512) m⟩,
     ⟨S64x512, chunk (extractStridedSlice S64x512 ![128, 0] s slices_S256x512_o128_0_S64x512) m⟩,
     ⟨S64x512, chunk (extractStridedSlice S64x512 ![192, 0] s slices_S256x512_o192_0_S64x512) m⟩]
    concatenates_S64x512_S64x512_S64x512_S64x512_S256x512_d0

/-- The diagonal block's second weights, four chunks of 64 rows. -/
def weightsB (s : FVec F S256x256 .f32) (m : FVec F S1x512 .f32) : FVec F S256x256 .bf16 :=
  have h : FVec F S1x256 .f32 := extractStridedSlice S1x256 ![0, 256] m slices_S1x512_o0_256_S1x256
  concatenate S256x256 0
    [⟨S64x256, chunkB (extractStridedSlice S64x256 ![0, 0] s slices_S256x256_o0_0_S64x256) h⟩,
     ⟨S64x256, chunkB (extractStridedSlice S64x256 ![64, 0] s slices_S256x256_o64_0_S64x256) h⟩,
     ⟨S64x256, chunkB (extractStridedSlice S64x256 ![128, 0] s slices_S256x256_o128_0_S64x256) h⟩,
     ⟨S64x256, chunkB (extractStridedSlice S64x256 ![192, 0] s slices_S256x256_o192_0_S64x256) h⟩]
    concatenates_S64x256_S64x256_S64x256_S64x256_S256x256_d0

/-- The accumulator after the diagonal block. -/
def accumD (m m' : FVec F S1x512 .f32) (sa : FVec F S256x512 .f32) (sb : FVec F S256x256 .f32) (a : FVec F S144x512 .f32)
    (va vb : Vec F S144x256 .bf16) : FVec F S144x512 .f32 :=
  have x : FVec F S144x512 .f32 :=
    addf (mulf (broadcastTo S144x512 (exp2 (subf m m')) broadcasts_S1x512_S144x512) a)
      (matmul dot_S144x256_S256x512_S144x512_1_0_0_1_n_n none
        (shapeCast S144x256 va shapeCasts_S144x256_S144x256 : FVec F S144x256 .bf16) (weightsA sa m')
        (constant S144x512 .f32 0x00000000#32))
  have y : FVec F S144x256 .f32 := matmul dot_S144x256_S256x256_S144x256_1_0_0_1_n_n none
        (shapeCast S144x256 vb shapeCasts_S144x256_S144x256 : FVec F S144x256 .bf16) (weightsB sb m')
        (constant S144x256 .f32 0x00000000#32)
  concatenate S144x512 1
    [⟨S144x256, extractStridedSlice S144x256 ![0, 0] x slices_S144x512_o0_0_S144x256⟩,
     ⟨S144x256, addf (extractStridedSlice S144x256 ![0, 256] x slices_S144x512_o0_256_S144x256) y⟩]
    concatenates_S144x256_S144x256_S144x512_d1

/-- The output of one head: the accumulator's value rows over its row of ones' sums, transposed. -/
def outHead (a : FVec F S144x512 .f32) : FVec F S512x128 .bf16 :=
  truncf .bf16 (transpose S512x128 [1, 0]
    (divf (extractStridedSlice S128x512 ![0, 0] a slices_S144x512_o0_0_S128x512)
      (broadcastTo S128x512 (extractStridedSlice S1x512 ![128, 0] a slices_S144x512_o128_0_S1x512) broadcasts_S1x512_S128x512))
    transposes_S128x512_p1_0_S512x128 : FVec F S512x128 .f32) bitsLt_bf16_f32

end Cert.KernelIdeal.Attn
end
-- ==== Proof.Attn.Apply.lean ====
module

public import proofs.«01_k».proof.Proof.Attn.Ops
public import Idealize.ShloMosaic.Lib.WordCmp

/-! The attention kernel's operations for one head, read at an index over the extended reals. -/

@[expose] public section

noncomputable section
namespace Cert.KernelIdeal.Attn
open Cert.KernelIdeal Cert.KernelIdeal.Gen Idealize.ShloMosaic Idealize.ShloMosaic.TcCoe Idealize.SL.Sem

/-- The pattern of minus infinity is the bottom. -/
theorem ofBits_ninf : Ideal.ofBits FTy.f32 0xFF800000#32 = ⊥ := by
  simp [Ideal.ofBits, Ideal.ieee]

/-- The named mask constant is the bottom. -/
theorem mask_bot : Named.named (F := Ideal) (φ := .f32) κ "mask" 0xF149F2CA#32 = ⊥ :=
  IdealRules.named_const.ideal_named_scalar _ _ _ _ rfl

theorem fold_sup {n : ℕ} (f : Fin n → EReal) : Finset.fold max ⊥ f Finset.univ = Finset.univ.sup f := rfl

/-- Scores: the inner product of a key row and a query row. -/
theorem scores_apply (k q : Vec Ideal S512x256 .bf16) (r c : Fin 512) :
    scores k q (ix2 r c) = ∑ d : Fin 256, k (ix2 r d) * q (ix2 c d) := by
  unfold scores
  pointwise! [dot_S512x256_S512x256_S512x512_1_1_0_0_n_n]

/-- The running maximum of a column. -/
theorem rowMax_apply (m : FVec Ideal S1x512 .f32) (s : FVec Ideal S512x512 .f32) (c : Fin 512) :
    rowMax m s (ix2 0 c) = max (m (ix2 0 c)) (Finset.univ.sup fun r : Fin 512 => s (ix2 r c)) := by
  unfold rowMax
  pointwise
  rw [ofBits_ninf]; rfl

/-- A weight of a full block. -/
theorem weights_apply (m : FVec Ideal S1x512 .f32) (s : FVec Ideal S512x512 .f32) (r c : Fin 512) :
    weights s m (ix2 r c) = Ideal.exp2 (s (ix2 r c) - m (ix2 0 c)) := by
  unfold weights chunk
  pointwise
  split_ifs <;> (show Ideal.exp2 _ = Ideal.exp2 _) <;> congr 2 <;> congr 1 <;> congr 1 <;> (apply Fin.ext; dsimp only; omega)

/-- The accumulator after a full block. -/
theorem accum_apply (m m' : FVec Ideal S1x512 .f32) (s : FVec Ideal S512x512 .f32) (a : FVec Ideal S144x512 .f32)
    (v : Vec Ideal S144x512 .bf16) (d : Fin 144) (c : Fin 512) :
    accum m m' s a v (ix2 d c) = Ideal.exp2 (m (ix2 0 c) - m' (ix2 0 c)) * a (ix2 d c)
      + ∑ r : Fin 512, v (ix2 d r) * Ideal.exp2 (s (ix2 r c) - m' (ix2 0 c)) := by
  unfold accum
  pointwise [dot_S144x512_S512x512_S144x512_1_0_0_1_n_n, weights_apply]
  rfl

theorem select_le (r c : ℕ) (hr : r < 512) (hc : c < 512) (x y : EReal) :
    Scalar.select (IntOp.cmpi CmpIPredicate.sle (BitVec.ofNat 32 r) (BitVec.ofNat 32 c)) x y = if r ≤ c then x else y := by
  rw [WordCmp.cmpi_sle_ofNat (by norm_num; omega) (by norm_num; omega)]
  unfold Scalar.select
  by_cases h : r ≤ c <;> simp [h]

/-- The first masked scores of the diagonal block. -/
theorem scoresA_apply (k : Vec Ideal S256x256 .bf16) (q : Vec Ideal S512x256 .bf16) (r : Fin 256) (c : Fin 512) :
    scoresA k q (ix2 r c) = if r.val ≤ c.val then ∑ d : Fin 256, k (ix2 r d) * q (ix2 c d) else ⊥ := by
  unfold scoresA k0_pay102
  pointwise [dot_S256x256_S512x256_S256x512_1_1_0_0_n_n]
  rw [mask_bot, select_le _ _ (by omega) (by omega)]

/-- The second masked scores of the diagonal block. -/
theorem scoresB_apply (k q : Vec Ideal S256x256 .bf16) (r c : Fin 256) :
    scoresB k q (ix2 r c) = if r.val ≤ c.val then ∑ d : Fin 256, k (ix2 r d) * q (ix2 c d) else ⊥ := by
  unfold scoresB k0_pay103 k0_pay102
  pointwise [dot_S256x256_S256x256_S256x256_1_1_0_0_n_n]
  rw [mask_bot, select_le _ _ (by omega) (by omega)]

/-- A maximum over 512 rows split in two halves. -/
theorem sup_split (f : Fin 512 → EReal) : Finset.univ.sup f
    = max (Finset.univ.sup fun r : Fin 256 => f ⟨r.val, by omega⟩) (Finset.univ.sup fun r : Fin 256 => f ⟨256 + r.val, by omega⟩) := by
  apply le_antisymm
  · refine Finset.sup_le fun r _ => ?_
    by_cases h : r.val < 256
    · exact le_max_of_le_left (Finset.le_sup (f := fun r : Fin 256 => f ⟨r.val, by omega⟩) (Finset.mem_univ ⟨r.val, h⟩))
    · refine le_max_of_le_right ?_
      have := Finset.le_sup (f := fun r : Fin 256 => f ⟨256 + r.val, by omega⟩) (Finset.mem_univ ⟨r.val - 256, by omega⟩)
      refine le_trans (le_of_eq ?_) this
      congr 1; apply Fin.ext; dsimp only; omega
  · refine max_le ?_ ?_
    · exact Finset.sup_le fun r _ => Finset.le_sup (f := f) (Finset.mem_univ _)
    · exact Finset.sup_le fun r _ => Finset.le_sup (f := f) (Finset.mem_univ _)

/-- A sum over 512 rows split in two halves. -/
theorem sum_split (f : Fin 512 → EReal) : ∑ r, f r
    = (∑ r : Fin 256, f ⟨r.val, by omega⟩) + ∑ r : Fin 256, f ⟨256 + r.val, by omega⟩ :=
  Fin.sum_univ_add (a := 256) (b := 256) f

/-- The diagonal block's column maxima, against one masked block `s` of 512 by 512 scores. -/
theorem diagTop_apply (sa : FVec Ideal S256x512 .f32) (sb : FVec Ideal S256x256 .f32) (s : Fin 512 → Fin 512 → EReal)
    (hA : ∀ (r : Fin 256) (c : Fin 512), sa (ix2 r c) = s ⟨r.val, by omega⟩ c)
    (hB : ∀ r c : Fin 256, sb (ix2 r c) = s ⟨256 + r.val, by omega⟩ ⟨256 + c.val, by omega⟩)
    (h0 : ∀ r c : Fin 512, 256 ≤ r.val → c.val < 256 → s r c = ⊥) (c : Fin 512) :
    diagTop sa sb (ix2 0 c) = Finset.univ.sup fun r : Fin 512 => s r c := by
  unfold diagTop
  pointwise
  rw [sup_split]
  simp only [ofBits_ninf, fold_sup, hA, hB]
  split_ifs with h
  · have : (Finset.univ.sup fun r : Fin 256 => s ⟨256 + r.val, by omega⟩ c) = ⊥ := by
      rw [Finset.sup_eq_bot_iff]; intro r _; exact h0 _ _ (by dsimp only; omega) h
    rw [this]; exact (max_bot_right _).symm
  all_goals
    have e : ∀ h', (⟨256 + (c.val - 256), h'⟩ : Fin 512) = c := fun _ => Fin.ext (by dsimp only; omega)
    simp only [e]

theorem weightsA_apply (m : FVec Ideal S1x512 .f32) (s : FVec Ideal S256x512 .f32) (r : Fin 256) (c : Fin 512) :
    weightsA s m (ix2 r c) = Ideal.exp2 (s (ix2 r c) - m (ix2 0 c)) := by
  unfold weightsA chunk
  pointwise
  split_ifs <;> (show Ideal.exp2 _ = Ideal.exp2 _) <;> congr 2 <;> congr 1 <;> congr 1 <;> (apply Fin.ext; dsimp only; omega)

theorem weightsB_apply (m : FVec Ideal S1x512 .f32) (s : FVec Ideal S256x256 .f32) (r c : Fin 256) :
    weightsB s m (ix2 r c) = Ideal.exp2 (s (ix2 r c) - m (ix2 0 ⟨256 + c.val, by omega⟩)) := by
  unfold weightsB chunkB
  pointwise
  split_ifs <;> (show Ideal.exp2 _ = Ideal.exp2 _) <;> congr 2 <;> congr 1 <;> congr 1 <;> (apply Fin.ext; dsimp only; omega)

/-- The accumulator after the diagonal block, against one masked block `s` of 512 by 512 scores. -/
theorem accumD_apply (m m' : FVec Ideal S1x512 .f32) (sa : FVec Ideal S256x512 .f32) (sb : FVec Ideal S256x256 .f32)
    (a : FVec Ideal S144x512 .f32) (va vb : Vec Ideal S144x256 .bf16) (s : Fin 512 → Fin 512 → EReal) (v : Fin 144 → Fin 512 → EReal)
    (hA : ∀ (r : Fin 256) (c : Fin 512), sa (ix2 r c) = s ⟨r.val, by omega⟩ c)
    (hB : ∀ r c : Fin 256, sb (ix2 r c) = s ⟨256 + r.val, by omega⟩ ⟨256 + c.val, by omega⟩)
    (h0 : ∀ r c : Fin 512, 256 ≤ r.val → c.val < 256 → s r c = ⊥)
    (hva : ∀ (d : Fin 144) (r : Fin 256), va (ix2 d r) = v d ⟨r.val, by omega⟩)
    (hvb : ∀ (d : Fin 144) (r : Fin 256), vb (ix2 d r) = v d ⟨256 + r.val, by omega⟩) (d : Fin 144) (c : Fin 512) :
    accumD m m' sa sb a va vb (ix2 d c) = Ideal.exp2 (m (ix2 0 c) - m' (ix2 0 c)) * a (ix2 d c)
      + ∑ r : Fin 512, v d r * Ideal.exp2 (s r c - m' (ix2 0 c)) := by
  unfold accumD
  pointwise [dot_S144x256_S256x512_S144x512_1_0_0_1_n_n, dot_S144x256_S256x256_S144x256_1_0_0_1_n_n, weightsA_apply, weightsB_apply]
  rw [sum_split]
  simp only [hA, hB, hva, hvb]
  by_cases h : c.val < 256
  · simp only [dif_pos h]
    have : ∑ r : Fin 256, v d ⟨256 + r.val, by omega⟩ * Ideal.exp2 (s ⟨256 + r.val, by omega⟩ c - m' (ix2 0 c)) = 0 := by
      refine Finset.sum_eq_zero fun r _ => ?_
      rw [h0 _ _ (by dsimp only; omega) h, sub_eq_add_neg, EReal.bot_add]
      exact mul_zero _
    rw [this, add_zero]; rfl
  · have e : ∀ h', (⟨256 + (c.val - 256), h'⟩ : Fin 512) = c := fun _ => Fin.ext (by dsimp only; omega)
    simp only [dif_neg h]
    split_ifs <;> simp only [e, add_assoc] <;> first | rfl | omega

/-- The output of one head at query `c`, channel `d`. -/
theorem outHead_apply (a : FVec Ideal S144x512 .f32) (d : Fin 128) (c : Fin 512) :
    outHead a (ix2 c d) = Ideal.div (a (ix2 ⟨d.val, by omega⟩ c)) (a (ix2 128 c)) := by
  unfold outHead
  pointwise

end Cert.KernelIdeal.Attn
end
-- ==== Proof.Attn.Online.lean ====
module

public import Idealize.ShloMosaic.PureOps.Ideal
public import Mathlib.Algebra.BigOperators.Group.Finset.Basic
public import Mathlib.Data.EReal.Inv

/-! The online softmax over the extended reals: a running maximum and a rescaled weighted sum, block by block,
equal the maximum and the weighted sum of the whole prefix; dividing by the sum of weights is the softmax. -/

@[expose] public section

noncomputable section
namespace Online
open Idealize.ShloMosaic Finset

/-- The maximum of the first `n` scores. -/
def top (S : ℕ → EReal) (n : ℕ) : EReal := (range n).sup S

/-- The weighted sum of the first `n` values, weights `2 ^ (score - m)`. -/
def wsum (S : ℕ → EReal) (v : ℕ → EReal) (n : ℕ) (m : EReal) : EReal :=
  ∑ k ∈ range n, v k * Ideal.exp2 (S k - m)

theorem exp2_bot : Ideal.exp2 ⊥ = 0 := rfl
theorem exp_bot : Ideal.exp ⊥ = 0 := rfl
theorem exp2_coe (r : ℝ) : Ideal.exp2 (r : EReal) = ((Real.rpow 2 r : ℝ) : EReal) := rfl
theorem exp_coe (r : ℝ) : Ideal.exp (r : EReal) = ((Real.exp r : ℝ) : EReal) := rfl

/-- Splitting a prefix's maximum. -/
theorem top_add (S : ℕ → EReal) (n p : ℕ) : top S (n + p) = max (top S n) ((range p).sup fun r => S (n + r)) := by
  induction p with
  | zero => simp [top]
  | succ p ih =>
    have h1 : top S (n + (p + 1)) = max (top S (n + p)) (S (n + p)) := by
      unfold top; rw [← add_assoc, range_add_one, sup_insert]; exact max_comm _ _
    have h2 : ((range (p + 1)).sup fun r => S (n + r)) = max ((range p).sup fun r => S (n + r)) (S (n + p)) := by
      rw [range_add_one, sup_insert]; exact max_comm _ _
    rw [h1, h2, ih, max_assoc]

/-- The maximum of scores below `⊤` is below `⊤`. -/
theorem top_ne_top (S : ℕ → EReal) (hS : ∀ k, S k ≠ ⊤) (n : ℕ) : top S n ≠ ⊤ := by
  induction n with
  | zero => simp [top]
  | succ n ih =>
    have h1 : top S (n + 1) = max (S n) (top S n) := by
      unfold top; rw [range_add_one, sup_insert]
    rw [h1]
    rcases max_choice (S n) (top S n) with h | h <;> rw [h]
    · exact hS n
    · exact ih

theorem top_ne_bot (S : ℕ → EReal) (h0 : S 0 ≠ ⊥) (n : ℕ) (hn : 0 < n) : top S n ≠ ⊥ := by
  intro h
  have : S 0 ≤ top S n := le_sup (f := S) (mem_range.mpr hn)
  rw [h] at this
  exact h0 (le_bot_iff.mp this)

theorem bot_sub (x : EReal) : (⊥ : EReal) - x = ⊥ := by
  rw [sub_eq_add_neg]; exact EReal.bot_add _

/-- A weight is a nonnegative real. -/
theorem wt_real (s m : EReal) (hs : s ≠ ⊤) (hm : m ≠ ⊥) (hm' : m ≠ ⊤) :
    ∃ r : ℝ, 0 ≤ r ∧ Ideal.exp2 (s - m) = (r : EReal) := by
  induction m with
  | bot => exact absurd rfl hm
  | top => exact absurd rfl hm'
  | coe m =>
    induction s with
    | bot => exact ⟨0, le_refl _, by rw [bot_sub]; rfl⟩
    | top => exact absurd rfl hs
    | coe s => exact ⟨Real.rpow 2 (s - m), Real.rpow_nonneg (by norm_num) _, by rw [← EReal.coe_sub]; rfl⟩

/-- Rescaling a weight from one real maximum to another. -/
theorem wt_rescale (s : EReal) (m m' : ℝ) (hs : s ≠ ⊤) :
    Ideal.exp2 ((m : EReal) - m') * Ideal.exp2 (s - m) = Ideal.exp2 (s - m') := by
  induction s with
  | bot => rw [bot_sub, bot_sub, exp2_bot, mul_zero]
  | top => exact absurd rfl hs
  | coe s =>
    rw [← EReal.coe_sub, ← EReal.coe_sub, ← EReal.coe_sub, exp2_coe, exp2_coe, exp2_coe, ← EReal.coe_mul]
    congr 1
    show (2 : ℝ) ^ (m - m') * (2 : ℝ) ^ (s - m) = (2 : ℝ) ^ (s - m')
    rw [← Real.rpow_add (by norm_num)]; congr 1; ring

/-- A nonnegative real factor distributes over any sum of extended reals. -/
theorem mul_sum_real {ι : Type} (t : Finset ι) (r : ℝ) (hr : 0 ≤ r) (f : ι → EReal) :
    (r : EReal) * ∑ k ∈ t, f k = ∑ k ∈ t, (r : EReal) * f k := by
  classical
  induction t using Finset.induction_on with
  | empty => simp
  | insert a t ha ih =>
    rw [sum_insert ha, sum_insert ha, EReal.left_distrib_of_nonneg_of_ne_top (EReal.coe_nonneg.mpr hr) (EReal.coe_ne_top r), ih]

/-- ONE BLOCK: the rescaled old sum plus the block's weighted values is the longer prefix's weighted sum. -/
theorem step (S : ℕ → EReal) (hS : ∀ k, S k ≠ ⊤) (h0 : S 0 ≠ ⊥) (v : ℕ → EReal) (n p : ℕ) (hp : 0 < p) :
    Ideal.exp2 (top S n - top S (n + p)) * wsum S v n (top S n)
      + ∑ r ∈ range p, v (n + r) * Ideal.exp2 (S (n + r) - top S (n + p))
      = wsum S v (n + p) (top S (n + p)) := by
  unfold wsum
  rw [sum_range_add]
  congr 1
  rcases Nat.eq_zero_or_pos n with rfl | hn
  · simp
  · have a1 := top_ne_top S hS n
    have a2 := top_ne_bot S h0 n hn
    have b1 := top_ne_top S hS (n + p)
    have b2 := top_ne_bot S h0 (n + p) (by omega)
    generalize hm' : top S (n + p) = m' at *
    generalize hm : top S n = m at *
    induction m with
    | bot => exact absurd rfl a2
    | top => exact absurd rfl a1
    | coe m =>
      induction m' with
      | bot => exact absurd rfl b2
      | top => exact absurd rfl b1
      | coe m' =>
        obtain ⟨r, hr, he⟩ := wt_real (m : EReal) (m' : EReal) (EReal.coe_ne_top _) (EReal.coe_ne_bot _) (EReal.coe_ne_top _)
        have hre : ∀ k, (r : EReal) * Ideal.exp2 (S k - m) = Ideal.exp2 (S k - m') := fun k => by
          rw [← he]; exact wt_rescale (S k) m m' (hS k)
        rw [he, mul_sum_real _ r hr]
        refine sum_congr rfl fun k _ => ?_
        rw [mul_left_comm, hre]

/-- Scores past `n` that are all masked add nothing to the maximum. -/
theorem top_masked (S : ℕ → EReal) (n p : ℕ) (h : ∀ k, n ≤ k → S k = ⊥) : top S (n + p) = top S n := by
  rw [top_add]
  have : ((range p).sup fun r => S (n + r)) = ⊥ := by
    rw [Finset.sup_eq_bot_iff]; intro r _; exact h _ (by omega)
  rw [this]; exact max_bot_right _

/-- Scores past `n` that are all masked add nothing to the weighted sum. -/
theorem wsum_masked (S v : ℕ → EReal) (n p : ℕ) (m : EReal) (h : ∀ k, n ≤ k → S k = ⊥) :
    wsum S v (n + p) m = wsum S v n m := by
  unfold wsum
  rw [sum_range_add]
  have : ∑ r ∈ range p, v (n + r) * Ideal.exp2 (S (n + r) - m) = 0 := by
    refine sum_eq_zero fun r _ => ?_
    rw [h _ (by omega), bot_sub, exp2_bot, mul_zero]
  rw [this, add_zero]

/-- Multiplying an extended real that is not `⊤` by a positive real. -/
theorem mul_mono (a : ℝ) (ha : 0 < a) : Monotone (fun x : EReal => x * (a : EReal)) := fun x y h =>
  mul_le_mul_of_nonneg_right h (EReal.coe_nonneg.mpr ha.le)

/-- The maximum of scaled scores is the scaled maximum. -/
theorem top_scale (S T : ℕ → EReal) (a : ℝ) (ha : 0 < a) (h : ∀ k, T k = S k * (a : EReal)) (n : ℕ) :
    top T n = top S n * (a : EReal) := by
  induction n with
  | zero => simp [top, EReal.bot_mul_coe_of_pos ha]
  | succ n ih =>
    have h1 : ∀ U : ℕ → EReal, top U (n + 1) = max (U n) (top U n) := fun U => by
      unfold top; rw [range_add_one, sup_insert]
    rw [h1, h1, ih, h]
    exact ((mul_mono a ha).map_max).symm

/-- A base-2 weight of scores scaled by `1 / log 2` is the natural-exponential weight. -/
theorem exp2_eq_exp (s m : EReal) (hs : s ≠ ⊤) (hm : m ≠ ⊥) (hm' : m ≠ ⊤) :
    Ideal.exp2 (s - m) = Ideal.exp (s * (Real.log 2 : ℝ) - m * (Real.log 2 : ℝ)) := by
  have h2 : 0 < Real.log 2 := Real.log_pos (by norm_num)
  induction m with
  | bot => exact absurd rfl hm
  | top => exact absurd rfl hm'
  | coe m =>
    induction s with
    | bot => rw [EReal.bot_mul_coe_of_pos h2, bot_sub, bot_sub]; rfl
    | top => exact absurd rfl hs
    | coe s =>
      rw [← EReal.coe_sub, ← EReal.coe_mul, ← EReal.coe_mul, ← EReal.coe_sub, exp2_coe, exp_coe]
      congr 1
      show (2 : ℝ) ^ (s - m) = _
      rw [Real.rpow_def_of_pos (by norm_num)]; congr 1; ring

/-- THE SOFTMAX: the weighted sum over the sum of weights is the sum of values times normalised weights. -/
theorem ratio (S T v : ℕ → EReal) (n : ℕ) (hn : 0 < n) (hS : ∀ k, S k ≠ ⊤) (h0 : S 0 ≠ ⊥)
    (hT : ∀ k, T k = S k * (Real.log 2 : ℝ)) :
    Ideal.div (wsum S v n (top S n)) (wsum S (fun _ => 1) n (top S n))
      = ∑ k ∈ range n, Ideal.div (Ideal.exp (T k - top T n)) (∑ j ∈ range n, Ideal.exp (T j - top T n)) * v k := by
  have h2 : 0 < Real.log 2 := Real.log_pos (by norm_num)
  have a1 := top_ne_top S hS n
  have a2 := top_ne_bot S h0 n hn
  have he : ∀ k, Ideal.exp (T k - top T n) = Ideal.exp2 (S k - top S n) := fun k => by
    rw [top_scale S T _ h2 hT n, hT, exp2_eq_exp _ _ (hS k) a2 a1]
  simp only [he]
  choose w hw0 hw using fun k => wt_real (S k) (top S n) (hS k) a2 a1
  unfold wsum
  simp only [hw, one_mul]
  have hsum : ∑ j ∈ range n, ((w j : ℝ) : EReal) = ((∑ j ∈ range n, w j : ℝ) : EReal) := by
    exact (map_sum (⟨⟨Real.toEReal, rfl⟩, EReal.coe_add⟩ : ℝ →+ EReal) w (range n)).symm
  have hpos : 0 < ∑ j ∈ range n, w j := by
    have : 0 < w 0 := by
      have e := hw 0
      generalize top S n = m at *
      induction m with
      | bot => exact absurd rfl a2
      | top => exact absurd rfl a1
      | coe m =>
        generalize hs0 : S 0 = s at *
        induction s with
        | bot => exact absurd rfl h0
        | top => exact absurd hs0 (hS 0)
        | coe s =>
          rw [← EReal.coe_sub, exp2_coe, EReal.coe_eq_coe_iff] at e
          rw [← e]; exact Real.rpow_pos_of_pos (by norm_num) _
    exact lt_of_lt_of_le this (single_le_sum (fun k _ => hw0 k) (mem_range.mpr hn))
  rw [hsum]
  have hne : ((∑ j ∈ range n, w j : ℝ) : EReal) ≠ 0 := by
    intro h; exact hpos.ne' (EReal.coe_eq_zero.mp h)
  unfold Ideal.div
  simp only [if_neg hne]
  rw [← EReal.coe_inv, mul_comm, mul_sum_real _ _ (inv_nonneg.mpr hpos.le)]
  refine sum_congr rfl fun k _ => ?_
  rw [mul_comm ((w k : ℝ) : EReal), mul_comm (v k), mul_assoc]

end Online
end
-- ==== Proof.Attn.Trip.lean ====
module

public import proofs.«01_k».proof.Proof.Attn.Ops

/-! What one trip of the attention kernel's loop yields, head by head. -/

@[expose] public section

set_option maxRecDepth 65536
noncomputable section
namespace Cert.KernelIdeal.Attn
open Cert.KernelIdeal Cert.KernelIdeal.Gen Idealize.ShloMosaic Idealize.ShloMosaic.TcCoe Idealize.SL.Sem

variable {F : FTy → Type} [FloatOps F] [Named F]

/-- One trip of the loop: each head's running maximum and accumulator over a full block of keys. -/
theorem trip_val (𝒱 : Variants) (c : Dev nD) (bd : Option 𝒱.V) (i : grid0.Coords) (arg3 : Memref sig .tc .vmem S512x1024 .bf16) (harg3 : arg3.IsWhole) (arg4 : Memref sig .tc .vmem S2048x1024 .bf16) (harg4 : arg4.IsWhole) (arg5 : Memref sig .tc .vmem S576x2048 .bf16) (harg5 : arg5.IsWhole) (arg6 : Memref sig .tc .vmem S512x512 .bf16) (harg6 : arg6.IsWhole) (X_arg3 : BufTy.Contents (Elt F) arg3.view.ty) (X_arg4 : BufTy.Contents (Elt F) arg4.view.ty) (X_arg5 : BufTy.Contents (Elt F) arg5.view.ty) (k : Fin (k0_t1_loop i).trips)
    (m0 m1 m2 m3 : FVec F S1x512 .f32) (a0 a1 a2 a3 : FVec F S144x512 .f32) :
    (trip_k0_t1 (F := F) 𝒱 c bd i arg3 harg3 arg4 harg4 arg5 harg5 arg6 harg6 X_arg3 X_arg4 X_arg5 k).1 (m0, m1, m2, m3, a0, a1, a2, a3)
      = (rowMax m0 (scores (View.readAt (Elt F) arg4.view (Rect.unit (s := S2048x1024) (k0_off1 i k) S512x256.size (k0_off1_inb i k)).toLoadRect X_arg4) (View.readAt (Elt F) arg3.view (Rect.unit (s := S512x1024) ![0, 0] S512x256.size inb_S512x1024_S512x256_0_0).toLoadRect X_arg3)), rowMax m1 (scores (View.readAt (Elt F) arg4.view (Rect.unit (s := S2048x1024) (k0_off2 i k) S512x256.size (k0_off2_inb i k)).toLoadRect X_arg4) (View.readAt (Elt F) arg3.view (Rect.unit (s := S512x1024) ![0, 256] S512x256.size inb_S512x1024_S512x256_0_256).toLoadRect X_arg3)), rowMax m2 (scores (View.readAt (Elt F) arg4.view (Rect.unit (s := S2048x1024) (k0_off3 i k) S512x256.size (k0_off3_inb i k)).toLoadRect X_arg4) (View.readAt (Elt F) arg3.view (Rect.unit (s := S512x1024) ![0, 512] S512x256.size inb_S512x1024_S512x256_0_512).toLoadRect X_arg3)), rowMax m3 (scores (View.readAt (Elt F) arg4.view (Rect.unit (s := S2048x1024) (k0_off5 i k) S512x256.size (k0_off5_inb i k)).toLoadRect X_arg4) (View.readAt (Elt F) arg3.view (Rect.unit (s := S512x1024) ![0, 768] S512x256.size inb_S512x1024_S512x256_0_768).toLoadRect X_arg3)),
         accum m0 (rowMax m0 (scores (View.readAt (Elt F) arg4.view (Rect.unit (s := S2048x1024) (k0_off1 i k) S512x256.size (k0_off1_inb i k)).toLoadRect X_arg4) (View.readAt (Elt F) arg3.view (Rect.unit (s := S512x1024) ![0, 0] S512x256.size inb_S512x1024_S512x256_0_0).toLoadRect X_arg3))) (scores (View.readAt (Elt F) arg4.view (Rect.unit (s := S2048x1024) (k0_off1 i k) S512x256.size (k0_off1_inb i k)).toLoadRect X_arg4) (View.readAt (Elt F) arg3.view (Rect.unit (s := S512x1024) ![0, 0] S512x256.size inb_S512x1024_S512x256_0_0).toLoadRect X_arg3)) a0 (View.readAt (Elt F) arg5.view (Rect.unit (s := S576x2048) (k0_off4 i k) S144x512.size (k0_off4_inb i k)).toLoadRect X_arg5), accum m1 (rowMax m1 (scores (View.readAt (Elt F) arg4.view (Rect.unit (s := S2048x1024) (k0_off2 i k) S512x256.size (k0_off2_inb i k)).toLoadRect X_arg4) (View.readAt (Elt F) arg3.view (Rect.unit (s := S512x1024) ![0, 256] S512x256.size inb_S512x1024_S512x256_0_256).toLoadRect X_arg3))) (scores (View.readAt (Elt F) arg4.view (Rect.unit (s := S2048x1024) (k0_off2 i k) S512x256.size (k0_off2_inb i k)).toLoadRect X_arg4) (View.readAt (Elt F) arg3.view (Rect.unit (s := S512x1024) ![0, 256] S512x256.size inb_S512x1024_S512x256_0_256).toLoadRect X_arg3)) a1 (View.readAt (Elt F) arg5.view (Rect.unit (s := S576x2048) (k0_off6 i k) S144x512.size (k0_off6_inb i k)).toLoadRect X_arg5), accum m2 (rowMax m2 (scores (View.readAt (Elt F) arg4.view (Rect.unit (s := S2048x1024) (k0_off3 i k) S512x256.size (k0_off3_inb i k)).toLoadRect X_arg4) (View.readAt (Elt F) arg3.view (Rect.unit (s := S512x1024) ![0, 512] S512x256.size inb_S512x1024_S512x256_0_512).toLoadRect X_arg3))) (scores (View.readAt (Elt F) arg4.view (Rect.unit (s := S2048x1024) (k0_off3 i k) S512x256.size (k0_off3_inb i k)).toLoadRect X_arg4) (View.readAt (Elt F) arg3.view (Rect.unit (s := S512x1024) ![0, 512] S512x256.size inb_S512x1024_S512x256_0_512).toLoadRect X_arg3)) a2 (View.readAt (Elt F) arg5.view (Rect.unit (s := S576x2048) (k0_off7 i k) S144x512.size (k0_off7_inb i k)).toLoadRect X_arg5), accum m3 (rowMax m3 (scores (View.readAt (Elt F) arg4.view (Rect.unit (s := S2048x1024) (k0_off5 i k) S512x256.size (k0_off5_inb i k)).toLoadRect X_arg4) (View.readAt (Elt F) arg3.view (Rect.unit (s := S512x1024) ![0, 768] S512x256.size inb_S512x1024_S512x256_0_768).toLoadRect X_arg3))) (scores (View.readAt (Elt F) arg4.view (Rect.unit (s := S2048x1024) (k0_off5 i k) S512x256.size (k0_off5_inb i k)).toLoadRect X_arg4) (View.readAt (Elt F) arg3.view (Rect.unit (s := S512x1024) ![0, 768] S512x256.size inb_S512x1024_S512x256_0_768).toLoadRect X_arg3)) a3 (View.readAt (Elt F) arg5.view (Rect.unit (s := S576x2048) (k0_off8 i k) S144x512.size (k0_off8_inb i k)).toLoadRect X_arg5)) := by
  unfold trip_k0_t1
  rfl

end Cert.KernelIdeal.Attn
end
-- ==== Proof.Attn.Run.lean ====
module

public import proofs.«01_k».proof.Proof.Attn.Ops
public import proofs.«01_k».proof.Proof.Gen.KernelIdeal.Value

/-! What the attention kernel's body stores at a grid point, head by head. -/

@[expose] public section

set_option maxRecDepth 65536
noncomputable section
namespace Cert.KernelIdeal.Attn
open Cert.KernelIdeal Cert.KernelIdeal.Gen Idealize.ShloMosaic Idealize.ShloMosaic.TcCoe Idealize.SL.Sem

variable {F : FTy → Type} [FloatOps F] [Named F]

/-- The state the key loop carries. -/
abbrev State (F : FTy → Type) : Type := FVec F S1x512 .f32 × FVec F S1x512 .f32 × FVec F S1x512 .f32 × FVec F S1x512 .f32
  × FVec F S144x512 .f32 × FVec F S144x512 .f32 × FVec F S144x512 .f32 × FVec F S144x512 .f32

/-- The first running maximum: the mask's value everywhere. -/
def m0 : FVec F S1x512 .f32 := broadcast S1x512 (Named.named κ "mask" 0xF149F2CA#32)
/-- The first accumulator: zero everywhere. -/
def a0 : FVec F S144x512 .f32 := k0_pay94

/-- The state after the loop over the full blocks of keys and the loop over the remainder. -/
def loopOut (c : Dev nD) (i : grid0.Coords) (arg3 : Memref sig .tc .vmem S512x1024 .bf16) (harg3 : arg3.IsWhole) (arg4 : Memref sig .tc .vmem S2048x1024 .bf16) (harg4 : arg4.IsWhole) (arg5 : Memref sig .tc .vmem S576x2048 .bf16) (harg5 : arg5.IsWhole) (arg6 : Memref sig .tc .vmem S512x512 .bf16) (harg6 : arg6.IsWhole)
    (x0 : Vec F S512x1024 .bf16) (x1 : Vec F S2048x1024 .bf16) (x2 : Vec F S576x2048 .bf16) : State F :=
  st_k0_t2 (F := F) Variants.none c none i arg3 harg3 arg4 harg4 arg5 harg5 arg6 harg6 (k0_t1_loop i).ub (harg3.unread x0) (harg4.unread x1) (harg5.unread x2)
    (st_k0_t1 (F := F) Variants.none c none i arg3 harg3 arg4 harg4 arg5 harg5 arg6 harg6 (harg3.unread x0) (harg4.unread x1) (harg5.unread x2)
      (m0, m0, m0, m0, a0, a0, a0, a0) (k0_t1_loop i).trips)
    (k0_t2_loop i).trips

/-- One head's diagonal block and its quotient. -/
def headOut (m : FVec F S1x512 .f32) (a : FVec F S144x512 .f32) (ka kb : Vec F S256x256 .bf16) (q : Vec F S512x256 .bf16)
    (q2 : Vec F S256x256 .bf16) (va vb : Vec F S144x256 .bf16) : FVec F S512x128 .bf16 :=
  outHead (accumD m (maximumf m (diagTop (scoresA ka q) (scoresB kb q2))) (scoresA ka q) (scoresB kb q2) a va vb)

/-- The four stores of the body, last first. -/
theorem pieces (c : Dev nD) (i : grid0.Coords) (arg3 : Memref sig .tc .vmem S512x1024 .bf16) (harg3 : arg3.IsWhole) (arg4 : Memref sig .tc .vmem S2048x1024 .bf16) (harg4 : arg4.IsWhole) (arg5 : Memref sig .tc .vmem S576x2048 .bf16) (harg5 : arg5.IsWhole) (arg6 : Memref sig .tc .vmem S512x512 .bf16) (harg6 : arg6.IsWhole)
    (x0 : Vec F S512x1024 .bf16) (x1 : Vec F S2048x1024 .bf16) (x2 : Vec F S576x2048 .bf16) :
    (kernelRun0_A c i arg3 harg3 arg4 harg4 arg5 harg5 arg6 harg6 x0 x1 x2).1 =
    [⟨Rect.unit ![0, 384] ![512, 128] inb_S512x512_S512x128_0_384,
      headOut (loopOut c i arg3 harg3 arg4 harg4 arg5 harg5 arg6 harg6 x0 x1 x2).2.2.2.1 (loopOut c i arg3 harg3 arg4 harg4 arg5 harg5 arg6 harg6 x0 x1 x2).2.2.2.2.2.2.2 (View.readAt (Elt F) arg4.view (Rect.unit (s := S2048x1024) (k0_off25 i) S256x256.size (k0_off25_inb i)).toLoadRect (harg4.unread x1)) (View.readAt (Elt F) arg4.view (Rect.unit (s := S2048x1024) (k0_off26 i) S256x256.size (k0_off26_inb i)).toLoadRect (harg4.unread x1)) (View.readAt (Elt F) arg3.view (Rect.unit (s := S512x1024) ![0, 768] S512x256.size inb_S512x1024_S512x256_0_768).toLoadRect (harg3.unread x0)) (View.readAt (Elt F) arg3.view (Rect.unit (s := S512x1024) ![256, 768] S256x256.size inb_S512x1024_S256x256_256_768).toLoadRect (harg3.unread x0)) (View.readAt (Elt F) arg5.view (Rect.unit (s := S576x2048) (k0_off31 i) S144x256.size (k0_off31_inb i)).toLoadRect (harg5.unread x2)) (View.readAt (Elt F) arg5.view (Rect.unit (s := S576x2048) (k0_off32 i) S144x256.size (k0_off32_inb i)).toLoadRect (harg5.unread x2))⟩,
     ⟨Rect.unit ![0, 256] ![512, 128] inb_S512x512_S512x128_0_256,
      headOut (loopOut c i arg3 harg3 arg4 harg4 arg5 harg5 arg6 harg6 x0 x1 x2).2.2.1 (loopOut c i arg3 harg3 arg4 harg4 arg5 harg5 arg6 harg6 x0 x1 x2).2.2.2.2.2.2.1 (View.readAt (Elt F) arg4.view (Rect.unit (s := S2048x1024) (k0_off21 i) S256x256.size (k0_off21_inb i)).toLoadRect (harg4.unread x1)) (View.readAt (Elt F) arg4.view (Rect.unit (s := S2048x1024) (k0_off22 i) S256x256.size (k0_off22_inb i)).toLoadRect (harg4.unread x1)) (View.readAt (Elt F) arg3.view (Rect.unit (s := S512x1024) ![0, 512] S512x256.size inb_S512x1024_S512x256_0_512).toLoadRect (harg3.unread x0)) (View.readAt (Elt F) arg3.view (Rect.unit (s := S512x1024) ![256, 512] S256x256.size inb_S512x1024_S256x256_256_512).toLoadRect (harg3.unread x0)) (View.readAt (Elt F) arg5.view (Rect.unit (s := S576x2048) (k0_off29 i) S144x256.size (k0_off29_inb i)).toLoadRect (harg5.unread x2)) (View.readAt (Elt F) arg5.view (Rect.unit (s := S576x2048) (k0_off30 i) S144x256.size (k0_off30_inb i)).toLoadRect (harg5.unread x2))⟩,
     ⟨Rect.unit ![0, 128] ![512, 128] inb_S512x512_S512x128_0_128,
      headOut (loopOut c i arg3 harg3 arg4 harg4 arg5 harg5 arg6 harg6 x0 x1 x2).2.1 (loopOut c i arg3 harg3 arg4 harg4 arg5 harg5 arg6 harg6 x0 x1 x2).2.2.2.2.2.1 (View.readAt (Elt F) arg4.view (Rect.unit (s := S2048x1024) (k0_off19 i) S256x256.size (k0_off19_inb i)).toLoadRect (harg4.unread x1)) (View.readAt (Elt F) arg4.view (Rect.unit (s := S2048x1024) (k0_off20 i) S256x256.size (k0_off20_inb i)).toLoadRect (harg4.unread x1)) (View.readAt (Elt F) arg3.view (Rect.unit (s := S512x1024) ![0, 256] S512x256.size inb_S512x1024_S512x256_0_256).toLoadRect (harg3.unread x0)) (View.readAt (Elt F) arg3.view (Rect.unit (s := S512x1024) ![256, 256] S256x256.size inb_S512x1024_S256x256_256_256).toLoadRect (harg3.unread x0)) (View.readAt (Elt F) arg5.view (Rect.unit (s := S576x2048) (k0_off27 i) S144x256.size (k0_off27_inb i)).toLoadRect (harg5.unread x2)) (View.readAt (Elt F) arg5.view (Rect.unit (s := S576x2048) (k0_off28 i) S144x256.size (k0_off28_inb i)).toLoadRect (harg5.unread x2))⟩,
     ⟨Rect.unit ![0, 0] ![512, 128] inb_S512x512_S512x128_0_0,
      headOut (loopOut c i arg3 harg3 arg4 harg4 arg5 harg5 arg6 harg6 x0 x1 x2).1 (loopOut c i arg3 harg3 arg4 harg4 arg5 harg5 arg6 harg6 x0 x1 x2).2.2.2.2.1 (View.readAt (Elt F) arg4.view (Rect.unit (s := S2048x1024) (k0_off17 i) S256x256.size (k0_off17_inb i)).toLoadRect (harg4.unread x1)) (View.readAt (Elt F) arg4.view (Rect.unit (s := S2048x1024) (k0_off18 i) S256x256.size (k0_off18_inb i)).toLoadRect (harg4.unread x1)) (View.readAt (Elt F) arg3.view (Rect.unit (s := S512x1024) ![0, 0] S512x256.size inb_S512x1024_S512x256_0_0).toLoadRect (harg3.unread x0)) (View.readAt (Elt F) arg3.view (Rect.unit (s := S512x1024) ![256, 0] S256x256.size inb_S512x1024_S256x256_256_0).toLoadRect (harg3.unread x0)) (View.readAt (Elt F) arg5.view (Rect.unit (s := S576x2048) (k0_off23 i) S144x256.size (k0_off23_inb i)).toLoadRect (harg5.unread x2)) (View.readAt (Elt F) arg5.view (Rect.unit (s := S576x2048) (k0_off24 i) S144x256.size (k0_off24_inb i)).toLoadRect (harg5.unread x2))⟩] := by
  unfold kernelRun0_A
  rfl

end Cert.KernelIdeal.Attn
end
-- ==== Proof.Attn.Block.lean ====
module

public import proofs.«01_k».proof.Proof.Attn.Apply
public import proofs.«01_k».proof.Proof.Attn.Online
public import proofs.«01_k».proof.Proof.Attn.Trip
public import proofs.«01_k».proof.Proof.Attn.Run
public import Idealize.ShloMosaic.Lib.Pipeline.ValueKit.Tiles

/-! What the attention kernel leaves in its output block at a grid point, over the extended reals. -/

@[expose] public section

set_option maxRecDepth 16384
noncomputable section
namespace Cert.KernelIdeal.Attn
open Cert.KernelIdeal Cert.KernelIdeal.Gen Idealize.ShloMosaic Idealize.ShloMosaic.TcCoe Idealize.SL.Sem

theorem ix2_congr {a b : ℕ} {r r' : Fin a} {c c' : Fin b} (h : r.val = r'.val) (h' : c.val = c'.val) : ix2 r c = ix2 r' c' := by
  rw [Fin.ext h, Fin.ext h']

/-- A load of `S512x256` from `S512x1024`, at an index. -/
theorem ld_q (x : Vec Ideal S512x1024 .bf16) (off : Fin 2 → Nat) (inb) (A B : ℕ) (h : off = ![A, B]) (r : Fin 512) (c : Fin 256)
    (hr : A + r.val < 512) (hc : B + c.val < 1024) :
    View.ld (Val := Elt Ideal) x (Rect.unit (s := S512x1024) off S512x256.size inb) (ix2 r c) = x (ix2 ⟨A + r.val, hr⟩ ⟨B + c.val, hc⟩) := by
  subst h
  exact View.ld_unit_apply_of x _ _ inb (ix2 r c) _ (fun a => by fin_cases a <;> rfl)

/-- A load of `S256x256` from `S512x1024`, at an index. -/
theorem ld_q2 (x : Vec Ideal S512x1024 .bf16) (off : Fin 2 → Nat) (inb) (A B : ℕ) (h : off = ![A, B]) (r : Fin 256) (c : Fin 256)
    (hr : A + r.val < 512) (hc : B + c.val < 1024) :
    View.ld (Val := Elt Ideal) x (Rect.unit (s := S512x1024) off S256x256.size inb) (ix2 r c) = x (ix2 ⟨A + r.val, hr⟩ ⟨B + c.val, hc⟩) := by
  subst h
  exact View.ld_unit_apply_of x _ _ inb (ix2 r c) _ (fun a => by fin_cases a <;> rfl)

/-- A load of `S512x256` from `S2048x1024`, at an index. -/
theorem ld_k (x : Vec Ideal S2048x1024 .bf16) (off : Fin 2 → Nat) (inb) (A B : ℕ) (h : off = ![A, B]) (r : Fin 512) (c : Fin 256)
    (hr : A + r.val < 2048) (hc : B + c.val < 1024) :
    View.ld (Val := Elt Ideal) x (Rect.unit (s := S2048x1024) off S512x256.size inb) (ix2 r c) = x (ix2 ⟨A + r.val, hr⟩ ⟨B + c.val, hc⟩) := by
  subst h
  exact View.ld_unit_apply_of x _ _ inb (ix2 r c) _ (fun a => by fin_cases a <;> rfl)

/-- A load of `S256x256` from `S2048x1024`, at an index. -/
theorem ld_k2 (x : Vec Ideal S2048x1024 .bf16) (off : Fin 2 → Nat) (inb) (A B : ℕ) (h : off = ![A, B]) (r : Fin 256) (c : Fin 256)
    (hr : A + r.val < 2048) (hc : B + c.val < 1024) :
    View.ld (Val := Elt Ideal) x (Rect.unit (s := S2048x1024) off S256x256.size inb) (ix2 r c) = x (ix2 ⟨A + r.val, hr⟩ ⟨B + c.val, hc⟩) := by
  subst h
  exact View.ld_unit_apply_of x _ _ inb (ix2 r c) _ (fun a => by fin_cases a <;> rfl)

/-- A load of `S144x512` from `S576x2048`, at an index. -/
theorem ld_v (x : Vec Ideal S576x2048 .bf16) (off : Fin 2 → Nat) (inb) (A B : ℕ) (h : off = ![A, B]) (r : Fin 144) (c : Fin 512)
    (hr : A + r.val < 576) (hc : B + c.val < 2048) :
    View.ld (Val := Elt Ideal) x (Rect.unit (s := S576x2048) off S144x512.size inb) (ix2 r c) = x (ix2 ⟨A + r.val, hr⟩ ⟨B + c.val, hc⟩) := by
  subst h
  exact View.ld_unit_apply_of x _ _ inb (ix2 r c) _ (fun a => by fin_cases a <;> rfl)

/-- A load of `S144x256` from `S576x2048`, at an index. -/
theorem ld_v2 (x : Vec Ideal S576x2048 .bf16) (off : Fin 2 → Nat) (inb) (A B : ℕ) (h : off = ![A, B]) (r : Fin 144) (c : Fin 256)
    (hr : A + r.val < 576) (hc : B + c.val < 2048) :
    View.ld (Val := Elt Ideal) x (Rect.unit (s := S576x2048) off S144x256.size inb) (ix2 r c) = x (ix2 ⟨A + r.val, hr⟩ ⟨B + c.val, hc⟩) := by
  subst h
  exact View.ld_unit_apply_of x _ _ inb (ix2 r c) _ (fun a => by fin_cases a <;> rfl)

/-- The masked score of key `k` for query `c` of head `h`, the query block being the `b`-th. -/
def score (x0 : Vec Ideal S512x1024 .bf16) (x1 : Vec Ideal S2048x1024 .bf16) (h : Fin 4) (b : ℕ) (c : Fin 512) (k : ℕ) : EReal :=
  if hk : k < 2048 ∧ k ≤ 512 * b + c.val then
    ∑ d : Fin 256, x1 (ix2 ⟨k, hk.1⟩ ⟨256 * h.val + d.val, by omega⟩) * x0 (ix2 c ⟨256 * h.val + d.val, by omega⟩)
  else ⊥

/-- Channel `d` of the value of key `k` of head `h`. -/
def value (x2 : Vec Ideal S576x2048 .bf16) (h : Fin 4) (d : Fin 144) (k : ℕ) : EReal :=
  if hk : k < 2048 then x2 (ix2 ⟨144 * h.val + d.val, by omega⟩ ⟨k, hk⟩) else 0

theorem score_ite (x0 : Vec Ideal S512x1024 .bf16) (x1 : Vec Ideal S2048x1024 .bf16) (h : Fin 4) (b : ℕ) (c : Fin 512) (k : ℕ)
    (hk : k < 2048) : score x0 x1 h b c k = if k ≤ 512 * b + c.val then
      ∑ d : Fin 256, x1 (ix2 ⟨k, hk⟩ ⟨256 * h.val + d.val, by omega⟩) * x0 (ix2 c ⟨256 * h.val + d.val, by omega⟩) else ⊥ := by
  unfold score
  by_cases h' : k ≤ 512 * b + c.val
  · rw [dif_pos ⟨hk, h'⟩, if_pos h']
  · rw [dif_neg (fun h'' => h' h''.2), if_neg h']

theorem score_unmasked (x0 : Vec Ideal S512x1024 .bf16) (x1 : Vec Ideal S2048x1024 .bf16) (h : Fin 4) (b : ℕ) (c : Fin 512) (k : ℕ)
    (hk : k < 2048) (hb : k ≤ 512 * b + c.val) : score x0 x1 h b c k =
      ∑ d : Fin 256, x1 (ix2 ⟨k, hk⟩ ⟨256 * h.val + d.val, by omega⟩) * x0 (ix2 c ⟨256 * h.val + d.val, by omega⟩) := by
  rw [score_ite _ _ _ _ _ _ hk, if_pos hb]

theorem value_of (x2 : Vec Ideal S576x2048 .bf16) (h : Fin 4) (d : Fin 144) (k : ℕ) (hk : k < 2048) :
    value x2 h d k = x2 (ix2 ⟨144 * h.val + d.val, by omega⟩ ⟨k, hk⟩) := by
  unfold value; rw [dif_pos hk]

/-- One head's running maximum and accumulator after the first `n` keys. -/
def HeadInv (S : Fin 512 → ℕ → EReal) (V : Fin 144 → ℕ → EReal) (n : ℕ) (m : FVec Ideal S1x512 .f32) (a : FVec Ideal S144x512 .f32) : Prop :=
  ∀ c : Fin 512, m (ix2 0 c) = Online.top (S c) n ∧ ∀ d : Fin 144, a (ix2 d c) = Online.wsum (S c) (V d) n (Online.top (S c) n)

theorem sup_fin (f : ℕ → EReal) (n : ℕ) : (Finset.univ.sup fun r : Fin n => f r.val) = (Finset.range n).sup f := by
  apply le_antisymm
  · exact Finset.sup_le fun r _ => Finset.le_sup (f := f) (Finset.mem_range.mpr r.isLt)
  · exact Finset.sup_le fun k hk => Finset.le_sup (f := fun r : Fin n => f r.val) (Finset.mem_univ ⟨k, Finset.mem_range.mp hk⟩)

theorem init_inv (S : Fin 512 → ℕ → EReal) (V : Fin 144 → ℕ → EReal) : HeadInv S V 0 m0 a0 := by
  refine fun c => ⟨mask_bot, fun d => ?_⟩
  show Ideal.ofBits FTy.f32 0#32 = _
  simp [Online.wsum, Ideal.ofBits, Ideal.ieee]

/-- The block step, on any block of scores and values. -/
theorem step_core (S : Fin 512 → ℕ → EReal) (V : Fin 144 → ℕ → EReal) (hS : ∀ c k, S c k ≠ ⊤) (h0 : ∀ c, S c 0 ≠ ⊥)
    (n : ℕ) (m m' : FVec Ideal S1x512 .f32) (a a' : FVec Ideal S144x512 .f32) (I : HeadInv S V n m a)
    (hm : ∀ c, m' (ix2 0 c) = max (m (ix2 0 c)) (Finset.univ.sup fun r : Fin 512 => S c (n + r.val)))
    (ha : ∀ d c, a' (ix2 d c) = Ideal.exp2 (m (ix2 0 c) - m' (ix2 0 c)) * a (ix2 d c)
      + ∑ r : Fin 512, V d (n + r.val) * Ideal.exp2 (S c (n + r.val) - m' (ix2 0 c))) :
    HeadInv S V (n + 512) m' a' := by
  intro c
  have e : m' (ix2 0 c) = Online.top (S c) (n + 512) := by
    rw [hm, (I c).1, Online.top_add, ← sup_fin (fun r => S c (n + r)) 512]
  refine ⟨e, fun d => ?_⟩
  rw [ha, e, (I c).1, (I c).2 d, ← Online.step (S c) (hS c) (h0 c) (V d) n 512 (by norm_num)]
  refine congrArg (Ideal.exp2 (Online.top (S c) n - Online.top (S c) (n + 512)) * Online.wsum (S c) (V d) n (Online.top (S c) n) + ·) ?_
  exact Fin.sum_univ_eq_sum_range (fun r => V d (n + r) * Ideal.exp2 (S c (n + r) - Online.top (S c) (n + 512))) 512

/-- A full block's step. -/
theorem step_full (S : Fin 512 → ℕ → EReal) (V : Fin 144 → ℕ → EReal) (hS : ∀ c k, S c k ≠ ⊤) (h0 : ∀ c, S c 0 ≠ ⊥)
    (n : ℕ) (m : FVec Ideal S1x512 .f32) (a : FVec Ideal S144x512 .f32) (I : HeadInv S V n m a)
    (k q : Vec Ideal S512x256 .bf16) (v : Vec Ideal S144x512 .bf16)
    (hk : ∀ r c : Fin 512, S c (n + r.val) = ∑ d : Fin 256, k (ix2 r d) * q (ix2 c d))
    (hv : ∀ (d : Fin 144) (r : Fin 512), V d (n + r.val) = v (ix2 d r)) :
    HeadInv S V (n + 512) (rowMax m (scores k q)) (accum m (rowMax m (scores k q)) (scores k q) a v) := by
  refine step_core S V hS h0 n m _ a _ I (fun c => ?_) (fun d c => ?_)
  · rw [rowMax_apply]; simp only [scores_apply, hk]
  · rw [accum_apply]; simp only [scores_apply, hk, hv]

/-- The diagonal block's step and the quotient. -/
theorem step_diag (S : Fin 512 → ℕ → EReal) (V : Fin 144 → ℕ → EReal) (hS : ∀ c k, S c k ≠ ⊤) (h0 : ∀ c, S c 0 ≠ ⊥)
    (n : ℕ) (m : FVec Ideal S1x512 .f32) (a : FVec Ideal S144x512 .f32) (I : HeadInv S V n m a)
    (ka kb : Vec Ideal S256x256 .bf16) (q : Vec Ideal S512x256 .bf16) (q2 : Vec Ideal S256x256 .bf16) (va vb : Vec Ideal S144x256 .bf16)
    (hA : ∀ (r : Fin 256) (c : Fin 512), S c (n + r.val) = if r.val ≤ c.val then ∑ d : Fin 256, ka (ix2 r d) * q (ix2 c d) else ⊥)
    (hB : ∀ r c : Fin 256, S ⟨256 + c.val, by omega⟩ (n + (256 + r.val)) = if r.val ≤ c.val then ∑ d : Fin 256, kb (ix2 r d) * q2 (ix2 c d) else ⊥)
    (h1 : ∀ r c : Fin 512, 256 ≤ r.val → c.val < 256 → S c (n + r.val) = ⊥)
    (hva : ∀ (d : Fin 144) (r : Fin 256), V d (n + r.val) = va (ix2 d r))
    (hvb : ∀ (d : Fin 144) (r : Fin 256), V d (n + (256 + r.val)) = vb (ix2 d r)) (c : Fin 512) (d : Fin 128) :
    headOut m a ka kb q q2 va vb (ix2 c d)
      = Ideal.div (Online.wsum (S c) (V ⟨d.val, by omega⟩) (n + 512) (Online.top (S c) (n + 512)))
          (Online.wsum (S c) (V 128) (n + 512) (Online.top (S c) (n + 512))) := by
  have J := step_core S V hS h0 n m (maximumf m (diagTop (scoresA ka q) (scoresB kb q2))) a
    (accumD m (maximumf m (diagTop (scoresA ka q) (scoresB kb q2))) (scoresA ka q) (scoresB kb q2) a va vb) I
    (fun c => by
      show max _ _ = _
      rw [diagTop_apply _ _ (fun r c => S c (n + r.val)) (fun r c => by rw [scoresA_apply]; exact (hA r c).symm)
        (fun r c => by rw [scoresB_apply]; exact (hB r c).symm) h1])
    (fun d c => by
      rw [accumD_apply _ _ _ _ _ _ _ (fun r c => S c (n + r.val)) (fun d r => V d (n + r.val)) (fun r c => by rw [scoresA_apply]; exact (hA r c).symm)
        (fun r c => by rw [scoresB_apply]; exact (hB r c).symm) h1 (fun d r => (hva d r).symm) (fun d r => (hvb d r).symm)])
  unfold headOut
  rw [outHead_apply, (J c).2, (J c).2]

/-- The stored block at a column of head 0. -/
theorem canon0 (w0 w1 w2 w3 : FVec Ideal S512x128 .bf16) (q : Fin 512) (d : Fin 128) (hd : 0 + d.val < 512) :
    View.canon (Val := Elt Ideal) (s := S512x512) (e := .bf16) [⟨Rect.unit ![0, 384] ![512, 128] inb_S512x512_S512x128_0_384, w3⟩, ⟨Rect.unit ![0, 256] ![512, 128] inb_S512x512_S512x128_0_256, w2⟩, ⟨Rect.unit ![0, 128] ![512, 128] inb_S512x512_S512x128_0_128, w1⟩, ⟨Rect.unit ![0, 0] ![512, 128] inb_S512x512_S512x128_0_0, w0⟩] (ix2 q ⟨0 + d.val, hd⟩) = w0 (ix2 q d) := by
  rw [View.canon_cons_of_not_mem _ _ (by
    intro hx
    have := ((Rect.mem_set_unit (inb := inb_S512x512_S512x128_0_384)).mp hx 1).1
    simp at this
    omega)]
  rw [View.canon_cons_of_not_mem _ _ (by
    intro hx
    have := ((Rect.mem_set_unit (inb := inb_S512x512_S512x128_0_256)).mp hx 1).1
    simp at this
    omega)]
  rw [View.canon_cons_of_not_mem _ _ (by
    intro hx
    have := ((Rect.mem_set_unit (inb := inb_S512x512_S512x128_0_128)).mp hx 1).1
    simp at this
    omega)]
  have e : (ix2 q ⟨0 + d.val, hd⟩ : S512x512.Idx)
      = (Rect.unit (s := S512x512) ![0, 0] ![512, 128] inb_S512x512_S512x128_0_0).emb (ix2 q d) := by
    funext a; apply Fin.ext
    refine Eq.trans ?_ (Rect.idx_unit_val _ _ _ (ix2 q d) a).symm
    fin_cases a
    · exact (Nat.zero_add _).symm
    · rfl
  rw [e]
  exact View.canon_cons_emb _ _ _ _

/-- The stored block at a column of head 1. -/
theorem canon1 (w0 w1 w2 w3 : FVec Ideal S512x128 .bf16) (q : Fin 512) (d : Fin 128) (hd : 128 + d.val < 512) :
    View.canon (Val := Elt Ideal) (s := S512x512) (e := .bf16) [⟨Rect.unit ![0, 384] ![512, 128] inb_S512x512_S512x128_0_384, w3⟩, ⟨Rect.unit ![0, 256] ![512, 128] inb_S512x512_S512x128_0_256, w2⟩, ⟨Rect.unit ![0, 128] ![512, 128] inb_S512x512_S512x128_0_128, w1⟩, ⟨Rect.unit ![0, 0] ![512, 128] inb_S512x512_S512x128_0_0, w0⟩] (ix2 q ⟨128 + d.val, hd⟩) = w1 (ix2 q d) := by
  rw [View.canon_cons_of_not_mem _ _ (by
    intro hx
    have := ((Rect.mem_set_unit (inb := inb_S512x512_S512x128_0_384)).mp hx 1).1
    simp at this
    omega)]
  rw [View.canon_cons_of_not_mem _ _ (by
    intro hx
    have := ((Rect.mem_set_unit (inb := inb_S512x512_S512x128_0_256)).mp hx 1).1
    simp at this
    omega)]
  have e : (ix2 q ⟨128 + d.val, hd⟩ : S512x512.Idx)
      = (Rect.unit (s := S512x512) ![0, 128] ![512, 128] inb_S512x512_S512x128_0_128).emb (ix2 q d) := by
    funext a; apply Fin.ext
    refine Eq.trans ?_ (Rect.idx_unit_val _ _ _ (ix2 q d) a).symm
    fin_cases a
    · exact (Nat.zero_add _).symm
    · rfl
  rw [e]
  exact View.canon_cons_emb _ _ _ _

/-- The stored block at a column of head 2. -/
theorem canon2 (w0 w1 w2 w3 : FVec Ideal S512x128 .bf16) (q : Fin 512) (d : Fin 128) (hd : 256 + d.val < 512) :
    View.canon (Val := Elt Ideal) (s := S512x512) (e := .bf16) [⟨Rect.unit ![0, 384] ![512, 128] inb_S512x512_S512x128_0_384, w3⟩, ⟨Rect.unit ![0, 256] ![512, 128] inb_S512x512_S512x128_0_256, w2⟩, ⟨Rect.unit ![0, 128] ![512, 128] inb_S512x512_S512x128_0_128, w1⟩, ⟨Rect.unit ![0, 0] ![512, 128] inb_S512x512_S512x128_0_0, w0⟩] (ix2 q ⟨256 + d.val, hd⟩) = w2 (ix2 q d) := by
  rw [View.canon_cons_of_not_mem _ _ (by
    intro hx
    have := ((Rect.mem_set_unit (inb := inb_S512x512_S512x128_0_384)).mp hx 1).1
    simp at this
    omega)]
  have e : (ix2 q ⟨256 + d.val, hd⟩ : S512x512.Idx)
      = (Rect.unit (s := S512x512) ![0, 256] ![512, 128] inb_S512x512_S512x128_0_256).emb (ix2 q d) := by
    funext a; apply Fin.ext
    refine Eq.trans ?_ (Rect.idx_unit_val _ _ _ (ix2 q d) a).symm
    fin_cases a
    · exact (Nat.zero_add _).symm
    · rfl
  rw [e]
  exact View.canon_cons_emb _ _ _ _

/-- The stored block at a column of head 3. -/
theorem canon3 (w0 w1 w2 w3 : FVec Ideal S512x128 .bf16) (q : Fin 512) (d : Fin 128) (hd : 384 + d.val < 512) :
    View.canon (Val := Elt Ideal) (s := S512x512) (e := .bf16) [⟨Rect.unit ![0, 384] ![512, 128] inb_S512x512_S512x128_0_384, w3⟩, ⟨Rect.unit ![0, 256] ![512, 128] inb_S512x512_S512x128_0_256, w2⟩, ⟨Rect.unit ![0, 128] ![512, 128] inb_S512x512_S512x128_0_128, w1⟩, ⟨Rect.unit ![0, 0] ![512, 128] inb_S512x512_S512x128_0_0, w0⟩] (ix2 q ⟨384 + d.val, hd⟩) = w3 (ix2 q d) := by

  have e : (ix2 q ⟨384 + d.val, hd⟩ : S512x512.Idx)
      = (Rect.unit (s := S512x512) ![0, 384] ![512, 128] inb_S512x512_S512x128_0_384).emb (ix2 q d) := by
    funext a; apply Fin.ext
    refine Eq.trans ?_ (Rect.idx_unit_val _ _ _ (ix2 q d) a).symm
    fin_cases a
    · exact (Nat.zero_add _).symm
    · rfl
  rw [e]
  exact View.canon_cons_emb _ _ _ _

theorem t1_trips : ∀ i : grid0.Coords, (k0_t1_loop i).trips = (i 2).val := by decide +kernel
theorem t2_trips (i : grid0.Coords) : (k0_t2_loop i).trips = 0 := Nat.le_zero.mp (k0_t2_abs i).2.1

/-- All heads after `n` keys. -/
def Inv (x0 : Vec Ideal S512x1024 .bf16) (x1 : Vec Ideal S2048x1024 .bf16) (x2 : Vec Ideal S576x2048 .bf16) (i : grid0.Coords) (n : ℕ) (s : State Ideal) : Prop :=
  HeadInv (score x0 x1 0 (i 2).val) (value x2 0) n s.1 s.2.2.2.2.1
      ∧ HeadInv (score x0 x1 1 (i 2).val) (value x2 1) n s.2.1 s.2.2.2.2.2.1
      ∧ HeadInv (score x0 x1 2 (i 2).val) (value x2 2) n s.2.2.1 s.2.2.2.2.2.2.1
      ∧ HeadInv (score x0 x1 3 (i 2).val) (value x2 3) n s.2.2.2.1 s.2.2.2.2.2.2.2

theorem st_inv (c : Dev nD) (i : grid0.Coords) (arg3 : Memref sig .tc .vmem S512x1024 .bf16) (harg3 : arg3.IsWhole) (arg4 : Memref sig .tc .vmem S2048x1024 .bf16) (harg4 : arg4.IsWhole) (arg5 : Memref sig .tc .vmem S576x2048 .bf16) (harg5 : arg5.IsWhole) (arg6 : Memref sig .tc .vmem S512x512 .bf16) (harg6 : arg6.IsWhole)
    (x0 : Vec Ideal S512x1024 .bf16) (x1 : Vec Ideal S2048x1024 .bf16) (x2 : Vec Ideal S576x2048 .bf16)
    (hS : ∀ (h : Fin 4) (c : Fin 512) (k : ℕ), score x0 x1 h (i 2).val c k ≠ ⊤) (h0 : ∀ (h : Fin 4) (c : Fin 512), score x0 x1 h (i 2).val c 0 ≠ ⊥) (n : ℕ) (hn : n ≤ (i 2).val) :
    Inv x0 x1 x2 i (512 * n) (st_k0_t1 (F := Ideal) Variants.none c none i arg3 harg3 arg4 harg4 arg5 harg5 arg6 harg6 (harg3.unread x0) (harg4.unread x1) (harg5.unread x2) (m0, m0, m0, m0, a0, a0, a0, a0) n) := by
  have hi : (i 2).val < 4 := (i 2).isLt
  induction n with
  | zero => exact ⟨init_inv _ _, init_inv _ _, init_inv _ _, init_inv _ _⟩
  | succ n ih =>
    have hn : n < (k0_t1_loop i).trips := by rw [t1_trips]; omega
    have ih := ih (by omega)
    have e := st_k0_t1_succ (F := Ideal) Variants.none c none i arg3 harg3 arg4 harg4 arg5 harg5 arg6 harg6 (harg3.unread x0) (harg4.unread x1) (harg5.unread x2) (m0, m0, m0, m0, a0, a0, a0, a0) ⟨n, hn⟩
    dsimp only at e
    rw [e]
    generalize st_k0_t1 (F := Ideal) Variants.none c none i arg3 harg3 arg4 harg4 arg5 harg5 arg6 harg6 (harg3.unread x0) (harg4.unread x1) (harg5.unread x2) (m0, m0, m0, m0, a0, a0, a0, a0) n = s at ih
    obtain ⟨b0, b1, b2, b3, b4, b5, b6, b7⟩ := s
    obtain ⟨i0, i1, i2, i3⟩ := ih
    dsimp only at i0 i1 i2 i3
    rw [show 512 * (n + 1) = 512 * n + 512 from rfl]
    unfold tripR_k0_t1
    rw [trip_val]
    refine ⟨?_, ?_, ?_, ?_⟩ <;> dsimp only
    · refine step_full _ _ (hS 0) (h0 0) _ _ _ i0 _ _ _ (fun r c => ?_) (fun d r => ?_)
      · rw [score_unmasked _ _ _ _ _ _ (by omega) (by omega)]
        refine Finset.sum_congr rfl fun d _ => ?_
        rw [View.readAt_eq_ld, View.readAt_eq_ld, harg3.read_unread, harg4.read_unread,
          ld_k x1 _ _ _ _ (k0_off1_eq i ⟨n, hn⟩) r d (by dsimp only; omega) (by omega),
          ld_q x0 _ _ 0 0 rfl c d (by omega) (by omega)]
        exact congrArg₂ (· * ·) (congrArg x1 (ix2_congr rfl rfl)) (congrArg x0 (ix2_congr (by simp) rfl))
      · rw [View.readAt_eq_ld, harg5.read_unread,
          ld_v x2 _ _ _ _ (k0_off4_eq i ⟨n, hn⟩) d r (by omega) (by dsimp only; omega), value_of _ _ _ _ (by omega)]
        exact congrArg x2 (ix2_congr rfl rfl)
    · refine step_full _ _ (hS 1) (h0 1) _ _ _ i1 _ _ _ (fun r c => ?_) (fun d r => ?_)
      · rw [score_unmasked _ _ _ _ _ _ (by omega) (by omega)]
        refine Finset.sum_congr rfl fun d _ => ?_
        rw [View.readAt_eq_ld, View.readAt_eq_ld, harg3.read_unread, harg4.read_unread,
          ld_k x1 _ _ _ _ (k0_off2_eq i ⟨n, hn⟩) r d (by dsimp only; omega) (by omega),
          ld_q x0 _ _ 0 256 rfl c d (by omega) (by omega)]
        exact congrArg₂ (· * ·) (congrArg x1 (ix2_congr rfl rfl)) (congrArg x0 (ix2_congr (by simp) rfl))
      · rw [View.readAt_eq_ld, harg5.read_unread,
          ld_v x2 _ _ _ _ (k0_off6_eq i ⟨n, hn⟩) d r (by omega) (by dsimp only; omega), value_of _ _ _ _ (by omega)]
        exact congrArg x2 (ix2_congr rfl rfl)
    · refine step_full _ _ (hS 2) (h0 2) _ _ _ i2 _ _ _ (fun r c => ?_) (fun d r => ?_)
      · rw [score_unmasked _ _ _ _ _ _ (by omega) (by omega)]
        refine Finset.sum_congr rfl fun d _ => ?_
        rw [View.readAt_eq_ld, View.readAt_eq_ld, harg3.read_unread, harg4.read_unread,
          ld_k x1 _ _ _ _ (k0_off3_eq i ⟨n, hn⟩) r d (by dsimp only; omega) (by omega),
          ld_q x0 _ _ 0 512 rfl c d (by omega) (by omega)]
        exact congrArg₂ (· * ·) (congrArg x1 (ix2_congr rfl rfl)) (congrArg x0 (ix2_congr (by simp) rfl))
      · rw [View.readAt_eq_ld, harg5.read_unread,
          ld_v x2 _ _ _ _ (k0_off7_eq i ⟨n, hn⟩) d r (by omega) (by dsimp only; omega), value_of _ _ _ _ (by omega)]
        exact congrArg x2 (ix2_congr rfl rfl)
    · refine step_full _ _ (hS 3) (h0 3) _ _ _ i3 _ _ _ (fun r c => ?_) (fun d r => ?_)
      · rw [score_unmasked _ _ _ _ _ _ (by omega) (by omega)]
        refine Finset.sum_congr rfl fun d _ => ?_
        rw [View.readAt_eq_ld, View.readAt_eq_ld, harg3.read_unread, harg4.read_unread,
          ld_k x1 _ _ _ _ (k0_off5_eq i ⟨n, hn⟩) r d (by dsimp only; omega) (by omega),
          ld_q x0 _ _ 0 768 rfl c d (by omega) (by omega)]
        exact congrArg₂ (· * ·) (congrArg x1 (ix2_congr rfl rfl)) (congrArg x0 (ix2_congr (by simp) rfl))
      · rw [View.readAt_eq_ld, harg5.read_unread,
          ld_v x2 _ _ _ _ (k0_off8_eq i ⟨n, hn⟩) d r (by omega) (by dsimp only; omega), value_of _ _ _ _ (by omega)]
        exact congrArg x2 (ix2_congr rfl rfl)

theorem loop_inv (c : Dev nD) (i : grid0.Coords) (arg3 : Memref sig .tc .vmem S512x1024 .bf16) (harg3 : arg3.IsWhole) (arg4 : Memref sig .tc .vmem S2048x1024 .bf16) (harg4 : arg4.IsWhole) (arg5 : Memref sig .tc .vmem S576x2048 .bf16) (harg5 : arg5.IsWhole) (arg6 : Memref sig .tc .vmem S512x512 .bf16) (harg6 : arg6.IsWhole)
    (x0 : Vec Ideal S512x1024 .bf16) (x1 : Vec Ideal S2048x1024 .bf16) (x2 : Vec Ideal S576x2048 .bf16)
    (hS : ∀ (h : Fin 4) (c : Fin 512) (k : ℕ), score x0 x1 h (i 2).val c k ≠ ⊤) (h0 : ∀ (h : Fin 4) (c : Fin 512), score x0 x1 h (i 2).val c 0 ≠ ⊥) :
    Inv x0 x1 x2 i (512 * (i 2).val) (loopOut (F := Ideal) c i arg3 harg3 arg4 harg4 arg5 harg5 arg6 harg6 x0 x1 x2) := by
  unfold loopOut
  rw [t2_trips, t1_trips]
  exact st_inv c i arg3 harg3 arg4 harg4 arg5 harg5 arg6 harg6 x0 x1 x2 hS h0 _ (le_refl _)

/-- Head 0's output at a grid point. -/
theorem out_head0 (c : Dev nD) (i : grid0.Coords) (arg3 : Memref sig .tc .vmem S512x1024 .bf16) (harg3 : arg3.IsWhole) (arg4 : Memref sig .tc .vmem S2048x1024 .bf16) (harg4 : arg4.IsWhole) (arg5 : Memref sig .tc .vmem S576x2048 .bf16) (harg5 : arg5.IsWhole) (arg6 : Memref sig .tc .vmem S512x512 .bf16) (harg6 : arg6.IsWhole)
    (x0 : Vec Ideal S512x1024 .bf16) (x1 : Vec Ideal S2048x1024 .bf16) (x2 : Vec Ideal S576x2048 .bf16)
    (hS : ∀ (h : Fin 4) (c : Fin 512) (k : ℕ), score x0 x1 h (i 2).val c k ≠ ⊤) (h0 : ∀ (h : Fin 4) (c : Fin 512), score x0 x1 h (i 2).val c 0 ≠ ⊥)
    (q : Fin 512) (d : Fin 128) :
    out0_A_3 (F := Ideal) c i arg3 harg3 arg4 harg4 arg5 harg5 arg6 harg6 x0 x1 x2 (ix2 q ⟨0 + d.val, by omega⟩)
      = Ideal.div (Online.wsum (score x0 x1 0 (i 2).val q) (value x2 0 ⟨d.val, by omega⟩) (512 * (i 2).val + 512)
            (Online.top (score x0 x1 0 (i 2).val q) (512 * (i 2).val + 512)))
          (Online.wsum (score x0 x1 0 (i 2).val q) (value x2 0 128) (512 * (i 2).val + 512)
            (Online.top (score x0 x1 0 (i 2).val q) (512 * (i 2).val + 512))) := by
  have hi : (i 2).val < 4 := (i 2).isLt
  have I := loop_inv c i arg3 harg3 arg4 harg4 arg5 harg5 arg6 harg6 x0 x1 x2 hS h0
  unfold out0_A_3
  rw [View.read_writes_eq_canon _ _ _ (cover0_A_3 c i arg3 harg3 arg4 harg4 arg5 harg5 arg6 harg6 x0 x1 x2), pieces]
  refine (canon0 _ _ _ _ q d (by omega)).trans ?_
  obtain ⟨i0, i1, i2, i3⟩ := I
  refine step_diag _ _ (hS 0) (h0 0) _ _ _ i0 _ _ _ _ _ _ (fun r c => ?_) (fun r c => ?_) (fun r c => ?_) (fun d r => ?_) (fun d r => ?_) _ _
  · rw [score_ite _ _ _ _ _ _ (by omega)]
    refine if_congr (by dsimp only; omega) (Finset.sum_congr rfl fun d _ => ?_) rfl
    rw [View.readAt_eq_ld, View.readAt_eq_ld, harg3.read_unread, harg4.read_unread,
      ld_k2 x1 _ _ _ _ (k0_off17_eq i) r d (by omega) (by omega), ld_q x0 _ _ 0 0 rfl c d (by omega) (by omega)]
    exact congrArg₂ (· * ·) (congrArg x1 (ix2_congr rfl rfl)) (congrArg x0 (ix2_congr (by simp) rfl))
  · rw [score_ite _ _ _ _ _ _ (by omega)]
    refine if_congr (by dsimp only; omega) (Finset.sum_congr rfl fun d _ => ?_) rfl
    rw [View.readAt_eq_ld, View.readAt_eq_ld, harg3.read_unread, harg4.read_unread,
      ld_k2 x1 _ _ _ _ (k0_off18_eq i) r d (by omega) (by omega), ld_q2 x0 _ _ 256 0 rfl c d (by omega) (by omega)]
    exact congrArg₂ (· * ·) (congrArg x1 (ix2_congr (by dsimp only; omega) rfl)) (congrArg x0 (ix2_congr rfl rfl))
  · intro h1 h2
    unfold score; rw [dif_neg (by omega)]
  · rw [View.readAt_eq_ld, harg5.read_unread, ld_v2 x2 _ _ _ _ (k0_off23_eq i) d r (by omega) (by omega), value_of _ _ _ _ (by omega)]
    exact congrArg x2 (ix2_congr rfl rfl)
  · rw [View.readAt_eq_ld, harg5.read_unread, ld_v2 x2 _ _ _ _ (k0_off24_eq i) d r (by omega) (by omega), value_of _ _ _ _ (by omega)]
    exact congrArg x2 (ix2_congr rfl (by dsimp only; omega))

/-- Head 1's output at a grid point. -/
theorem out_head1 (c : Dev nD) (i : grid0.Coords) (arg3 : Memref sig .tc .vmem S512x1024 .bf16) (harg3 : arg3.IsWhole) (arg4 : Memref sig .tc .vmem S2048x1024 .bf16) (harg4 : arg4.IsWhole) (arg5 : Memref sig .tc .vmem S576x2048 .bf16) (harg5 : arg5.IsWhole) (arg6 : Memref sig .tc .vmem S512x512 .bf16) (harg6 : arg6.IsWhole)
    (x0 : Vec Ideal S512x1024 .bf16) (x1 : Vec Ideal S2048x1024 .bf16) (x2 : Vec Ideal S576x2048 .bf16)
    (hS : ∀ (h : Fin 4) (c : Fin 512) (k : ℕ), score x0 x1 h (i 2).val c k ≠ ⊤) (h0 : ∀ (h : Fin 4) (c : Fin 512), score x0 x1 h (i 2).val c 0 ≠ ⊥)
    (q : Fin 512) (d : Fin 128) :
    out0_A_3 (F := Ideal) c i arg3 harg3 arg4 harg4 arg5 harg5 arg6 harg6 x0 x1 x2 (ix2 q ⟨128 + d.val, by omega⟩)
      = Ideal.div (Online.wsum (score x0 x1 1 (i 2).val q) (value x2 1 ⟨d.val, by omega⟩) (512 * (i 2).val + 512)
            (Online.top (score x0 x1 1 (i 2).val q) (512 * (i 2).val + 512)))
          (Online.wsum (score x0 x1 1 (i 2).val q) (value x2 1 128) (512 * (i 2).val + 512)
            (Online.top (score x0 x1 1 (i 2).val q) (512 * (i 2).val + 512))) := by
  have hi : (i 2).val < 4 := (i 2).isLt
  have I := loop_inv c i arg3 harg3 arg4 harg4 arg5 harg5 arg6 harg6 x0 x1 x2 hS h0
  unfold out0_A_3
  rw [View.read_writes_eq_canon _ _ _ (cover0_A_3 c i arg3 harg3 arg4 harg4 arg5 harg5 arg6 harg6 x0 x1 x2), pieces]
  refine (canon1 _ _ _ _ q d (by omega)).trans ?_
  obtain ⟨i0, i1, i2, i3⟩ := I
  refine step_diag _ _ (hS 1) (h0 1) _ _ _ i1 _ _ _ _ _ _ (fun r c => ?_) (fun r c => ?_) (fun r c => ?_) (fun d r => ?_) (fun d r => ?_) _ _
  · rw [score_ite _ _ _ _ _ _ (by omega)]
    refine if_congr (by dsimp only; omega) (Finset.sum_congr rfl fun d _ => ?_) rfl
    rw [View.readAt_eq_ld, View.readAt_eq_ld, harg3.read_unread, harg4.read_unread,
      ld_k2 x1 _ _ _ _ (k0_off19_eq i) r d (by omega) (by omega), ld_q x0 _ _ 0 256 rfl c d (by omega) (by omega)]
    exact congrArg₂ (· * ·) (congrArg x1 (ix2_congr rfl rfl)) (congrArg x0 (ix2_congr (by simp) rfl))
  · rw [score_ite _ _ _ _ _ _ (by omega)]
    refine if_congr (by dsimp only; omega) (Finset.sum_congr rfl fun d _ => ?_) rfl
    rw [View.readAt_eq_ld, View.readAt_eq_ld, harg3.read_unread, harg4.read_unread,
      ld_k2 x1 _ _ _ _ (k0_off20_eq i) r d (by omega) (by omega), ld_q2 x0 _ _ 256 256 rfl c d (by omega) (by omega)]
    exact congrArg₂ (· * ·) (congrArg x1 (ix2_congr (by dsimp only; omega) rfl)) (congrArg x0 (ix2_congr rfl rfl))
  · intro h1 h2
    unfold score; rw [dif_neg (by omega)]
  · rw [View.readAt_eq_ld, harg5.read_unread, ld_v2 x2 _ _ _ _ (k0_off27_eq i) d r (by omega) (by omega), value_of _ _ _ _ (by omega)]
    exact congrArg x2 (ix2_congr rfl rfl)
  · rw [View.readAt_eq_ld, harg5.read_unread, ld_v2 x2 _ _ _ _ (k0_off28_eq i) d r (by omega) (by omega), value_of _ _ _ _ (by omega)]
    exact congrArg x2 (ix2_congr rfl (by dsimp only; omega))

/-- Head 2's output at a grid point. -/
theorem out_head2 (c : Dev nD) (i : grid0.Coords) (arg3 : Memref sig .tc .vmem S512x1024 .bf16) (harg3 : arg3.IsWhole) (arg4 : Memref sig .tc .vmem S2048x1024 .bf16) (harg4 : arg4.IsWhole) (arg5 : Memref sig .tc .vmem S576x2048 .bf16) (harg5 : arg5.IsWhole) (arg6 : Memref sig .tc .vmem S512x512 .bf16) (harg6 : arg6.IsWhole)
    (x0 : Vec Ideal S512x1024 .bf16) (x1 : Vec Ideal S2048x1024 .bf16) (x2 : Vec Ideal S576x2048 .bf16)
    (hS : ∀ (h : Fin 4) (c : Fin 512) (k : ℕ), score x0 x1 h (i 2).val c k ≠ ⊤) (h0 : ∀ (h : Fin 4) (c : Fin 512), score x0 x1 h (i 2).val c 0 ≠ ⊥)
    (q : Fin 512) (d : Fin 128) :
    out0_A_3 (F := Ideal) c i arg3 harg3 arg4 harg4 arg5 harg5 arg6 harg6 x0 x1 x2 (ix2 q ⟨256 + d.val, by omega⟩)
      = Ideal.div (Online.wsum (score x0 x1 2 (i 2).val q) (value x2 2 ⟨d.val, by omega⟩) (512 * (i 2).val + 512)
            (Online.top (score x0 x1 2 (i 2).val q) (512 * (i 2).val + 512)))
          (Online.wsum (score x0 x1 2 (i 2).val q) (value x2 2 128) (512 * (i 2).val + 512)
            (Online.top (score x0 x1 2 (i 2).val q) (512 * (i 2).val + 512))) := by
  have hi : (i 2).val < 4 := (i 2).isLt
  have I := loop_inv c i arg3 harg3 arg4 harg4 arg5 harg5 arg6 harg6 x0 x1 x2 hS h0
  unfold out0_A_3
  rw [View.read_writes_eq_canon _ _ _ (cover0_A_3 c i arg3 harg3 arg4 harg4 arg5 harg5 arg6 harg6 x0 x1 x2), pieces]
  refine (canon2 _ _ _ _ q d (by omega)).trans ?_
  obtain ⟨i0, i1, i2, i3⟩ := I
  refine step_diag _ _ (hS 2) (h0 2) _ _ _ i2 _ _ _ _ _ _ (fun r c => ?_) (fun r c => ?_) (fun r c => ?_) (fun d r => ?_) (fun d r => ?_) _ _
  · rw [score_ite _ _ _ _ _ _ (by omega)]
    refine if_congr (by dsimp only; omega) (Finset.sum_congr rfl fun d _ => ?_) rfl
    rw [View.readAt_eq_ld, View.readAt_eq_ld, harg3.read_unread, harg4.read_unread,
      ld_k2 x1 _ _ _ _ (k0_off21_eq i) r d (by omega) (by omega), ld_q x0 _ _ 0 512 rfl c d (by omega) (by omega)]
    exact congrArg₂ (· * ·) (congrArg x1 (ix2_congr rfl rfl)) (congrArg x0 (ix2_congr (by simp) rfl))
  · rw [score_ite _ _ _ _ _ _ (by omega)]
    refine if_congr (by dsimp only; omega) (Finset.sum_congr rfl fun d _ => ?_) rfl
    rw [View.readAt_eq_ld, View.readAt_eq_ld, harg3.read_unread, harg4.read_unread,
      ld_k2 x1 _ _ _ _ (k0_off22_eq i) r d (by omega) (by omega), ld_q2 x0 _ _ 256 512 rfl c d (by omega) (by omega)]
    exact congrArg₂ (· * ·) (congrArg x1 (ix2_congr (by dsimp only; omega) rfl)) (congrArg x0 (ix2_congr rfl rfl))
  · intro h1 h2
    unfold score; rw [dif_neg (by omega)]
  · rw [View.readAt_eq_ld, harg5.read_unread, ld_v2 x2 _ _ _ _ (k0_off29_eq i) d r (by omega) (by omega), value_of _ _ _ _ (by omega)]
    exact congrArg x2 (ix2_congr rfl rfl)
  · rw [View.readAt_eq_ld, harg5.read_unread, ld_v2 x2 _ _ _ _ (k0_off30_eq i) d r (by omega) (by omega), value_of _ _ _ _ (by omega)]
    exact congrArg x2 (ix2_congr rfl (by dsimp only; omega))

/-- Head 3's output at a grid point. -/
theorem out_head3 (c : Dev nD) (i : grid0.Coords) (arg3 : Memref sig .tc .vmem S512x1024 .bf16) (harg3 : arg3.IsWhole) (arg4 : Memref sig .tc .vmem S2048x1024 .bf16) (harg4 : arg4.IsWhole) (arg5 : Memref sig .tc .vmem S576x2048 .bf16) (harg5 : arg5.IsWhole) (arg6 : Memref sig .tc .vmem S512x512 .bf16) (harg6 : arg6.IsWhole)
    (x0 : Vec Ideal S512x1024 .bf16) (x1 : Vec Ideal S2048x1024 .bf16) (x2 : Vec Ideal S576x2048 .bf16)
    (hS : ∀ (h : Fin 4) (c : Fin 512) (k : ℕ), score x0 x1 h (i 2).val c k ≠ ⊤) (h0 : ∀ (h : Fin 4) (c : Fin 512), score x0 x1 h (i 2).val c 0 ≠ ⊥)
    (q : Fin 512) (d : Fin 128) :
    out0_A_3 (F := Ideal) c i arg3 harg3 arg4 harg4 arg5 harg5 arg6 harg6 x0 x1 x2 (ix2 q ⟨384 + d.val, by omega⟩)
      = Ideal.div (Online.wsum (score x0 x1 3 (i 2).val q) (value x2 3 ⟨d.val, by omega⟩) (512 * (i 2).val + 512)
            (Online.top (score x0 x1 3 (i 2).val q) (512 * (i 2).val + 512)))
          (Online.wsum (score x0 x1 3 (i 2).val q) (value x2 3 128) (512 * (i 2).val + 512)
            (Online.top (score x0 x1 3 (i 2).val q) (512 * (i 2).val + 512))) := by
  have hi : (i 2).val < 4 := (i 2).isLt
  have I := loop_inv c i arg3 harg3 arg4 harg4 arg5 harg5 arg6 harg6 x0 x1 x2 hS h0
  unfold out0_A_3
  rw [View.read_writes_eq_canon _ _ _ (cover0_A_3 c i arg3 harg3 arg4 harg4 arg5 harg5 arg6 harg6 x0 x1 x2), pieces]
  refine (canon3 _ _ _ _ q d (by omega)).trans ?_
  obtain ⟨i0, i1, i2, i3⟩ := I
  refine step_diag _ _ (hS 3) (h0 3) _ _ _ i3 _ _ _ _ _ _ (fun r c => ?_) (fun r c => ?_) (fun r c => ?_) (fun d r => ?_) (fun d r => ?_) _ _
  · rw [score_ite _ _ _ _ _ _ (by omega)]
    refine if_congr (by dsimp only; omega) (Finset.sum_congr rfl fun d _ => ?_) rfl
    rw [View.readAt_eq_ld, View.readAt_eq_ld, harg3.read_unread, harg4.read_unread,
      ld_k2 x1 _ _ _ _ (k0_off25_eq i) r d (by omega) (by omega), ld_q x0 _ _ 0 768 rfl c d (by omega) (by omega)]
    exact congrArg₂ (· * ·) (congrArg x1 (ix2_congr rfl rfl)) (congrArg x0 (ix2_congr (by simp) rfl))
  · rw [score_ite _ _ _ _ _ _ (by omega)]
    refine if_congr (by dsimp only; omega) (Finset.sum_congr rfl fun d _ => ?_) rfl
    rw [View.readAt_eq_ld, View.readAt_eq_ld, harg3.read_unread, harg4.read_unread,
      ld_k2 x1 _ _ _ _ (k0_off26_eq i) r d (by omega) (by omega), ld_q2 x0 _ _ 256 768 rfl c d (by omega) (by omega)]
    exact congrArg₂ (· * ·) (congrArg x1 (ix2_congr (by dsimp only; omega) rfl)) (congrArg x0 (ix2_congr rfl rfl))
  · intro h1 h2
    unfold score; rw [dif_neg (by omega)]
  · rw [View.readAt_eq_ld, harg5.read_unread, ld_v2 x2 _ _ _ _ (k0_off31_eq i) d r (by omega) (by omega), value_of _ _ _ _ (by omega)]
    exact congrArg x2 (ix2_congr rfl rfl)
  · rw [View.readAt_eq_ld, harg5.read_unread, ld_v2 x2 _ _ _ _ (k0_off32_eq i) d r (by omega) (by omega), value_of _ _ _ _ (by omega)]
    exact congrArg x2 (ix2_congr rfl (by dsimp only; omega))

end Cert.KernelIdeal.Attn
end
-- ==== Proof.Attn.Host.lean ====
module

public import proofs.«01_k».proof.Proof.Attn.Block
public import proofs.«01_k».proof.Proof.Gen.KernelIdeal.Value
public import Idealize.ShloMosaic.Lib.StableHlo.ReadAt
public import Idealize.ShloMosaic.Lib.Pipeline.ValueKit.Point
public import Idealize.ShloMosaic.Lib.Pointwise

/-! The arrays the host prepares for the attention kernel, read at an index. -/

@[expose] public section

set_option maxRecDepth 16384
noncomputable section
namespace Cert.KernelIdeal.Attn
open Cert.KernelIdeal Cert.KernelIdeal.Gen Idealize.ShloMosaic Idealize.ShloMosaic.TcCoe Idealize.SL.Sem

variable (m : (ℓ : Loc nD τ sig) → Buf (Elt Ideal) ℓ)

/-- The argument arrays. -/
abbrev xqn (c : Dev nD) : S8x2048x8x128.Idx → EReal := m ((c : Thread nD τ).loc main_arg0)
abbrev xqp (c : Dev nD) : S8x2048x8x64.Idx → EReal := m ((c : Thread nD τ).loc main_arg1)
abbrev xkn (c : Dev nD) : S8x2048x8x128.Idx → EReal := m ((c : Thread nD τ).loc main_arg2)
abbrev xkp (c : Dev nD) : S8x2048x64.Idx → EReal := m ((c : Thread nD τ).loc main_arg3)
abbrev xv (c : Dev nD) : S8x2048x8x128.Idx → EReal := m ((c : Thread nD τ).loc main_arg4)

/-- The score scale times `1 / log 2`. -/
def scale2 : EReal := Ideal.div (Ideal.ofBits FTy.f32 0x3F800000#32)
  (Ideal.sqrt (Ideal.ofBits FTy.f32 0x43400000#32) * Ideal.log (Ideal.ofBits FTy.f32 0x40000000#32))

theorem one_bits : Ideal.ofBits FTy.f32 0x3F800000#32 = 1 := by
  simp [Ideal.ofBits, Ideal.ieee, -EReal.coe_mul]; norm_num

/-- The first 128 columns of a head of the queries: the content part, scaled. -/
theorem q_nope (c : Dev nD) (b : Fin 8) (t : Fin 2048) (h : Fin 8) (d : Fin 256) (hd : d.val < 128) :
    V m c main_v13 (ix2 ⟨2048 * b.val + t.val, by omega⟩ ⟨256 * h.val + d.val, by omega⟩)
      = xqn m c (ix4 b t h ⟨d.val, hd⟩) * scale2 := by
  unfold V
  after_reads_at
  have e1 : (256 * h.val + d.val) % 256 = d.val := by omega
  have e2 : (256 * h.val + d.val) / 256 = h.val := by omega
  simp only [e1, e2, dif_pos hd]
  after_reads_at
  have e5 : (2048 * b.val + t.val) / 2048 = b.val := by omega
  have e6 : (2048 * b.val + t.val) % 2048 = t.val := by omega
  simp only [e5, e6, Fin.eta, scale2, one_bits]

/-- The next 64 columns: the position part, scaled. -/
theorem q_pe (c : Dev nD) (b : Fin 8) (t : Fin 2048) (h : Fin 8) (d : Fin 256) (hd : ¬ d.val < 128) (hd' : d.val - 128 < 64) :
    V m c main_v13 (ix2 ⟨2048 * b.val + t.val, by omega⟩ ⟨256 * h.val + d.val, by omega⟩)
      = xqp m c (ix4 b t h ⟨d.val - 128, hd'⟩) * scale2 := by
  unfold V
  after_reads_at
  have e1 : (256 * h.val + d.val) % 256 = d.val := by omega
  have e2 : (256 * h.val + d.val) / 256 = h.val := by omega
  simp only [e1, e2, dif_neg hd, dif_pos hd']
  after_reads_at
  have e5 : (2048 * b.val + t.val) / 2048 = b.val := by omega
  have e6 : (2048 * b.val + t.val) % 2048 = t.val := by omega
  simp only [e5, e6, Fin.eta, scale2, one_bits]

/-- The last 64 columns are zeros. -/
theorem q_zero (c : Dev nD) (b : Fin 8) (t : Fin 2048) (h : Fin 8) (d : Fin 256) (hd : ¬ d.val < 128) (hd' : ¬ d.val - 128 < 64) :
    V m c main_v13 (ix2 ⟨2048 * b.val + t.val, by omega⟩ ⟨256 * h.val + d.val, by omega⟩) = (0 : EReal) := by
  unfold V
  after_reads_at
  have e1 : (256 * h.val + d.val) % 256 = d.val := by omega
  have e2 : (256 * h.val + d.val) / 256 = h.val := by omega
  simp only [e1, e2, dif_neg hd, dif_neg hd']
  after_reads_at

/-- The first 128 columns of a head of the keys. -/
theorem k_nope (c : Dev nD) (b : Fin 8) (t : Fin 2048) (h : Fin 8) (d : Fin 256) (hd : d.val < 128) :
    V m c main_v19 (ix2 ⟨2048 * b.val + t.val, by omega⟩ ⟨256 * h.val + d.val, by omega⟩)
      = xkn m c (ix4 b t h ⟨d.val, hd⟩) := by
  unfold V
  after_reads_at
  have e1 : (256 * h.val + d.val) % 256 = d.val := by omega
  have e2 : (256 * h.val + d.val) / 256 = h.val := by omega
  simp only [e1, e2, dif_pos hd]
  after_reads_at

/-- The next 64 columns: the position part, shared by the heads. -/
theorem k_pe (c : Dev nD) (b : Fin 8) (t : Fin 2048) (h : Fin 8) (d : Fin 256) (hd : ¬ d.val < 128) (hd' : d.val - 128 < 64) :
    V m c main_v19 (ix2 ⟨2048 * b.val + t.val, by omega⟩ ⟨256 * h.val + d.val, by omega⟩)
      = xkp m c (ix3 b t ⟨d.val - 128, hd'⟩) := by
  unfold V
  after_reads_at
  have e1 : (256 * h.val + d.val) % 256 = d.val := by omega
  have e2 : (256 * h.val + d.val) / 256 = h.val := by omega
  simp only [e1, e2, dif_neg hd, dif_pos hd']
  after_reads_at
  have e5 : (2048 * b.val + t.val) / 2048 = b.val := by omega
  have e6 : (2048 * b.val + t.val) % 2048 = t.val := by omega
  simp only [e5, e6, Fin.eta, scale2, one_bits]

/-- The last 64 columns are zeros. -/
theorem k_zero (c : Dev nD) (b : Fin 8) (t : Fin 2048) (h : Fin 8) (d : Fin 256) (hd : ¬ d.val < 128) (hd' : ¬ d.val - 128 < 64) :
    V m c main_v19 (ix2 ⟨2048 * b.val + t.val, by omega⟩ ⟨256 * h.val + d.val, by omega⟩) = (0 : EReal) := by
  unfold V
  after_reads_at
  have e1 : (256 * h.val + d.val) % 256 = d.val := by omega
  have e2 : (256 * h.val + d.val) / 256 = h.val := by omega
  simp only [e1, e2, dif_neg hd, dif_neg hd']
  after_reads_at

/-- The first 128 rows of a head of the transposed values. -/
theorem v_val (c : Dev nD) (b : Fin 8) (t : Fin 2048) (h : Fin 8) (d : Fin 144) (hd : d.val < 128) :
    V m c main_v25 (ix2 ⟨144 * h.val + d.val, by omega⟩ ⟨2048 * b.val + t.val, by omega⟩) = xv m c (ix4 b t h ⟨d.val, hd⟩) := by
  unfold V
  after_reads_at
  have e1 : (144 * h.val + d.val) % 144 = d.val := by omega
  have e2 : (144 * h.val + d.val) / 144 = h.val := by omega
  simp only [e1, e2, dif_pos hd]
  after_reads_at

/-- The rows below them are ones. -/
theorem v_one (c : Dev nD) (b : Fin 8) (t : Fin 2048) (h : Fin 8) :
    V m c main_v25 (ix2 ⟨144 * h.val + 128, by omega⟩ ⟨2048 * b.val + t.val, by omega⟩) = (1 : EReal) := by
  unfold V
  after_reads_at
  have e1 : (144 * h.val + 128) % 144 = 128 := by omega
  have e2 : (144 * h.val + 128) / 144 = h.val := by omega
  simp only [e1, e2, dif_neg (show ¬ 128 < 128 by omega)]
  after_reads_at

end Cert.KernelIdeal.Attn
end
-- ==== Proof.Attn.Ref.lean ====
module

public import proofs.«01_k».proof.Proof.Attn.Online
public import proofs.«01_k».proof.Proof.Gen.ReferenceIdeal.Read
public import Idealize.ShloMosaic.Lib.Pointwise
public import Idealize.ShloMosaic.Lib.WordCmp

/-! The attention's reference, read at an index. -/

@[expose] public section

set_option maxRecDepth 16384
noncomputable section
namespace Cert.ReferenceIdeal.Attn
open Cert.ReferenceIdeal Cert.ReferenceIdeal.Gen Cert.ReferenceIdeal.Read Idealize.ShloMosaic Idealize.ShloMosaic.TcCoe Idealize.SL.Sem

variable (x0 x2 x4 : (⟨S8x2048x8x128, .f32⟩ : BufTy).Contents (Elt Ideal)) (x1 : (⟨S8x2048x8x64, .f32⟩ : BufTy).Contents (Elt Ideal)) (x3 : (⟨S8x2048x64, .f32⟩ : BufTy).Contents (Elt Ideal))

/-- The score scale. -/
def scale : EReal := Ideal.div (Ideal.ofBits FTy.f32 0x3F800000#32) (Ideal.sqrt (Ideal.ofBits FTy.f32 0x43400000#32))

theorem one_bits : Ideal.ofBits FTy.f32 0x3F800000#32 = 1 := by
  simp [Ideal.ofBits, Ideal.ieee, -EReal.coe_mul]; norm_num

theorem ofBits_ninf : Ideal.ofBits FTy.f32 0xFF800000#32 = ⊥ := by
  simp [Ideal.ofBits, Ideal.ieee]

/-- The masked, scaled scores. -/
theorem score_apply (b h : Fin 8) (q k : Fin 2048) : val_main_v15 (F := Ideal) x0 x1 x2 x3 (ix4 b h q k)
    = if k.val ≤ q.val then ((∑ d : Fin 128, x0 (ix4 b q h d) * x2 (ix4 b k h d)) + ∑ d : Fin 64, x3 (ix3 b k d) * x1 (ix4 b q h d)) * scale
      else (⊥ : EReal) := by
  unfold val_main_v15 val_main_call0_v1 val_main_call0_v2 val_main_call0_v0 val_main_v14 val_main_v12 val_main_v13 val_main_v9 val_main_v8
    val_main_v11 val_main_v10 val_main_v7 val_main_v6 val_main_v5 val_main_v4 val_main_v3 val_main_v2 val_main_v1 val_main_v0 val_main_cst_1 val_main_cst val_main_cst_0
  pointwise [dot_S8x2048x8x128_S8x2048x8x128_S8x8x2048x2048_3_3_1_1_02_02, dot_S8x2048x64_S8x2048x8x64_S8x2048x2048x8_2_3_1_12_0_0]
  rw [scale, one_bits, show id (constant (F := Ideal) S_ FTy.f32 4286578688#32) ix0 = (⊥ : EReal) from ofBits_ninf,
    WordCmp.cmpi_sge_ofNat (by omega) (by omega)]
  by_cases hk : k.val ≤ q.val <;> simp [Scalar.select, hk]

theorem fold_sup (f : Fin 2048 → EReal) : Finset.fold max ⊥ f Finset.univ = Finset.univ.sup f := rfl

/-- The row maximum, before it is compared with −∞. -/
theorem max_apply (b h : Fin 8) (q : Fin 2048) : val_main_v16 (F := Ideal) x0 x1 x2 x3 (ix3 b h q)
    = Finset.fold max (val_main_cst_2 (F := Ideal) (Shape.Idx.first h_S_)) (fun k : Fin 2048 => (val_main_v15 (F := Ideal) x0 x1 x2 x3 (ix4 b h q k) : EReal)) Finset.univ := by
  unfold val_main_v16
  pointwise

/-- The row maximum. -/
theorem top_apply (b h : Fin 8) (q : Fin 2048) : val_main_v18 (F := Ideal) x0 x1 x2 x3 (ix3 b h q)
    = Finset.univ.sup fun k : Fin 2048 => (val_main_v15 (F := Ideal) x0 x1 x2 x3 (ix4 b h q k) : EReal) := by
  have e2 : (val_main_cst_2 (F := Ideal) (Shape.Idx.first h_S_) : EReal) = ⊥ := ofBits_ninf
  have e3 : (val_main_v17 (F := Ideal) (ix3 b h q) : EReal) = ⊥ := by
    unfold val_main_v17 val_main_cst_3
    pointwise
    exact ofBits_ninf
  rw [val_main_v18_apply, max_apply, e3, e2, fold_sup]
  exact max_eq_right bot_le

/-- A weight before it is normalised. -/
theorem weight_apply (b h : Fin 8) (q k : Fin 2048) : val_main_v22 (F := Ideal) x0 x1 x2 x3 (ix4 b h q k)
    = Ideal.exp (val_main_v15 (F := Ideal) x0 x1 x2 x3 (ix4 b h q k) - val_main_v18 (F := Ideal) x0 x1 x2 x3 (ix3 b h q)) := by
  unfold val_main_v22 val_main_v21 val_main_v20 val_main_v19
  pointwise

/-- The result: the values weighted by the normalised weights. -/
theorem out_apply (b : Fin 8) (t : Fin 2048) (h : Fin 8) (d : Fin 128) :
  val_main_v30 (F := Ideal) x0 x1 x2 x3 x4 (ix2 ⟨2048 * b.val + t.val, by omega⟩ ⟨128 * h.val + d.val, by omega⟩)
    = ∑ k : Fin 2048, x4 (ix4 b k h d) * Ideal.div (val_main_v22 (F := Ideal) x0 x1 x2 x3 (ix4 b h t k))
      (∑ j : Fin 2048, val_main_v22 (F := Ideal) x0 x1 x2 x3 (ix4 b h t j)) := by
  unfold val_main_v30 val_main_v29 val_main_v28 val_main_v27 val_main_v26 val_main_v25 val_main_v24 val_main_v23 val_main_cst_4
  pointwise [dot_S8x2048x8x128_S8x8x2048x2048_S8x8x128x2048_1_3_3_2_02_01]
end Cert.ReferenceIdeal.Attn
end
-- ==== Proof.Attn.Final.lean ====
module

public import proofs.«01_k».proof.Proof.Attn.Host
public import proofs.«01_k».proof.Proof.Attn.Ref

/-! The attention kernel's result array is the reference's. -/

@[expose] public section

set_option maxRecDepth 16384
noncomputable section
namespace Cert.KernelIdeal.Attn
open Cert.KernelIdeal Cert.KernelIdeal.Gen Idealize.ShloMosaic Idealize.ShloMosaic.TcCoe Idealize.SL.Sem

theorem coe_sum {n : ℕ} (f : Fin n → ℝ) : (∑ i, (f i : EReal)) = ((∑ i, f i : ℝ) : EReal) :=
  (map_sum (⟨⟨Real.toEReal, EReal.coe_zero⟩, EReal.coe_add⟩ : ℝ →+ EReal) f _).symm

theorem split_256 (f : Fin 256 → EReal) : ∑ d, f d = (∑ d : Fin 128, f ⟨d.val, by omega⟩) + ((∑ d : Fin 64, f ⟨128 + d.val, by omega⟩)
    + ∑ d : Fin 64, f ⟨192 + d.val, by omega⟩) := by
  have e1 := Fin.sum_univ_add (a := 128) (b := 128) f
  have e2 := Fin.sum_univ_add (a := 64) (b := 64) (fun d : Fin 128 => f ⟨128 + d.val, by omega⟩)
  refine e1.trans (congrArg₂ (· + ·) rfl (e2.trans (congrArg₂ (· + ·) rfl (Finset.sum_congr rfl fun d _ => ?_))))
  exact congrArg f (Fin.ext (by simp; omega))

theorem bits_192 : Ideal.ofBits FTy.f32 0x43400000#32 = ((192 : ℝ) : EReal) := by
  simp [Ideal.ofBits, Ideal.ieee, -EReal.coe_mul]; norm_num

theorem bits_2 : Ideal.ofBits FTy.f32 0x40000000#32 = ((2 : ℝ) : EReal) := by
  simp [Ideal.ofBits, Ideal.ieee, -EReal.coe_mul]; norm_num

theorem sqrt_192 : Ideal.sqrt ((192 : ℝ) : EReal) = ((Real.sqrt 192 : ℝ) : EReal) := by
  show (if (192 : ℝ) < 0 then (⊥ : EReal) else _) = _
  rw [if_neg (by norm_num)]

theorem log_2 : Ideal.log ((2 : ℝ) : EReal) = ((Real.log 2 : ℝ) : EReal) := by
  show (if (2 : ℝ) ≤ 0 then (⊥ : EReal) else _) = _
  rw [if_neg (by norm_num)]

theorem div_real (x : ℝ) (hx : x ≠ 0) : Ideal.div 1 (x : EReal) = ((x⁻¹ : ℝ) : EReal) := by
  unfold Ideal.div
  rw [if_neg (by exact_mod_cast hx), one_mul, EReal.coe_inv]

/-- The reference's scale as a real number, and the kernel's. -/
theorem scale_real : Cert.ReferenceIdeal.Attn.scale = (((Real.sqrt 192)⁻¹ : ℝ) : EReal) := by
  unfold Cert.ReferenceIdeal.Attn.scale
  rw [bits_192, sqrt_192, one_bits, div_real _ (by positivity)]

theorem scale2_real : scale2 = (((Real.sqrt 192 * Real.log 2)⁻¹ : ℝ) : EReal) := by
  have h2 : 0 < Real.log 2 := Real.log_pos (by norm_num)
  unfold scale2
  rw [bits_192, bits_2, sqrt_192, log_2, one_bits, ← EReal.coe_mul, div_real _ (by positivity)]

/-- The prepared queries and keys. -/
abbrev qs (m : (ℓ : Loc nD τ sig) → Buf (Elt Ideal) ℓ) (c : Dev nD) : S16384x2048.Idx → EReal := V m c main_v13
abbrev ks (m : (ℓ : Loc nD τ sig) → Buf (Elt Ideal) ℓ) (c : Dev nD) : S16384x2048.Idx → EReal := V m c main_v19

variable (m : (ℓ : Loc nD τ sig) → Buf (Elt Ideal) ℓ) (c : Dev nD)
  (rq : S8x2048x8x128.Idx → ℝ) (rp : S8x2048x8x64.Idx → ℝ) (rk : S8x2048x8x128.Idx → ℝ) (rr : S8x2048x64.Idx → ℝ)

/-- The unscaled score of a query and a key, over the reals. -/
def dotR (b h : Fin 8) (q k : Fin 2048) : ℝ :=
  (∑ d : Fin 128, rq (ix4 b q h d) * rk (ix4 b k h d)) + ∑ d : Fin 64, rr (ix3 b k d) * rp (ix4 b q h d)

/-- A row of the kernel's masked scores, all heads and blocks put together. -/
def scoreRow (b h : Fin 8) (q : Fin 2048) (k : ℕ) : EReal :=
  if hk : k < 2048 ∧ k ≤ q.val then ((dotR rq rp rk rr b h q ⟨k, hk.1⟩ * (Real.sqrt 192 * Real.log 2)⁻¹ : ℝ) : EReal) else ⊥

theorem scoreRow_ne_top (b h : Fin 8) (q : Fin 2048) (k : ℕ) : scoreRow rq rp rk rr b h q k ≠ ⊤ := by
  unfold scoreRow; split_ifs
  · exact EReal.coe_ne_top _
  · exact bot_ne_top

theorem scoreRow_zero (b h : Fin 8) (q : Fin 2048) : scoreRow rq rp rk rr b h q 0 ≠ ⊥ := by
  unfold scoreRow; rw [dif_pos ⟨by omega, by omega⟩]; exact EReal.coe_ne_bot _

/-- Which block of each array a grid point reads or writes. -/
theorem idx3 : ∀ t : Fin grid0.N, win0_0.index t = ![4 * (grid0.coords t 0).val + (grid0.coords t 2).val, (grid0.coords t 1).val]
  ∧ win0_1.index t = ![(grid0.coords t 0).val, (grid0.coords t 1).val]
  ∧ win0_2.index t = ![(grid0.coords t 1).val, (grid0.coords t 0).val]
  ∧ win0_3.index t = ![4 * (grid0.coords t 0).val + (grid0.coords t 2).val, (grid0.coords t 1).val] := by decide +kernel

variable (t : Fin cfg0.N) (b : Fin 8) (g : Fin 2) (i : Fin 4)

theorem blk0 (hb : b.val = (grid0.coords t 0).val) (hg : g.val = (grid0.coords t 1).val) (hi : i.val = (grid0.coords t 2).val) (r : Fin 512) (d : Fin 1024) :
    iblk m c 0 t (ix2 r d) = V m c main_v13 (ix2 ⟨2048 * b.val + (512 * i.val + r.val), by omega⟩ ⟨1024 * g.val + d.val, by omega⟩) := by
  blk_ext [iblk, idx3 t]

theorem blk1 (hb : b.val = (grid0.coords t 0).val) (hg : g.val = (grid0.coords t 1).val) (r : Fin 2048) (d : Fin 1024) :
    iblk m c 1 t (ix2 r d) = V m c main_v19 (ix2 ⟨2048 * b.val + r.val, by omega⟩ ⟨1024 * g.val + d.val, by omega⟩) := by
  blk_ext [iblk, idx3 t]

theorem blk2 (hb : b.val = (grid0.coords t 0).val) (hg : g.val = (grid0.coords t 1).val) (r : Fin 576) (d : Fin 2048) :
    iblk m c 2 t (ix2 r d) = V m c main_v25 (ix2 ⟨576 * g.val + r.val, by omega⟩ ⟨2048 * b.val + d.val, by omega⟩) := by
  blk_ext [iblk, idx3 t]

theorem emb3 (hb : b.val = (grid0.coords t 0).val) (hg : g.val = (grid0.coords t 1).val) (hi : i.val = (grid0.coords t 2).val) (r : Fin 512) (d : Fin 512)
    (G : S16384x1024.Idx → EReal) :
    G ((win0_3.blk t).view.emb (ix2 r d)) = G (ix2 ⟨2048 * b.val + (512 * i.val + r.val), by omega⟩ ⟨512 * g.val + d.val, by omega⟩) := by
  blk_ext [iblk, idx3 t]

/-- The kernel's score of a query and a key: the real score at the kernel's scale. -/
theorem dot_real (hq : ∀ i, xqn m c i = (rq i : EReal)) (hp : ∀ i, xqp m c i = (rp i : EReal)) (hk : ∀ i, xkn m c i = (rk i : EReal))
    (hr : ∀ i, xkp m c i = (rr i : EReal)) (b h : Fin 8) (q k : Fin 2048) :
    ∑ d : Fin 256, ks m c (ix2 ⟨2048 * b.val + k.val, by omega⟩ ⟨256 * h.val + d.val, by omega⟩)
        * qs m c (ix2 ⟨2048 * b.val + q.val, by omega⟩ ⟨256 * h.val + d.val, by omega⟩)
      = ((dotR rq rp rk rr b h q k * (Real.sqrt 192 * Real.log 2)⁻¹ : ℝ) : EReal) := by
  rw [split_256]
  have e1 : ∀ d : Fin 128, ks m c (ix2 ⟨2048 * b.val + k.val, by omega⟩ ⟨256 * h.val + d.val, by omega⟩)
        * qs m c (ix2 ⟨2048 * b.val + q.val, by omega⟩ ⟨256 * h.val + d.val, by omega⟩)
      = ((rq (ix4 b q h d) * rk (ix4 b k h d) * (Real.sqrt 192 * Real.log 2)⁻¹ : ℝ) : EReal) := fun d => by
    have a1 := k_nope m c b k h ⟨d.val, by omega⟩ d.isLt
    have a2 := q_nope m c b q h ⟨d.val, by omega⟩ d.isLt
    rw [hk] at a1
    rw [hq, scale2_real] at a2
    refine (congrArg₂ (fun x y : EReal => x * y) a1 a2).trans ?_
    rw [← EReal.coe_mul, ← EReal.coe_mul]
    exact congrArg _ (by ring)
  have e2 : ∀ d : Fin 64, ks m c (ix2 ⟨2048 * b.val + k.val, by omega⟩ ⟨256 * h.val + (128 + d.val), by omega⟩)
        * qs m c (ix2 ⟨2048 * b.val + q.val, by omega⟩ ⟨256 * h.val + (128 + d.val), by omega⟩)
      = ((rr (ix3 b k d) * rp (ix4 b q h d) * (Real.sqrt 192 * Real.log 2)⁻¹ : ℝ) : EReal) := fun d => by
    have a1 := k_pe m c b k h ⟨128 + d.val, by omega⟩ (by simp) (by simp)
    have a2 := q_pe m c b q h ⟨128 + d.val, by omega⟩ (by simp) (by simp)
    have e : ∀ h', (⟨128 + d.val - 128, h'⟩ : Fin 64) = d := fun h' => Fin.ext (by simp)
    rw [hr] at a1
    rw [hp, scale2_real] at a2
    simp only [e] at a1 a2
    refine (congrArg₂ (fun x y : EReal => x * y) a1 a2).trans ?_
    rw [← EReal.coe_mul, ← EReal.coe_mul]
    exact congrArg _ (by ring)
  have e3 : ∀ d : Fin 64, ks m c (ix2 ⟨2048 * b.val + k.val, by omega⟩ ⟨256 * h.val + (192 + d.val), by omega⟩)
        * qs m c (ix2 ⟨2048 * b.val + q.val, by omega⟩ ⟨256 * h.val + (192 + d.val), by omega⟩) = ((0 : ℝ) : EReal) := fun d => by
    have a1 := k_zero m c b k h ⟨192 + d.val, by omega⟩ (by simp only; omega) (by simp only; omega)
    have a2 := q_zero m c b q h ⟨192 + d.val, by omega⟩ (by simp only; omega) (by simp only; omega)
    refine (congrArg₂ (fun x y : EReal => x * y) a1 a2).trans ?_
    simp
  refine (congrArg₂ (· + ·) ((Finset.sum_congr rfl fun d _ => e1 d).trans (coe_sum _)) (congrArg₂ (· + ·)
    ((Finset.sum_congr rfl fun d _ => e2 d).trans (coe_sum _)) ((Finset.sum_congr rfl fun d _ => e3 d).trans (coe_sum _)))).trans ?_
  rw [← EReal.coe_add, ← EReal.coe_add, ← Finset.sum_mul, ← Finset.sum_mul]
  refine congrArg _ ?_
  unfold dotR
  simp only [Finset.sum_const_zero]
  ring

/-- A grid point's scores are a piece of the whole row. -/
theorem score_row (hb : b.val = (grid0.coords t 0).val) (hg : g.val = (grid0.coords t 1).val) (hi : i.val = (grid0.coords t 2).val)
    (hq : ∀ i, xqn m c i = (rq i : EReal)) (hp : ∀ i, xqp m c i = (rp i : EReal)) (hk : ∀ i, xkn m c i = (rk i : EReal))
    (hr : ∀ i, xkp m c i = (rr i : EReal)) (h : Fin 4) (r : Fin 512) :
    score (iblk m c 0 t) (iblk m c 1 t) h (grid0.coords t 2).val r = scoreRow rq rp rk rr b ⟨4 * g.val + h.val, by omega⟩ ⟨512 * i.val + r.val, by omega⟩ := by
  funext k
  unfold score scoreRow
  rw [← hi]
  by_cases hk' : k < 2048 ∧ k ≤ 512 * i.val + r.val
  · rw [dif_pos hk', dif_pos hk', ← dot_real m c rq rp rk rr hq hp hk hr]
    refine Finset.sum_congr rfl fun d _ => ?_
    rw [blk1 m c t b g hb hg, blk0 m c t b g i hb hg hi]
    refine congrArg₂ (· * ·) (congrArg _ (ix2_congr rfl ?_)) (congrArg _ (ix2_congr rfl ?_)) <;> (simp only; omega)
  · rw [dif_neg hk', dif_neg hk']

/-- The value rows of a grid point. -/
theorem value_row (hb : b.val = (grid0.coords t 0).val) (hg : g.val = (grid0.coords t 1).val) (h : Fin 4) (d : Fin 128) (k : ℕ) (hk : k < 2048) :
    value (iblk m c 2 t) h ⟨d.val, by omega⟩ k = xv m c (ix4 b ⟨k, hk⟩ ⟨4 * g.val + h.val, by omega⟩ d) := by
  rw [value_of _ _ _ _ hk, blk2 m c t b g hb hg]
  refine Eq.trans ?_ (v_val m c b ⟨k, hk⟩ ⟨4 * g.val + h.val, by omega⟩ ⟨d.val, by omega⟩ d.isLt)
  refine congrArg _ (ix2_congr ?_ rfl)
  simp only; omega

theorem value_one (hb : b.val = (grid0.coords t 0).val) (hg : g.val = (grid0.coords t 1).val) (h : Fin 4) (k : ℕ) (hk : k < 2048) :
    value (iblk m c 2 t) h 128 k = 1 := by
  rw [value_of _ _ _ _ hk, blk2 m c t b g hb hg]
  refine Eq.trans ?_ (v_one m c b ⟨k, hk⟩ ⟨4 * g.val + h.val, by omega⟩)
  refine congrArg _ (ix2_congr ?_ rfl)
  simp only; omega

theorem wsum_congr (S v v' : ℕ → EReal) (n : ℕ) (x : EReal) (hv : ∀ k < n, v k = v' k) : Online.wsum S v n x = Online.wsum S v' n x :=
  Finset.sum_congr rfl fun k hk => by rw [hv k (Finset.mem_range.mp hk)]

/-- The reference's row of scores. -/
theorem ref_row (hq : ∀ i, xqn m c i = (rq i : EReal)) (hp : ∀ i, xqp m c i = (rp i : EReal)) (hk : ∀ i, xkn m c i = (rk i : EReal))
    (hr : ∀ i, xkp m c i = (rr i : EReal)) (b h : Fin 8) (q k : Fin 2048) :
    Cert.ReferenceIdeal.Read.val_main_v15 (F := Ideal) (xqn m c) (xqp m c) (xkn m c) (xkp m c) (ix4 b h q k)
      = scoreRow rq rp rk rr b h q k.val * (Real.log 2 : ℝ) := by
  have h2 : 0 < Real.log 2 := Real.log_pos (by norm_num)
  rw [Cert.ReferenceIdeal.Attn.score_apply]
  unfold scoreRow
  by_cases hk' : k.val ≤ q.val
  · rw [if_pos hk', dif_pos ⟨k.isLt, hk'⟩, scale_real]
    simp only [hq, hp, hk, hr, ← EReal.coe_mul]
    rw [coe_sum, coe_sum, ← EReal.coe_add, ← EReal.coe_mul]
    refine congrArg _ ?_
    unfold dotR
    have h3 : Real.sqrt 192 ≠ 0 := by positivity
    field_simp
  · rw [if_neg hk', dif_neg (fun h => hk' h.2), EReal.bot_mul_coe_of_pos h2]

/-- One element of the result: the online form against the reference. -/
theorem elem (hq : ∀ i, xqn m c i = (rq i : EReal)) (hp : ∀ i, xqp m c i = (rp i : EReal)) (hk : ∀ i, xkn m c i = (rk i : EReal))
    (hr : ∀ i, xkp m c i = (rr i : EReal)) (b h : Fin 8) (q : Fin 2048) (d : Fin 128) (v w : ℕ → EReal)
    (hv : ∀ (k : ℕ) (hk : k < 2048), v k = xv m c (ix4 b ⟨k, hk⟩ h d)) (hw : ∀ k < 2048, w k = 1) (n : ℕ) (hn : q.val < n) (hn' : n ≤ 2048) :
    Ideal.div (Online.wsum (scoreRow rq rp rk rr b h q) v n (Online.top (scoreRow rq rp rk rr b h q) n))
        (Online.wsum (scoreRow rq rp rk rr b h q) w n (Online.top (scoreRow rq rp rk rr b h q) n))
      = Cert.ReferenceIdeal.Read.val_main_v30 (F := Ideal) (xqn m c) (xqp m c) (xkn m c) (xkp m c) (xv m c)
          (ix2 ⟨2048 * b.val + q.val, by omega⟩ ⟨128 * h.val + d.val, by omega⟩) := by
  set S := scoreRow rq rp rk rr b h q with hS
  have hm : ∀ k, n ≤ k → S k = ⊥ := fun k hk => by rw [hS]; unfold scoreRow; rw [dif_neg (by omega)]
  have hp' : n + (2048 - n) = 2048 := by omega
  have t1 : Online.top S n = Online.top S 2048 := by
    rw [← Online.top_masked S n (2048 - n) hm, hp']
  have t2 : ∀ (u : ℕ → EReal) (x : EReal), Online.wsum S u n x = Online.wsum S u 2048 x := fun u x => by
    rw [← Online.wsum_masked S u n (2048 - n) x hm, hp']
  rw [t1, t2, t2, wsum_congr S w (fun _ => 1) 2048 _ hw,
    Online.ratio S (fun k => S k * (Real.log 2 : ℝ)) v 2048 (by norm_num) (scoreRow_ne_top rq rp rk rr b h q)
      (scoreRow_zero rq rp rk rr b h q) (fun _ => rfl)]
  refine Eq.trans ?_ (Cert.ReferenceIdeal.Attn.out_apply (xqn m c) (xkn m c) (xv m c) (xqp m c) (xkp m c) b q h d).symm
  have e : ∀ k : Fin 2048, (Cert.ReferenceIdeal.Read.val_main_v22 (F := Ideal) (xqn m c) (xqp m c) (xkn m c) (xkp m c) (ix4 b h q k) : EReal)
      = Ideal.exp (S k.val * (Real.log 2 : ℝ) - Online.top (fun k => S k * (Real.log 2 : ℝ)) 2048) := fun k => by
    rw [Cert.ReferenceIdeal.Attn.weight_apply, Cert.ReferenceIdeal.Attn.top_apply, ref_row m c rq rp rk rr hq hp hk hr]
    refine congrArg _ (congrArg₂ (· - ·) rfl ?_)
    refine Eq.trans ?_ (sup_fin (n := 2048) (fun k => S k * (Real.log 2 : ℝ)))
    exact Finset.sup_congr rfl fun k _ => ref_row m c rq rp rk rr hq hp hk hr b h q k
  simp only [e]
  rw [Finset.sum_range, Finset.sum_range]
  refine Finset.sum_congr rfl fun k _ => ?_
  rw [hv k.val k.isLt, mul_comm]

/-- The kernel's result array is the reference's. -/
theorem result_eq (hq : ∀ i, xqn m c i = (rq i : EReal)) (hp : ∀ i, xqp m c i = (rp i : EReal)) (hk : ∀ i, xkn m c i = (rk i : EReal))
    (hr : ∀ i, xkp m c i = (rr i : EReal)) :
    (dats m 0 c).arrAt 3 cfg0.N = Cert.ReferenceIdeal.Read.val_main_v30 (F := Ideal) (xqn m c) (xqp m c) (xkn m c) (xkp m c) (xv m c) := by
  refine (dats m 0 c).arrAt_eq_of_covers 3 _ (by decide +kernel) fun t hf y => ?_
  blk_simp
  rw [after0_3]
  obtain ⟨b, hb⟩ : ∃ b : Fin 8, b.val = (grid0.coords t 0).val := ⟨⟨_, (grid0.coords t 0).isLt⟩, rfl⟩
  obtain ⟨g, hg⟩ : ∃ g : Fin 2, g.val = (grid0.coords t 1).val := ⟨⟨_, (grid0.coords t 1).isLt⟩, rfl⟩
  obtain ⟨i, hi⟩ : ∃ i : Fin 4, i.val = (grid0.coords t 2).val := ⟨⟨_, (grid0.coords t 2).isLt⟩, rfl⟩
  obtain ⟨r, d', rfl⟩ : ∃ (r : Fin 512) (d' : Fin 512), y = ix2 r d' := ⟨y 0, y 1, eq_ix2 y⟩
  refine Eq.trans ?_ (emb3 t b g i hb hg hi r d' (Cert.ReferenceIdeal.Read.val_main_v30 (F := Ideal) (xqn m c) (xqp m c) (xkn m c) (xkp m c) (xv m c))).symm
  have hS : ∀ (h : Fin 4) (r : Fin 512), score (iblk m c 0 t) (iblk m c 1 t) h (grid0.coords t 2).val r
    = scoreRow rq rp rk rr b ⟨4 * g.val + h.val, by omega⟩ ⟨512 * i.val + r.val, by omega⟩ :=
    fun h r => score_row m c rq rp rk rr t b g i hb hg hi hq hp hk hr h r
  have hT : ∀ (h : Fin 4) (r : Fin 512) (k : ℕ), score (iblk m c 0 t) (iblk m c 1 t) h (grid0.coords t 2).val r k ≠ ⊤ := fun h r k => by
    rw [hS]; exact scoreRow_ne_top rq rp rk rr _ _ _ _
  have hB : ∀ (h : Fin 4) (r : Fin 512), score (iblk m c 0 t) (iblk m c 1 t) h (grid0.coords t 2).val r 0 ≠ ⊥ := fun h r => by
    rw [hS]; exact scoreRow_zero rq rp rk rr _ _ _
  have fin : ∀ (h : Fin 4) (d : Fin 128) (hd : 128 * h.val + d.val = d'.val),
      Ideal.div (Online.wsum (score (iblk m c 0 t) (iblk m c 1 t) h (grid0.coords t 2).val r) (value (iblk m c 2 t) h ⟨d.val, by omega⟩) (512 * (grid0.coords t 2).val + 512)
            (Online.top (score (iblk m c 0 t) (iblk m c 1 t) h (grid0.coords t 2).val r) (512 * (grid0.coords t 2).val + 512)))
          (Online.wsum (score (iblk m c 0 t) (iblk m c 1 t) h (grid0.coords t 2).val r) (value (iblk m c 2 t) h 128) (512 * (grid0.coords t 2).val + 512)
            (Online.top (score (iblk m c 0 t) (iblk m c 1 t) h (grid0.coords t 2).val r) (512 * (grid0.coords t 2).val + 512)))
        = Cert.ReferenceIdeal.Read.val_main_v30 (F := Ideal) (xqn m c) (xqp m c) (xkn m c) (xkp m c) (xv m c)
          (ix2 ⟨2048 * b.val + (512 * i.val + r.val), by omega⟩ ⟨512 * g.val + d'.val, by omega⟩) := fun h d hd => by
    rw [hS]
    refine (elem m c rq rp rk rr hq hp hk hr b ⟨4 * g.val + h.val, by omega⟩ ⟨512 * i.val + r.val, by omega⟩ d _ _
      (fun k hk => value_row m c t b g hb hg h d k hk) (fun k hk => value_one m c t b g hb hg h k hk) _ (by simp only; omega) (by omega)).trans ?_
    refine congrArg _ (ix2_congr rfl ?_)
    simp only; omega
  unfold outsAt0
  rcases (by omega : d'.val < 128 ∨ (128 ≤ d'.val ∧ d'.val < 256) ∨ (256 ≤ d'.val ∧ d'.val < 384) ∨ (384 ≤ d'.val)) with h | h | h | h
  · refine Eq.trans (Eq.trans (congrArg _ (ix2_congr rfl ?_)) (out_head0 c _ _ _ _ _ _ _ _ _ _ _ _ hT hB r ⟨d'.val, by omega⟩)) (fin 0 _ ?_) <;> (simp; try omega)
  · refine Eq.trans (Eq.trans (congrArg _ (ix2_congr rfl ?_)) (out_head1 c _ _ _ _ _ _ _ _ _ _ _ _ hT hB r ⟨d'.val - 128, by omega⟩)) (fin 1 _ ?_) <;> (simp; try omega)
  · refine Eq.trans (Eq.trans (congrArg _ (ix2_congr rfl ?_)) (out_head2 c _ _ _ _ _ _ _ _ _ _ _ _ hT hB r ⟨d'.val - 256, by omega⟩)) (fin 2 _ ?_) <;> (simp; try omega)
  · refine Eq.trans (Eq.trans (congrArg _ (ix2_congr rfl ?_)) (out_head3 c _ _ _ _ _ _ _ _ _ _ _ _ hT hB r ⟨d'.val - 384, by omega⟩)) (fin 3 _ ?_) <;> (simp; try omega)

end Cert.KernelIdeal.Attn
end
-- ==== Proof.Attn.Pre.lean ====
module

public import proofs.«01_k».proof.Defs
public import Idealize.ShloMosaic.Lib.Pointwise

/-! What the precondition says: the scores' arguments are real numbers. -/

@[expose] public section

noncomputable section
namespace Cert.Pre_finite_scores
open Idealize.ShloMosaic

/-- The side conditions the precondition's operations take. -/
theorem facts : Facts := ⟨by decide, by decide, by decide⟩

/-- An extended real whose absolute value is below +∞ is a real number. -/
theorem real_of_abs_lt (x : EReal) (h : Ideal.cmp .olt (max x (-x)) ⊤ = 1#1) : ∃ r : ℝ, x = r := by
  induction x using EReal.rec with
  | bot => simp [Ideal.cmp] at h
  | top => simp [Ideal.cmp] at h
  | coe r => exact ⟨r, rfl⟩

theorem inf_bits : Ideal.ofBits .f32 0x7F800000#32 = ⊤ := by simp [Ideal.ofBits, Ideal.ieee]

variable [Facts] (x0 x2 x4 : FVec Ideal S8x2048x8x128 .f32) (x1 : FVec Ideal S8x2048x8x64 .f32) (x3 : FVec Ideal S8x2048x64 .f32)

/-- The content part of the queries is real. -/
theorem real0 (h : (fn (F := Ideal) x0 x1 x2 x3 x4).1 = fun _ => 1#1) (i : S8x2048x8x128.Idx) : ∃ r : ℝ, x0 i = (r : EReal) := by
  refine real_of_abs_lt _ ?_
  rw [← inf_bits]
  exact congrFun h i

theorem real1 (h : (fn (F := Ideal) x0 x1 x2 x3 x4).2.1 = fun _ => 1#1) (i : S8x2048x8x64.Idx) : ∃ r : ℝ, x1 i = (r : EReal) := by
  refine real_of_abs_lt _ ?_
  rw [← inf_bits]
  exact congrFun h i

theorem real2 (h : (fn (F := Ideal) x0 x1 x2 x3 x4).2.2.1 = fun _ => 1#1) (i : S8x2048x8x128.Idx) : ∃ r : ℝ, x2 i = (r : EReal) := by
  refine real_of_abs_lt _ ?_
  rw [← inf_bits]
  exact congrFun h i

theorem real3 (h : (fn (F := Ideal) x0 x1 x2 x3 x4).2.2.2 = fun _ => 1#1) (i : S8x2048x64.Idx) : ∃ r : ℝ, x3 i = (r : EReal) := by
  refine real_of_abs_lt _ ?_
  rw [← inf_bits]
  exact congrFun h i

end Cert.Pre_finite_scores
end
-- ==== Proof.Act.Pieces.lean ====
module

public import proofs.«01_k».proof.Proof.Gen.ActIdeal.Value

/-! What the body of the gated convolution stores, column block by column block. -/

@[expose] public section

set_option maxRecDepth 65536
noncomputable section
namespace Cert.ActIdeal.Val
open Cert.ActIdeal Cert.ActIdeal.Gen Idealize.ShloMosaic Idealize.ShloMosaic.TcCoe Idealize.SL.Sem

variable {F : FTy → Type} [FloatOps F]

/-- One column block of the result, from the gate product with its halo rows, the up product, the three taps and the bias. -/
def act (ge : FVec F S528x256 .f32) (u : FVec F S512x256 .f32) (c0 c1 c2 b : Vec F S1x256 .f32) : FVec F S512x256 .bf16 :=
  k0_pay15 u (k0_pay9 ge c2) (k0_pay10 ge c0 c1) (k0_pay11 ge c0 c1) k0_pay12 (k0_pay13 ge c0 c1) b

/-- The scratch rows as the body reads them back: the halo, then the block. -/
def rows (c : Dev nD) (i : grid0.Coords) (arg2 : Memref sig .tc .vmem S512x2048 .bf16) (harg2 : arg2.IsWhole) (arg5 : Memref sig .tc .vmem S16x2048 .bf16) (harg5 : arg5.IsWhole) (arg9 : Memref sig .tc .vmem S528x2048 .bf16)
    (x0 : Vec F S512x2048 .bf16) (x3 : Vec F S16x2048 .bf16) : Vec F S528x2048 .bf16 :=
  arg9.view.readCov (kernelRun0_A.sl.HS0_2 c i arg2 harg2 arg5 harg5 x0 x3) (Rect.unit ![0, 0] S528x2048.size inb_S528x2048_S528x2048_0_0).toLoadRect

/-- The eleven stores of the body, last first. -/
theorem pieces (c : Dev nD) (i : grid0.Coords) (arg2 : Memref sig .tc .vmem S512x2048 .bf16) (harg2 : arg2.IsWhole) (arg3 : Memref sig .tc .vmem S2048x2816 .bf16) (harg3 : arg3.IsWhole) (arg4 : Memref sig .tc .vmem S2048x2816 .bf16) (harg4 : arg4.IsWhole) (arg5 : Memref sig .tc .vmem S16x2048 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S512x2816 .bf16) (harg8 : arg8.IsWhole) (arg9 : Memref sig .tc .vmem S528x2048 .bf16) (harg9 : arg9.IsWhole)
    (x0 : Vec F S512x2048 .bf16) (x1 : Vec F S2048x2816 .bf16) (x2 : Vec F S2048x2816 .bf16) (x3 : Vec F S16x2048 .bf16) (x4 : Vec F S3x2816 .f32) (x5 : Vec F S1x2816 .f32) :
    (kernelRun0_A c i arg2 harg2 arg3 harg3 arg4 harg4 arg5 harg5 arg6 harg6 arg7 harg7 arg8 harg8 arg9 harg9 x0 x1 x2 x3 x4 x5).1 =
    [⟨Rect.unit ![0, 2560] ![512, 256] inb_S512x2816_S512x256_0_2560,
      act (k0_pay4 (rows c i arg2 harg2 arg5 harg5 arg9 x0 x3) (View.readAt (Elt F) arg3.view (Rect.unit (s := S2048x2816) ![0, 2560] S2048x256.size inb_S2048x2816_S2048x256_0_2560).toLoadRect (harg3.unread x1)))
        (k0_pay5 (View.readAt (Elt F) arg2.view (Rect.unit (s := S512x2048) ![0, 0] S512x2048.size inb_S512x2048_S512x2048_0_0).toLoadRect (harg2.unread x0)) (View.readAt (Elt F) arg4.view (Rect.unit (s := S2048x2816) ![0, 2560] S2048x256.size inb_S2048x2816_S2048x256_0_2560).toLoadRect (harg4.unread x2)))
        (View.readAt (Elt F) arg6.view (Rect.unit (s := S3x2816) ![0, 2560] S1x256.size inb_S3x2816_S1x256_0_2560).toLoadRect (harg6.unread x4))
        (View.readAt (Elt F) arg6.view (Rect.unit (s := S3x2816) ![1, 2560] S1x256.size inb_S3x2816_S1x256_1_2560).toLoadRect (harg6.unread x4))
        (View.readAt (Elt F) arg6.view (Rect.unit (s := S3x2816) ![2, 2560] S1x256.size inb_S3x2816_S1x256_2_2560).toLoadRect (harg6.unread x4))
        (View.readAt (Elt F) arg7.view (Rect.unit (s := S1x2816) ![0, 2560] S1x256.size inb_S1x2816_S1x256_0_2560).toLoadRect (harg7.unread x5))⟩,
     ⟨Rect.unit ![0, 2304] ![512, 256] inb_S512x2816_S512x256_0_2304,
      act (k0_pay4 (rows c i arg2 harg2 arg5 harg5 arg9 x0 x3) (View.readAt (Elt F) arg3.view (Rect.unit (s := S2048x2816) ![0, 2304] S2048x256.size inb_S2048x2816_S2048x256_0_2304).toLoadRect (harg3.unread x1)))
        (k0_pay5 (View.readAt (Elt F) arg2.view (Rect.unit (s := S512x2048) ![0, 0] S512x2048.size inb_S512x2048_S512x2048_0_0).toLoadRect (harg2.unread x0)) (View.readAt (Elt F) arg4.view (Rect.unit (s := S2048x2816) ![0, 2304] S2048x256.size inb_S2048x2816_S2048x256_0_2304).toLoadRect (harg4.unread x2)))
        (View.readAt (Elt F) arg6.view (Rect.unit (s := S3x2816) ![0, 2304] S1x256.size inb_S3x2816_S1x256_0_2304).toLoadRect (harg6.unread x4))
        (View.readAt (Elt F) arg6.view (Rect.unit (s := S3x2816) ![1, 2304] S1x256.size inb_S3x2816_S1x256_1_2304).toLoadRect (harg6.unread x4))
        (View.readAt (Elt F) arg6.view (Rect.unit (s := S3x2816) ![2, 2304] S1x256.size inb_S3x2816_S1x256_2_2304).toLoadRect (harg6.unread x4))
        (View.readAt (Elt F) arg7.view (Rect.unit (s := S1x2816) ![0, 2304] S1x256.size inb_S1x2816_S1x256_0_2304).toLoadRect (harg7.unread x5))⟩,
     ⟨Rect.unit ![0, 2048] ![512, 256] inb_S512x2816_S512x256_0_2048,
      act (k0_pay4 (rows c i arg2 harg2 arg5 harg5 arg9 x0 x3) (View.readAt (Elt F) arg3.view (Rect.unit (s := S2048x2816) ![0, 2048] S2048x256.size inb_S2048x2816_S2048x256_0_2048).toLoadRect (harg3.unread x1)))
        (k0_pay5 (View.readAt (Elt F) arg2.view (Rect.unit (s := S512x2048) ![0, 0] S512x2048.size inb_S512x2048_S512x2048_0_0).toLoadRect (harg2.unread x0)) (View.readAt (Elt F) arg4.view (Rect.unit (s := S2048x2816) ![0, 2048] S2048x256.size inb_S2048x2816_S2048x256_0_2048).toLoadRect (harg4.unread x2)))
        (View.readAt (Elt F) arg6.view (Rect.unit (s := S3x2816) ![0, 2048] S1x256.size inb_S3x2816_S1x256_0_2048).toLoadRect (harg6.unread x4))
        (View.readAt (Elt F) arg6.view (Rect.unit (s := S3x2816) ![1, 2048] S1x256.size inb_S3x2816_S1x256_1_2048).toLoadRect (harg6.unread x4))
        (View.readAt (Elt F) arg6.view (Rect.unit (s := S3x2816) ![2, 2048] S1x256.size inb_S3x2816_S1x256_2_2048).toLoadRect (harg6.unread x4))
        (View.readAt (Elt F) arg7.view (Rect.unit (s := S1x2816) ![0, 2048] S1x256.size inb_S1x2816_S1x256_0_2048).toLoadRect (harg7.unread x5))⟩,
     ⟨Rect.unit ![0, 1792] ![512, 256] inb_S512x2816_S512x256_0_1792,
      act (k0_pay4 (rows c i arg2 harg2 arg5 harg5 arg9 x0 x3) (View.readAt (Elt F) arg3.view (Rect.unit (s := S2048x2816) ![0, 1792] S2048x256.size inb_S2048x2816_S2048x256_0_1792).toLoadRect (harg3.unread x1)))
        (k0_pay5 (View.readAt (Elt F) arg2.view (Rect.unit (s := S512x2048) ![0, 0] S512x2048.size inb_S512x2048_S512x2048_0_0).toLoadRect (harg2.unread x0)) (View.readAt (Elt F) arg4.view (Rect.unit (s := S2048x2816) ![0, 1792] S2048x256.size inb_S2048x2816_S2048x256_0_1792).toLoadRect (harg4.unread x2)))
        (View.readAt (Elt F) arg6.view (Rect.unit (s := S3x2816) ![0, 1792] S1x256.size inb_S3x2816_S1x256_0_1792).toLoadRect (harg6.unread x4))
        (View.readAt (Elt F) arg6.view (Rect.unit (s := S3x2816) ![1, 1792] S1x256.size inb_S3x2816_S1x256_1_1792).toLoadRect (harg6.unread x4))
        (View.readAt (Elt F) arg6.view (Rect.unit (s := S3x2816) ![2, 1792] S1x256.size inb_S3x2816_S1x256_2_1792).toLoadRect (harg6.unread x4))
        (View.readAt (Elt F) arg7.view (Rect.unit (s := S1x2816) ![0, 1792] S1x256.size inb_S1x2816_S1x256_0_1792).toLoadRect (harg7.unread x5))⟩,
     ⟨Rect.unit ![0, 1536] ![512, 256] inb_S512x2816_S512x256_0_1536,
      act (k0_pay4 (rows c i arg2 harg2 arg5 harg5 arg9 x0 x3) (View.readAt (Elt F) arg3.view (Rect.unit (s := S2048x2816) ![0, 1536] S2048x256.size inb_S2048x2816_S2048x256_0_1536).toLoadRect (harg3.unread x1)))
        (k0_pay5 (View.readAt (Elt F) arg2.view (Rect.unit (s := S512x2048) ![0, 0] S512x2048.size inb_S512x2048_S512x2048_0_0).toLoadRect (harg2.unread x0)) (View.readAt (Elt F) arg4.view (Rect.unit (s := S2048x2816) ![0, 1536] S2048x256.size inb_S2048x2816_S2048x256_0_1536).toLoadRect (harg4.unread x2)))
        (View.readAt (Elt F) arg6.view (Rect.unit (s := S3x2816) ![0, 1536] S1x256.size inb_S3x2816_S1x256_0_1536).toLoadRect (harg6.unread x4))
        (View.readAt (Elt F) arg6.view (Rect.unit (s := S3x2816) ![1, 1536] S1x256.size inb_S3x2816_S1x256_1_1536).toLoadRect (harg6.unread x4))
        (View.readAt (Elt F) arg6.view (Rect.unit (s := S3x2816) ![2, 1536] S1x256.size inb_S3x2816_S1x256_2_1536).toLoadRect (harg6.unread x4))
        (View.readAt (Elt F) arg7.view (Rect.unit (s := S1x2816) ![0, 1536] S1x256.size inb_S1x2816_S1x256_0_1536).toLoadRect (harg7.unread x5))⟩,
     ⟨Rect.unit ![0, 1280] ![512, 256] inb_S512x2816_S512x256_0_1280,
      act (k0_pay4 (rows c i arg2 harg2 arg5 harg5 arg9 x0 x3) (View.readAt (Elt F) arg3.view (Rect.unit (s := S2048x2816) ![0, 1280] S2048x256.size inb_S2048x2816_S2048x256_0_1280).toLoadRect (harg3.unread x1)))
        (k0_pay5 (View.readAt (Elt F) arg2.view (Rect.unit (s := S512x2048) ![0, 0] S512x2048.size inb_S512x2048_S512x2048_0_0).toLoadRect (harg2.unread x0)) (View.readAt (Elt F) arg4.view (Rect.unit (s := S2048x2816) ![0, 1280] S2048x256.size inb_S2048x2816_S2048x256_0_1280).toLoadRect (harg4.unread x2)))
        (View.readAt (Elt F) arg6.view (Rect.unit (s := S3x2816) ![0, 1280] S1x256.size inb_S3x2816_S1x256_0_1280).toLoadRect (harg6.unread x4))
        (View.readAt (Elt F) arg6.view (Rect.unit (s := S3x2816) ![1, 1280] S1x256.size inb_S3x2816_S1x256_1_1280).toLoadRect (harg6.unread x4))
        (View.readAt (Elt F) arg6.view (Rect.unit (s := S3x2816) ![2, 1280] S1x256.size inb_S3x2816_S1x256_2_1280).toLoadRect (harg6.unread x4))
        (View.readAt (Elt F) arg7.view (Rect.unit (s := S1x2816) ![0, 1280] S1x256.size inb_S1x2816_S1x256_0_1280).toLoadRect (harg7.unread x5))⟩,
     ⟨Rect.unit ![0, 1024] ![512, 256] inb_S512x2816_S512x256_0_1024,
      act (k0_pay4 (rows c i arg2 harg2 arg5 harg5 arg9 x0 x3) (View.readAt (Elt F) arg3.view (Rect.unit (s := S2048x2816) ![0, 1024] S2048x256.size inb_S2048x2816_S2048x256_0_1024).toLoadRect (harg3.unread x1)))
        (k0_pay5 (View.readAt (Elt F) arg2.view (Rect.unit (s := S512x2048) ![0, 0] S512x2048.size inb_S512x2048_S512x2048_0_0).toLoadRect (harg2.unread x0)) (View.readAt (Elt F) arg4.view (Rect.unit (s := S2048x2816) ![0, 1024] S2048x256.size inb_S2048x2816_S2048x256_0_1024).toLoadRect (harg4.unread x2)))
        (View.readAt (Elt F) arg6.view (Rect.unit (s := S3x2816) ![0, 1024] S1x256.size inb_S3x2816_S1x256_0_1024).toLoadRect (harg6.unread x4))
        (View.readAt (Elt F) arg6.view (Rect.unit (s := S3x2816) ![1, 1024] S1x256.size inb_S3x2816_S1x256_1_1024).toLoadRect (harg6.unread x4))
        (View.readAt (Elt F) arg6.view (Rect.unit (s := S3x2816) ![2, 1024] S1x256.size inb_S3x2816_S1x256_2_1024).toLoadRect (harg6.unread x4))
        (View.readAt (Elt F) arg7.view (Rect.unit (s := S1x2816) ![0, 1024] S1x256.size inb_S1x2816_S1x256_0_1024).toLoadRect (harg7.unread x5))⟩,
     ⟨Rect.unit ![0, 768] ![512, 256] inb_S512x2816_S512x256_0_768,
      act (k0_pay4 (rows c i arg2 harg2 arg5 harg5 arg9 x0 x3) (View.readAt (Elt F) arg3.view (Rect.unit (s := S2048x2816) ![0, 768] S2048x256.size inb_S2048x2816_S2048x256_0_768).toLoadRect (harg3.unread x1)))
        (k0_pay5 (View.readAt (Elt F) arg2.view (Rect.unit (s := S512x2048) ![0, 0] S512x2048.size inb_S512x2048_S512x2048_0_0).toLoadRect (harg2.unread x0)) (View.readAt (Elt F) arg4.view (Rect.unit (s := S2048x2816) ![0, 768] S2048x256.size inb_S2048x2816_S2048x256_0_768).toLoadRect (harg4.unread x2)))
        (View.readAt (Elt F) arg6.view (Rect.unit (s := S3x2816) ![0, 768] S1x256.size inb_S3x2816_S1x256_0_768).toLoadRect (harg6.unread x4))
        (View.readAt (Elt F) arg6.view (Rect.unit (s := S3x2816) ![1, 768] S1x256.size inb_S3x2816_S1x256_1_768).toLoadRect (harg6.unread x4))
        (View.readAt (Elt F) arg6.view (Rect.unit (s := S3x2816) ![2, 768] S1x256.size inb_S3x2816_S1x256_2_768).toLoadRect (harg6.unread x4))
        (View.readAt (Elt F) arg7.view (Rect.unit (s := S1x2816) ![0, 768] S1x256.size inb_S1x2816_S1x256_0_768).toLoadRect (harg7.unread x5))⟩,
     ⟨Rect.unit ![0, 512] ![512, 256] inb_S512x2816_S512x256_0_512,
      act (k0_pay4 (rows c i arg2 harg2 arg5 harg5 arg9 x0 x3) (View.readAt (Elt F) arg3.view (Rect.unit (s := S2048x2816) ![0, 512] S2048x256.size inb_S2048x2816_S2048x256_0_512).toLoadRect (harg3.unread x1)))
        (k0_pay5 (View.readAt (Elt F) arg2.view (Rect.unit (s := S512x2048) ![0, 0] S512x2048.size inb_S512x2048_S512x2048_0_0).toLoadRect (harg2.unread x0)) (View.readAt (Elt F) arg4.view (Rect.unit (s := S2048x2816) ![0, 512] S2048x256.size inb_S2048x2816_S2048x256_0_512).toLoadRect (harg4.unread x2)))
        (View.readAt (Elt F) arg6.view (Rect.unit (s := S3x2816) ![0, 512] S1x256.size inb_S3x2816_S1x256_0_512).toLoadRect (harg6.unread x4))
        (View.readAt (Elt F) arg6.view (Rect.unit (s := S3x2816) ![1, 512] S1x256.size inb_S3x2816_S1x256_1_512).toLoadRect (harg6.unread x4))
        (View.readAt (Elt F) arg6.view (Rect.unit (s := S3x2816) ![2, 512] S1x256.size inb_S3x2816_S1x256_2_512).toLoadRect (harg6.unread x4))
        (View.readAt (Elt F) arg7.view (Rect.unit (s := S1x2816) ![0, 512] S1x256.size inb_S1x2816_S1x256_0_512).toLoadRect (harg7.unread x5))⟩,
     ⟨Rect.unit ![0, 256] ![512, 256] inb_S512x2816_S512x256_0_256,
      act (k0_pay4 (rows c i arg2 harg2 arg5 harg5 arg9 x0 x3) (View.readAt (Elt F) arg3.view (Rect.unit (s := S2048x2816) ![0, 256] S2048x256.size inb_S2048x2816_S2048x256_0_256).toLoadRect (harg3.unread x1)))
        (k0_pay5 (View.readAt (Elt F) arg2.view (Rect.unit (s := S512x2048) ![0, 0] S512x2048.size inb_S512x2048_S512x2048_0_0).toLoadRect (harg2.unread x0)) (View.readAt (Elt F) arg4.view (Rect.unit (s := S2048x2816) ![0, 256] S2048x256.size inb_S2048x2816_S2048x256_0_256).toLoadRect (harg4.unread x2)))
        (View.readAt (Elt F) arg6.view (Rect.unit (s := S3x2816) ![0, 256] S1x256.size inb_S3x2816_S1x256_0_256).toLoadRect (harg6.unread x4))
        (View.readAt (Elt F) arg6.view (Rect.unit (s := S3x2816) ![1, 256] S1x256.size inb_S3x2816_S1x256_1_256).toLoadRect (harg6.unread x4))
        (View.readAt (Elt F) arg6.view (Rect.unit (s := S3x2816) ![2, 256] S1x256.size inb_S3x2816_S1x256_2_256).toLoadRect (harg6.unread x4))
        (View.readAt (Elt F) arg7.view (Rect.unit (s := S1x2816) ![0, 256] S1x256.size inb_S1x2816_S1x256_0_256).toLoadRect (harg7.unread x5))⟩,
     ⟨Rect.unit ![0, 0] ![512, 256] inb_S512x2816_S512x256_0_0,
      act (k0_pay4 (rows c i arg2 harg2 arg5 harg5 arg9 x0 x3) (View.readAt (Elt F) arg3.view (Rect.unit (s := S2048x2816) ![0, 0] S2048x256.size inb_S2048x2816_S2048x256_0_0).toLoadRect (harg3.unread x1)))
        (k0_pay5 (View.readAt (Elt F) arg2.view (Rect.unit (s := S512x2048) ![0, 0] S512x2048.size inb_S512x2048_S512x2048_0_0).toLoadRect (harg2.unread x0)) (View.readAt (Elt F) arg4.view (Rect.unit (s := S2048x2816) ![0, 0] S2048x256.size inb_S2048x2816_S2048x256_0_0).toLoadRect (harg4.unread x2)))
        (View.readAt (Elt F) arg6.view (Rect.unit (s := S3x2816) ![0, 0] S1x256.size inb_S3x2816_S1x256_0_0).toLoadRect (harg6.unread x4))
        (View.readAt (Elt F) arg6.view (Rect.unit (s := S3x2816) ![1, 0] S1x256.size inb_S3x2816_S1x256_1_0).toLoadRect (harg6.unread x4))
        (View.readAt (Elt F) arg6.view (Rect.unit (s := S3x2816) ![2, 0] S1x256.size inb_S3x2816_S1x256_2_0).toLoadRect (harg6.unread x4))
        (View.readAt (Elt F) arg7.view (Rect.unit (s := S1x2816) ![0, 0] S1x256.size inb_S1x2816_S1x256_0_0).toLoadRect (harg7.unread x5))⟩] := by
  unfold kernelRun0_A
  rfl

end Cert.ActIdeal.Val
end
-- ==== Proof.Act.Apply.lean ====
module

public import proofs.«01_k».proof.Proof.Act.Pieces
public import Idealize.ShloMosaic.Lib.Pointwise
public import Idealize.ShloMosaic.Lib.WordCmp

/-! One column block of the gated convolution, read at an index over the extended reals. -/

@[expose] public section

set_option maxRecDepth 65536
noncomputable section
namespace Cert.ActIdeal.Val
open Cert.ActIdeal Cert.ActIdeal.Gen Idealize.ShloMosaic Idealize.ShloMosaic.TcCoe Idealize.SL.Sem

theorem one_bits : Ideal.ofBits FTy.f32 0x3F800000#32 = 1 := by
  simp [Ideal.ofBits, Ideal.ieee, -EReal.coe_mul]; norm_num

theorem zero_bits : Ideal.ofBits FTy.f32 0x00000000#32 = 0 := by
  simp [Ideal.ofBits, Ideal.ieee]

theorem ix2_congr {m n : ℕ} {a a' : Fin m} {b b' : Fin n} (ha : a.val = a'.val) (hb : b.val = b'.val) : ix2 a b = ix2 a' b' := by
  rw [Fin.ext ha, Fin.ext hb]

/-- The gate product at a row of the halo and the block. -/
theorem gate_apply (h : Vec Ideal S528x2048 .bf16) (w : Vec Ideal S2048x256 .bf16) (r : Fin 528) (n : Fin 256) :
    k0_pay4 h w (ix2 r n) = ∑ k : Fin 2048, h (ix2 r k) * w (ix2 k n) := by
  unfold k0_pay4
  pointwise [dot_S528x2048_S2048x256_S528x256_1_0_0_1_n_n]

/-- The up product. -/
theorem up_apply (h : Vec Ideal S512x2048 .bf16) (w : Vec Ideal S2048x256 .bf16) (r : Fin 512) (n : Fin 256) :
    k0_pay5 h w (ix2 r n) = ∑ k : Fin 2048, h (ix2 r k) * w (ix2 k n) := by
  unfold k0_pay5
  pointwise [dot_S512x2048_S2048x256_S512x256_1_0_0_1_n_n]

/-- The three taps on the last three rows, and the bias. -/
def conv (a0 a1 a2 c0 c1 c2 b : EReal) : EReal := c2 * a0 + (c1 * a1 + c0 * a2) + b

theorem select_zero (r : ℕ) (hr : r < 512) (x y : EReal) :
    Scalar.select (IntOp.cmpi CmpIPredicate.eq (BitVec.ofNat 32 r) 0#32) x y = if r = 0 then x else y := by
  by_cases h : r = 0
  · subst h; rfl
  · have : (BitVec.ofNat 32 r) ≠ 0#32 := fun e => h (by
      have := congrArg BitVec.toNat e
      simp at this; omega)
    have e : (BitVec.ofNat 32 r == 0#32) = false := by simpa using this
    simp [Scalar.select, IntOp.cmpi, h, e]

/-- The two taps above a row: the row above it and the one above that. -/
theorem inner_apply (ge : FVec Ideal S528x256 .f32) (c0 c1 : Vec Ideal S1x256 .f32) (r : Fin 512) (n : Fin 256) (hr : 1 ≤ r.val) :
    k0_pay10 ge c0 c1 (ix2 r n) = c1 (ix2 0 n) * ge (ix2 ⟨15 + r.val, by omega⟩ n) + c0 (ix2 0 n) * ge (ix2 ⟨14 + r.val, by omega⟩ n) := by
  unfold k0_pay10 k0_pay7 k0_pay8
  pointwise
  refine congrArg₂ (· + ·) (congrArg₂ (· * ·) rfl (congrArg _ (ix2_congr (by simp only; omega) rfl))) ?_
  by_cases h1 : (r.val + 512 - 1) % 512 < 8
  swap
  · rw [dif_neg h1]
    exact congrArg₂ (· * ·) rfl (congrArg _ (ix2_congr (by simp only; omega) rfl))
  rw [dif_pos h1]
  refine (select_zero _ (by omega) _ _).trans ?_
  split_ifs with h2
  · refine congrArg₂ (· * ·) rfl (congrArg _ (ix2_congr ?_ rfl))
    show 15 = 14 + r.val
    omega
  · exact congrArg₂ (· * ·) rfl (congrArg _ (ix2_congr (by simp only; omega) rfl))

/-- One element of a column block. -/
theorem act_apply (ge : FVec Ideal S528x256 .f32) (u : FVec Ideal S512x256 .f32) (c0 c1 c2 b : Vec Ideal S1x256 .f32) (r : Fin 512) (n : Fin 256) :
    act ge u c0 c1 c2 b (ix2 r n) = (fun x : EReal => x * Ideal.div 1 (1 + Ideal.exp (0 - x)) * u (ix2 r n))
      (conv (ge (ix2 ⟨16 + r.val, by omega⟩ n)) (ge (ix2 ⟨15 + r.val, by omega⟩ n)) (ge (ix2 ⟨14 + r.val, by omega⟩ n))
        (c0 (ix2 0 n)) (c1 (ix2 0 n)) (c2 (ix2 0 n)) (b (ix2 0 n))) := by
  have key : k0_pay9 ge c2 (ix2 r n) = c2 (ix2 0 n) * ge (ix2 ⟨16 + r.val, by omega⟩ n) := by
    unfold k0_pay9 k0_pay7
    pointwise
  unfold act k0_pay15 k0_pay11 k0_pay12 k0_pay13 k0_pay8
  generalize hin : k0_pay10 ge c0 c1 = inner
  generalize hk : k0_pay9 ge c2 = key' at key
  pointwise [key]
  have e : (if h : r.val < 8 then
        Scalar.select (IntOp.cmpi CmpIPredicate.eq (BitVec.ofNat 32 r.val) 0#32)
          (c1 (ix2 0 n) * ge (ix2 15 n) + c0 (ix2 0 n) * ge (ix2 14 n)) (inner (ix2 r n))
      else inner (ix2 ⟨8 + (r.val - 8), by omega⟩ n))
      = c1 (ix2 0 n) * ge (ix2 ⟨15 + r.val, by omega⟩ n) + c0 (ix2 0 n) * ge (ix2 ⟨14 + r.val, by omega⟩ n) := by
    by_cases h1 : r.val < 8
    · rw [dif_pos h1]
      refine (select_zero _ (by omega) _ _).trans ?_
      split_ifs with h2
      · refine congrArg₂ (· + ·) (congrArg₂ (· * ·) rfl (congrArg _ (ix2_congr ?_ rfl))) (congrArg₂ (· * ·) rfl (congrArg _ (ix2_congr ?_ rfl)))
        · show 15 = 15 + r.val
          omega
        · show 14 = 14 + r.val
          omega
      · rw [← hin]; exact inner_apply ge c0 c1 r n (by omega)
    · rw [dif_neg h1, ← hin]
      refine (congrArg _ (ix2_congr (by simp only; omega) rfl)).trans (inner_apply ge c0 c1 r n (by omega))
  unfold conv
  rw [← e]

end Cert.ActIdeal.Val
end
-- ==== Proof.Act.Block.lean ====
module

public import proofs.«01_k».proof.Proof.Act.Apply
public import Idealize.ShloMosaic.Lib.Pipeline.ValueKit.Tiles

/-! What the body of the gated convolution leaves in its output block at a grid point, over the extended reals. -/

@[expose] public section

set_option maxRecDepth 65536
noncomputable section
namespace Cert.ActIdeal.Val
open Cert.ActIdeal Cert.ActIdeal.Gen Idealize.ShloMosaic Idealize.ShloMosaic.TcCoe Idealize.SL.Sem

/-- The halo at a grid point: zero at the first row block of a sequence. -/
theorem halo_apply (i : grid0.Coords) (x : Vec Ideal S16x2048 .bf16) (r : Fin 16) (k : Fin 2048) :
    k0_pay2 i x (ix2 r k) = if (i 1).val % 4 = 0 then 0 else x (ix2 r k) := by
  unfold k0_pay2
  pointwise
  have hi : (i 1).val < 32 := (i 1).isLt
  generalize (i 1).val = n at hi
  generalize x (ix2 r k) = y
  interval_cases n <;> rfl

theorem copy_apply (x : Vec Ideal S512x2048 .bf16) (r : Fin 512) (k : Fin 2048) : k0_pay3 x (ix2 r k) = x (ix2 r k) := by
  unfold k0_pay3
  pointwise

/-- The scratch rows at an index: the halo above, the block below. -/
def rowv (i : grid0.Coords) (x0 : S512x2048.Idx → EReal) (x3 : S16x2048.Idx → EReal) (q : Fin 528) (k : Fin 2048) : EReal :=
  if h : q.val < 16 then (if (i 1).val % 4 = 0 then 0 else x3 (ix2 ⟨q.val, h⟩ k)) else x0 (ix2 ⟨q.val - 16, by omega⟩ k)

theorem rows_apply (c : Dev nD) (i : grid0.Coords) (arg2 : Memref sig .tc .vmem S512x2048 .bf16) (harg2 : arg2.IsWhole) (arg5 : Memref sig .tc .vmem S16x2048 .bf16) (harg5 : arg5.IsWhole) (arg9 : Memref sig .tc .vmem S528x2048 .bf16)
    (x0 : Vec Ideal S512x2048 .bf16) (x3 : Vec Ideal S16x2048 .bf16) (q : Fin 528) (k : Fin 2048) :
    rows c i arg2 harg2 arg5 harg5 arg9 x0 x3 (ix2 q k) = rowv i x0 x3 q k := by
  unfold rows kernelRun0_A.sl.HS0_2
  rw [View.readCov_eq_canon']
  have e0 : ((Rect.unit ![0, 0] S528x2048.size inb_S528x2048_S528x2048_0_0).toLoadRect.idx (ix2 q k) : S528x2048.Idx) = ix2 q k :=
    funext fun a => by fin_cases a <;> exact Fin.ext (by simp)
  show View.canon _ _ = _
  rw [e0]
  unfold rowv
  by_cases h : q.val < 16
  · rw [dif_pos h, View.canon_cons_of_not_mem]
    · have e1 : ix2 q k = (Rect.unit (s := S528x2048) ![0, 0] S16x2048.size inb_S528x2048_S16x2048_0_0).emb (ix2 ⟨q.val, h⟩ k) :=
        funext fun a => by fin_cases a <;> exact Fin.ext (by simp)
      rw [e1, View.canon_cons_emb, View.readAt_eq_ld, harg5.read_unread]
      refine (halo_apply i _ ⟨q.val, h⟩ k).trans ?_
      refine if_congr Iff.rfl rfl (View.ld_unit_apply_of x3 _ _ _ (ix2 ⟨q.val, h⟩ k) _ (fun a => by fin_cases a <;> simp))
    · rw [Rect.mem_set_unit]
      intro hm
      have := (hm 0).1
      simp at this
      omega
  · rw [dif_neg h]
    have e1 : ix2 q k = (Rect.unit (s := S528x2048) ![16, 0] S512x2048.size inb_S528x2048_S512x2048_16_0).emb (ix2 ⟨q.val - 16, by omega⟩ k) :=
      funext fun a => by fin_cases a <;> exact Fin.ext (by simp; try omega)
    rw [e1, View.canon_cons_emb, View.readAt_eq_ld, harg2.read_unread]
    refine (copy_apply _ ⟨q.val - 16, by omega⟩ k).trans ?_
    exact View.ld_unit_apply_of x0 _ _ _ (ix2 (⟨q.val - 16, by omega⟩ : Fin 512) k) _ (fun a => by fin_cases a <;> simp)

/-- The gate at a scratch row and a column. -/
def gatev (i : grid0.Coords) (x0 : S512x2048.Idx → EReal) (x1 : S2048x2816.Idx → EReal) (x3 : S16x2048.Idx → EReal) (q : Fin 528) (n : Fin 2816) : EReal :=
  ∑ k : Fin 2048, rowv i x0 x3 q k * x1 (ix2 k n)

/-- The block at an index. -/
def blockv (i : grid0.Coords) (x0 : S512x2048.Idx → EReal) (x1 x2 : S2048x2816.Idx → EReal) (x3 : S16x2048.Idx → EReal) (x4 : S3x2816.Idx → EReal) (x5 : S1x2816.Idx → EReal)
    (r : Fin 512) (n : Fin 2816) : EReal :=
  (fun x : EReal => x * Ideal.div 1 (1 + Ideal.exp (0 - x)) * ∑ k : Fin 2048, x0 (ix2 r k) * x2 (ix2 k n))
    (conv (gatev i x0 x1 x3 ⟨16 + r.val, by omega⟩ n) (gatev i x0 x1 x3 ⟨15 + r.val, by omega⟩ n) (gatev i x0 x1 x3 ⟨14 + r.val, by omega⟩ n)
      (x4 (ix2 0 n)) (x4 (ix2 1 n)) (x4 (ix2 2 n)) (x5 (ix2 0 n)))

/-- One of the eleven stores, at an index of its rectangle. -/
theorem piece_apply (c : Dev nD) (i : grid0.Coords) (arg2 : Memref sig .tc .vmem S512x2048 .bf16) (harg2 : arg2.IsWhole) (arg3 : Memref sig .tc .vmem S2048x2816 .bf16) (harg3 : arg3.IsWhole) (arg4 : Memref sig .tc .vmem S2048x2816 .bf16) (harg4 : arg4.IsWhole) (arg5 : Memref sig .tc .vmem S16x2048 .bf16) (harg5 : arg5.IsWhole) (arg6 : Memref sig .tc .vmem S3x2816 .f32) (harg6 : arg6.IsWhole) (arg7 : Memref sig .tc .vmem S1x2816 .f32) (harg7 : arg7.IsWhole) (arg9 : Memref sig .tc .vmem S528x2048 .bf16)
    (x0 : Vec Ideal S512x2048 .bf16) (x1 : Vec Ideal S2048x2816 .bf16) (x2 : Vec Ideal S2048x2816 .bf16) (x3 : Vec Ideal S16x2048 .bf16) (x4 : Vec Ideal S3x2816 .f32) (x5 : Vec Ideal S1x2816 .f32)
    (o : ℕ) (ho : o + 256 ≤ 2816) (i0) (i1) (i2) (i3) (i4) (i5) (z : S512x256.Idx) :
    act (k0_pay4 (rows c i arg2 harg2 arg5 harg5 arg9 x0 x3) (View.readAt (Elt Ideal) arg3.view (Rect.unit (s := S2048x2816) ![0, o] S2048x256.size i0).toLoadRect (harg3.unread x1)))
        (k0_pay5 (View.readAt (Elt Ideal) arg2.view (Rect.unit (s := S512x2048) ![0, 0] S512x2048.size inb_S512x2048_S512x2048_0_0).toLoadRect (harg2.unread x0)) (View.readAt (Elt Ideal) arg4.view (Rect.unit (s := S2048x2816) ![0, o] S2048x256.size i0).toLoadRect (harg4.unread x2)))
        (View.readAt (Elt Ideal) arg6.view (Rect.unit (s := S3x2816) ![0, o] S1x256.size i1).toLoadRect (harg6.unread x4))
        (View.readAt (Elt Ideal) arg6.view (Rect.unit (s := S3x2816) ![1, o] S1x256.size i2).toLoadRect (harg6.unread x4))
        (View.readAt (Elt Ideal) arg6.view (Rect.unit (s := S3x2816) ![2, o] S1x256.size i3).toLoadRect (harg6.unread x4))
        (View.readAt (Elt Ideal) arg7.view (Rect.unit (s := S1x2816) ![0, o] S1x256.size i4).toLoadRect (harg7.unread x5)) z
      = (fun y : S512x2816.Idx => blockv i x0 x1 x2 x3 x4 x5 (y 0) (y 1)) ((Rect.unit (s := S512x2816) ![0, o] ![512, 256] i5).emb z) := by
  obtain ⟨r, n, rfl⟩ : ∃ (r : Fin 512) (n : Fin 256), z = ix2 r n := ⟨z 0, z 1, eq_ix2 z⟩
  have en : o + n.val < 2816 := by omega
  have e1 : (Rect.unit (s := S512x2816) ![0, o] ![512, 256] i5).emb (ix2 r n) = ix2 r ⟨o + n.val, en⟩ :=
    funext fun a => by fin_cases a <;> exact Fin.ext (by simp)
  rw [e1]
  show _ = blockv i x0 x1 x2 x3 x4 x5 r ⟨o + n.val, en⟩
  simp only [View.readAt_eq_ld, harg2.read_unread, harg3.read_unread, harg4.read_unread, harg6.read_unread, harg7.read_unread]
  have l1 : ∀ (x : Vec Ideal S2048x2816 .bf16) (k : Fin 2048), View.ld (Val := Elt Ideal) x (Rect.unit (s := S2048x2816) ![0, o] S2048x256.size i0) (ix2 k n) = x (ix2 k ⟨o + n.val, en⟩) :=
    fun x k => View.ld_unit_apply_of x _ _ _ (ix2 k n) _ (fun a => by fin_cases a <;> simp)
  have l0 : ∀ k : Fin 2048, View.ld (Val := Elt Ideal) x0 (Rect.unit (s := S512x2048) ![0, 0] S512x2048.size inb_S512x2048_S512x2048_0_0) (ix2 r k) = x0 (ix2 r k) :=
    fun k => View.ld_unit_apply_of x0 _ _ _ (ix2 r k) _ (fun a => by fin_cases a <;> simp)
  have l4 : View.ld (Val := Elt Ideal) x4 (Rect.unit (s := S3x2816) ![0, o] S1x256.size i1) (ix2 0 n) = x4 (ix2 0 ⟨o + n.val, en⟩) :=
    View.ld_unit_apply_of x4 _ _ _ (ix2 0 n) _ (fun a => by fin_cases a <;> simp)
  have l5 : View.ld (Val := Elt Ideal) x4 (Rect.unit (s := S3x2816) ![1, o] S1x256.size i2) (ix2 0 n) = x4 (ix2 1 ⟨o + n.val, en⟩) :=
    View.ld_unit_apply_of x4 _ _ _ (ix2 0 n) _ (fun a => by fin_cases a <;> simp)
  have l6 : View.ld (Val := Elt Ideal) x4 (Rect.unit (s := S3x2816) ![2, o] S1x256.size i3) (ix2 0 n) = x4 (ix2 2 ⟨o + n.val, en⟩) :=
    View.ld_unit_apply_of x4 _ _ _ (ix2 0 n) _ (fun a => by fin_cases a <;> simp)
  have l7 : View.ld (Val := Elt Ideal) x5 (Rect.unit (s := S1x2816) ![0, o] S1x256.size i4) (ix2 0 n) = x5 (ix2 0 ⟨o + n.val, en⟩) :=
    View.ld_unit_apply_of x5 _ _ _ (ix2 0 n) _ (fun a => by fin_cases a <;> simp)
  have hg : ∀ q : Fin 528, k0_pay4 (rows c i arg2 harg2 arg5 harg5 arg9 x0 x3) (View.ld (Val := Elt Ideal) x1 (Rect.unit (s := S2048x2816) ![0, o] S2048x256.size i0)) (ix2 q n)
      = gatev i x0 x1 x3 q ⟨o + n.val, en⟩ := fun q =>
    (gate_apply _ _ q n).trans (Finset.sum_congr rfl fun k _ => congrArg₂ (fun x y : EReal => x * y) (rows_apply c i arg2 harg2 arg5 harg5 arg9 x0 x3 q k) (l1 x1 k))
  have hu : k0_pay5 (View.ld (Val := Elt Ideal) x0 (Rect.unit (s := S512x2048) ![0, 0] S512x2048.size inb_S512x2048_S512x2048_0_0)) (View.ld (Val := Elt Ideal) x2 (Rect.unit (s := S2048x2816) ![0, o] S2048x256.size i0)) (ix2 r n)
      = ∑ k : Fin 2048, x0 (ix2 r k) * x2 (ix2 k ⟨o + n.val, en⟩) :=
    (up_apply _ _ r n).trans (Finset.sum_congr rfl fun k _ => congrArg₂ (fun x y : EReal => x * y) (l0 k) (l1 x2 k))
  refine (act_apply _ _ _ _ _ _ r n).trans ?_
  rw [hg, hg, hg, hu, l4, l5, l6, l7]
  rfl

/-- The block the body leaves, at an index. -/
theorem out_apply (c : Dev nD) (i : grid0.Coords) (arg2 : Memref sig .tc .vmem S512x2048 .bf16) (harg2 : arg2.IsWhole) (arg3 : Memref sig .tc .vmem S2048x2816 .bf16) (harg3 : arg3.IsWhole) (arg4 : Memref sig .tc .vmem S2048x2816 .bf16) (harg4 : arg4.IsWhole) (arg5 : Memref sig .tc .vmem S16x2048 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S512x2816 .bf16) (harg8 : arg8.IsWhole) (arg9 : Memref sig .tc .vmem S528x2048 .bf16) (harg9 : arg9.IsWhole)
    (x0 : Vec Ideal S512x2048 .bf16) (x1 : Vec Ideal S2048x2816 .bf16) (x2 : Vec Ideal S2048x2816 .bf16) (x3 : Vec Ideal S16x2048 .bf16) (x4 : Vec Ideal S3x2816 .f32) (x5 : Vec Ideal S1x2816 .f32)
    (r : Fin 512) (n : Fin 2816) :
    out0_A_6 c i arg2 harg2 arg3 harg3 arg4 harg4 arg5 harg5 arg6 harg6 arg7 harg7 arg8 harg8 arg9 harg9 x0 x1 x2 x3 x4 x5 (ix2 r n)
      = blockv i x0 x1 x2 x3 x4 x5 r n := by
  have hc := cover0_A_6 c i arg2 harg2 arg3 harg3 arg4 harg4 arg5 harg5 arg6 harg6 arg7 harg7 arg8 harg8 arg9 harg9 x0 x1 x2 x3 x4 x5
  unfold out0_A_6
  rw [View.read_writes_eq_canon _ _ _ hc]
  refine View.canon_apply_of_pieces (fun y : S512x2816.Idx => blockv i x0 x1 x2 x3 x4 x5 (y 0) (y 1)) _ ?_ (ix2 r n) (hc (ix2 r n))
  have P := piece_apply c i arg2 harg2 arg3 harg3 arg4 harg4 arg5 harg5 arg6 harg6 arg7 harg7 arg9 x0 x1 x2 x3 x4 x5
  rw [pieces]
  intro p hp
  simp only [List.mem_cons, List.not_mem_nil, or_false] at hp
  rcases hp with rfl | rfl | rfl | rfl | rfl | rfl | rfl | rfl | rfl | rfl | rfl
  · exact fun z => P 2560 (by norm_num) _ _ _ _ _ inb_S512x2816_S512x256_0_2560 z
  · exact fun z => P 2304 (by norm_num) _ _ _ _ _ inb_S512x2816_S512x256_0_2304 z
  · exact fun z => P 2048 (by norm_num) _ _ _ _ _ inb_S512x2816_S512x256_0_2048 z
  · exact fun z => P 1792 (by norm_num) _ _ _ _ _ inb_S512x2816_S512x256_0_1792 z
  · exact fun z => P 1536 (by norm_num) _ _ _ _ _ inb_S512x2816_S512x256_0_1536 z
  · exact fun z => P 1280 (by norm_num) _ _ _ _ _ inb_S512x2816_S512x256_0_1280 z
  · exact fun z => P 1024 (by norm_num) _ _ _ _ _ inb_S512x2816_S512x256_0_1024 z
  · exact fun z => P 768 (by norm_num) _ _ _ _ _ inb_S512x2816_S512x256_0_768 z
  · exact fun z => P 512 (by norm_num) _ _ _ _ _ inb_S512x2816_S512x256_0_512 z
  · exact fun z => P 256 (by norm_num) _ _ _ _ _ inb_S512x2816_S512x256_0_256 z
  · exact fun z => P 0 (by norm_num) _ _ _ _ _ inb_S512x2816_S512x256_0_0 z

end Cert.ActIdeal.Val
end
-- ==== Proof.Act.Ref.lean ====
module

public import proofs.«01_k».proof.Proof.Act.Apply
public import proofs.«01_k».proof.Proof.Gen.ActReferenceIdeal.Read
public import Idealize.ShloMosaic.Lib.Pointwise

/-! The reference of the gated convolution, read at an index over the extended reals. -/

@[expose] public section

set_option maxRecDepth 65536
noncomputable section
namespace Cert.ActReferenceIdeal.Val
open Cert.ActReferenceIdeal Cert.ActReferenceIdeal.Read Idealize.ShloMosaic Idealize.ShloMosaic.TcCoe Idealize.SL.Sem

variable (h : S8x2048x2048.Idx → EReal) (wg wu : S2048x5632.Idx → EReal) (cw : S3x5632.Idx → EReal) (cb : S5632.Idx → EReal)

/-- The gate product at a position and a column. -/
def gate (b : Fin 8) (s : Fin 2048) (n : Fin 5632) : EReal := ∑ k : Fin 2048, h (ix3 b s k) * wg (ix2 k n)

theorem gate_eq (b : Fin 8) (s : Fin 2048) (n : Fin 5632) : val_main_v0 (F := Ideal) h wg (ix3 b s n) = gate h wg b s n := by
  unfold val_main_v0 gate
  pointwise [dot_S8x2048x2048_S2048x5632_S8x2048x5632_2_0_01_1_n_n]

theorem up_eq (b : Fin 8) (s : Fin 2048) (n : Fin 5632) : val_main_v26 (F := Ideal) h wu (ix3 b s n) = gate h wu b s n := by
  unfold val_main_v26 gate
  pointwise [dot_S8x2048x2048_S2048x5632_S8x2048x5632_2_0_01_1_n_n]

theorem zero_int : (FloatOps.sitofp FTy.f32 0#32 : Ideal FTy.f32) = (0 : EReal) := by
  show (((0#32 : BitVec 32).toInt : ℝ) : EReal) = 0
  simp

/-- The gate `d` positions back; zero before the first position. -/
def back (d : ℕ) (b : Fin 8) (s : Fin 2048) (n : Fin 5632) : EReal :=
  if d ≤ s.val then gate h wg b ⟨s.val - d, by omega⟩ n else 0

theorem back1_eq (b : Fin 8) (s : Fin 2048) (n : Fin 5632) : val_main_v2 (F := Ideal) h wg (ix3 b s n) = back h wg 1 b s n := by
  unfold val_main_v2 val_main_v1 val_main_call0_v0 val_main_c back
  have key := gate_eq h wg b
  generalize val_main_v0 (F := Ideal) h wg = g at key
  pointwise
  by_cases hs : 1 ≤ s.val
  · rw [dif_pos ⟨hs, by omega⟩, if_pos hs]
    exact key _ n
  · rw [dif_neg (fun e => hs e.1), if_neg hs]
    exact zero_int

theorem back2_eq (b : Fin 8) (s : Fin 2048) (n : Fin 5632) : val_main_v4 (F := Ideal) h wg (ix3 b s n) = back h wg 2 b s n := by
  unfold val_main_v4 val_main_v3 val_main_call1_v0 val_main_c_0 back
  have key := gate_eq h wg b
  generalize val_main_v0 (F := Ideal) h wg = g at key
  pointwise
  by_cases hs : 2 ≤ s.val
  · rw [dif_pos ⟨hs, by omega⟩, if_pos hs]
    exact key _ n
  · rw [dif_neg (fun e => hs e.1), if_neg hs]
    exact zero_int

/-- The reference at an index. -/
theorem ref_apply (b : Fin 8) (s : Fin 2048) (n : Fin 5632) :
    val_main_v29 (F := Ideal) h wg wu cw cb (ix2 ⟨2048 * b.val + s.val, by omega⟩ n)
      = (fun x : EReal => x * Ideal.div 1 (1 + Ideal.exp (-x)) * gate h wu b s n)
        (back h wg 2 b s n * cw (ix2 0 n) + back h wg 1 b s n * cw (ix2 1 n) + gate h wg b s n * cw (ix2 2 n) + cb (ix1 n)) := by
  rw [← up_eq, ← gate_eq, ← back1_eq, ← back2_eq]
  unfold val_main_v29 val_main_v28 val_main_v27 val_main_v25 val_main_call2_v5 val_main_call2_v4 val_main_call2_cst_0 val_main_call2_v3 val_main_call2_v2 val_main_call2_cst
    val_main_call2_v1 val_main_call2_v0 val_main_v24 val_main_v23 val_main_v22 val_main_v21 val_main_v20 val_main_v19 val_main_v18 val_main_v17 val_main_v16 val_main_v15
    val_main_v14 val_main_v13 val_main_v12 val_main_v11 val_main_v10 val_main_v9 val_main_v8 val_main_v7 val_main_v6 val_main_v5
  generalize val_main_v0 (F := Ideal) h wg = g0
  generalize val_main_v2 (F := Ideal) h wg = g1
  generalize val_main_v4 (F := Ideal) h wg = g2
  generalize val_main_v26 (F := Ideal) h wu = g3
  pointwise

end Cert.ActReferenceIdeal.Val
end
-- ==== Proof.Act.Value.lean ====
module

public import proofs.«01_k».proof.Proof.Act.Block
public import proofs.«01_k».proof.Proof.Act.Ref
public import Idealize.ShloMosaic.Lib.StableHlo.ReadAt
public import Idealize.ShloMosaic.Lib.Pipeline.ValueKit.Point

/-! The gated convolution: the kernel's result array is the reference's. -/

@[expose] public section

set_option maxRecDepth 65536
noncomputable section
namespace Cert.ActIdeal.Val
open Cert.ActIdeal Cert.ActIdeal.Gen Idealize.ShloMosaic Idealize.ShloMosaic.TcCoe Idealize.SL.Sem
open Cert.ActReferenceIdeal.Val (gate back)

variable (m : (ℓ : Loc nD τ sig) → Buf (Elt Ideal) ℓ)

/-- The argument arrays. -/
abbrev xh (c : Dev nD) : S8x2048x2048.Idx → EReal := m ((c : Thread nD τ).loc main_arg0)
abbrev xg (c : Dev nD) : S2048x5632.Idx → EReal := m ((c : Thread nD τ).loc main_arg1)
abbrev xu (c : Dev nD) : S2048x5632.Idx → EReal := m ((c : Thread nD τ).loc main_arg2)
abbrev xw (c : Dev nD) : S3x5632.Idx → EReal := m ((c : Thread nD τ).loc main_arg3)
abbrev xb (c : Dev nD) : S5632.Idx → EReal := m ((c : Thread nD τ).loc main_arg4)

/-- The host's operands at an index. -/
theorem v1_at (c : Dev nD) (b : Fin 8) (s : Fin 2048) (k : Fin 2048) :
    V m c main_v1 (ix2 ⟨2048 * b.val + s.val, by omega⟩ k) = xh m c (ix3 b s k) := by
  unfold V
  after_reads_at
  have e5 : (2048 * b.val + s.val) / 2048 = b.val := by omega
  have e6 : (2048 * b.val + s.val) % 2048 = s.val := by omega
  simp only [e5, e6, Fin.eta]

theorem v2_at (c : Dev nD) (k : Fin 2048) (n : Fin 5632) : V m c main_v2 (ix2 k n) = xg m c (ix2 k n) := by
  unfold V
  after_reads_at

theorem v3_at (c : Dev nD) (k : Fin 2048) (n : Fin 5632) : V m c main_v3 (ix2 k n) = xu m c (ix2 k n) := by
  unfold V
  after_reads_at

theorem arg3_at (c : Dev nD) (k : Fin 3) (n : Fin 5632) : V m c main_arg3 (ix2 k n) = xw m c (ix2 k n) := by
  unfold V
  after_reads_at

theorem v4_at (c : Dev nD) (n : Fin 5632) : V m c main_v4 (ix2 0 n) = xb m c (ix1 n) := by
  unfold V
  after_reads_at

/-- Which block of each array a grid point reads or writes. -/
theorem idx7 : ∀ t : Fin grid0.N, win0_0.index t = ![(grid0.coords t 1).val, 0] ∧ win0_1.index t = ![0, (grid0.coords t 0).val]
  ∧ win0_2.index t = ![0, (grid0.coords t 0).val] ∧ win0_3.index t = ![32 * (grid0.coords t 1).val - 1, 0] ∧ win0_4.index t = ![0, (grid0.coords t 0).val]
  ∧ win0_5.index t = ![0, (grid0.coords t 0).val] ∧ win0_6.index t = ![(grid0.coords t 1).val, (grid0.coords t 0).val] := by decide +kernel

variable (t : Fin cfg0.N) (j : Fin 2) (i : Fin 32)

theorem blk0 (c : Dev nD) (hi : i.val = (grid0.coords t 1).val) (r : Fin 512) (k : Fin 2048) :
    iblk m c 0 t (ix2 r k) = V m c main_v1 (ix2 ⟨512 * i.val + r.val, by omega⟩ k) := by
  blk_ext [iblk, idx7 t]

theorem blk1 (c : Dev nD) (hj : j.val = (grid0.coords t 0).val) (k : Fin 2048) (n : Fin 2816) :
    iblk m c 1 t (ix2 k n) = V m c main_v2 (ix2 k ⟨2816 * j.val + n.val, by omega⟩) := by
  blk_ext [iblk, idx7 t]

theorem blk2 (c : Dev nD) (hj : j.val = (grid0.coords t 0).val) (k : Fin 2048) (n : Fin 2816) :
    iblk m c 2 t (ix2 k n) = V m c main_v3 (ix2 k ⟨2816 * j.val + n.val, by omega⟩) := by
  blk_ext [iblk, idx7 t]

theorem blk3 (c : Dev nD) (hi : i.val = (grid0.coords t 1).val) (r : Fin 16) (k : Fin 2048) :
    iblk m c 3 t (ix2 r k) = V m c main_v1 (ix2 ⟨16 * (32 * i.val - 1) + r.val, by omega⟩ k) := by
  blk_ext [iblk, idx7 t]

theorem blk4 (c : Dev nD) (hj : j.val = (grid0.coords t 0).val) (k : Fin 3) (n : Fin 2816) :
    iblk m c 4 t (ix2 k n) = V m c main_arg3 (ix2 k ⟨2816 * j.val + n.val, by omega⟩) := by
  blk_ext [iblk, idx7 t]

theorem blk5 (c : Dev nD) (hj : j.val = (grid0.coords t 0).val) (n : Fin 2816) :
    iblk m c 5 t (ix2 0 n) = V m c main_v4 (ix2 0 ⟨2816 * j.val + n.val, by omega⟩) := by
  blk_ext [iblk, idx7 t]

theorem emb6 (hi : i.val = (grid0.coords t 1).val) (hj : j.val = (grid0.coords t 0).val) (r : Fin 512) (n : Fin 2816) (G : S16384x5632.Idx → EReal) :
    G ((win0_6.blk t).view.emb (ix2 r n)) = G (ix2 ⟨512 * i.val + r.val, by omega⟩ ⟨2816 * j.val + n.val, by omega⟩) := by
  blk_ext [iblk, idx7 t]

/-- The gate product `d` rows above row `r` of the block, at the block's column. -/
theorem gate_row (c : Dev nD) (hi : i.val = (grid0.coords t 1).val) (hj : j.val = (grid0.coords t 0).val) (b : Fin 8) (hb : b.val = i.val / 4)
    (s : Fin 2048) (r : Fin 512) (hs : s.val = 512 * (i.val % 4) + r.val) (n : Fin 2816) (d : ℕ) (hd : d ≤ 2) (q : Fin 528) (hq : q.val + d = 16 + r.val) :
    gatev (grid0.coords t) (iblk m c 0 t) (iblk m c 1 t) (iblk m c 3 t) q n
      = back (xh m c) (xg m c) d b s ⟨2816 * j.val + n.val, by omega⟩ := by
  have hw : ∀ k, iblk m c 1 t (ix2 k n) = xg m c (ix2 k ⟨2816 * j.val + n.val, by omega⟩) := fun k => by rw [blk1 m t j c hj]; exact v2_at m c k _
  have hrow : ∀ (R : ℕ) (hR : R < 16384) (k : Fin 2048) (s' : Fin 2048), R = 2048 * b.val + s'.val → V m c main_v1 (ix2 ⟨R, hR⟩ k) = xh m c (ix3 b s' k) := by
    intro R hR k s' e; subst e; exact v1_at m c b s' k
  unfold gatev back
  by_cases hds : d ≤ s.val
  · rw [if_pos hds]
    unfold gate
    refine Finset.sum_congr rfl fun k _ => congrArg₂ (fun x y : EReal => x * y) ?_ (hw k)
    unfold rowv
    by_cases h : q.val < 16
    · rw [dif_pos h, if_neg (by omega)]
      rw [blk3 m t i c hi]
      exact hrow _ _ k _ (by simp only; omega)
    · rw [dif_neg h, blk0 m t i c hi]
      exact hrow _ _ k _ (by simp only; omega)
  · rw [if_neg hds]
    refine Finset.sum_eq_zero fun k _ => ?_
    unfold rowv
    rw [dif_pos (by omega), if_pos (by omega), zero_mul]

/-- The kernel's result array is the reference's. -/
theorem result_eq (c : Dev nD) :
    (dats m 0 c).arrAt 6 cfg0.N = Cert.ActReferenceIdeal.Read.val_main_v29 (F := Ideal) (xh m c) (xg m c) (xu m c) (xw m c) (xb m c) := by
  refine (dats m 0 c).arrAt_eq_of_covers 6 _ (by decide +kernel) fun t hf y => ?_
  blk_simp
  rw [after0_6]
  obtain ⟨i, hi⟩ : ∃ i : Fin 32, i.val = (grid0.coords t 1).val := ⟨⟨_, (grid0.coords t 1).isLt⟩, rfl⟩
  obtain ⟨j, hj⟩ : ∃ j : Fin 2, j.val = (grid0.coords t 0).val := ⟨⟨_, (grid0.coords t 0).isLt⟩, rfl⟩
  obtain ⟨r, n, rfl⟩ : ∃ (r : Fin 512) (n : Fin 2816), y = ix2 r n := ⟨y 0, y 1, eq_ix2 y⟩
  refine Eq.trans ?_ (emb6 t j i hi hj r n (Cert.ActReferenceIdeal.Read.val_main_v29 (F := Ideal) (xh m c) (xg m c) (xu m c) (xw m c) (xb m c))).symm
  obtain ⟨b, hb⟩ : ∃ b : Fin 8, b.val = i.val / 4 := ⟨⟨i.val / 4, by omega⟩, rfl⟩
  obtain ⟨s, hs⟩ : ∃ s : Fin 2048, s.val = 512 * (i.val % 4) + r.val := ⟨⟨512 * (i.val % 4) + r.val, by omega⟩, rfl⟩
  have e : ∀ h, (⟨512 * i.val + r.val, h⟩ : Fin 16384) = ⟨2048 * b.val + s.val, by omega⟩ := fun h => Fin.ext (by simp only; omega)
  have h0 : ∀ k, iblk m c 0 t (ix2 r k) = xh m c (ix3 b s k) := fun k => by rw [blk0 m t i c hi, e]; exact v1_at m c b s k
  have h2 : ∀ k, iblk m c 2 t (ix2 k n) = xu m c (ix2 k ⟨2816 * j.val + n.val, by omega⟩) := fun k => by rw [blk2 m t j c hj]; exact v3_at m c k _
  have h4 : ∀ k, iblk m c 4 t (ix2 k n) = xw m c (ix2 k ⟨2816 * j.val + n.val, by omega⟩) := fun k => by rw [blk4 m t j c hj]; exact arg3_at m c k _
  have h5 : iblk m c 5 t (ix2 0 n) = xb m c (ix1 ⟨2816 * j.val + n.val, by omega⟩) := by rw [blk5 m t j c hj]; exact v4_at m c _
  have g0 := gate_row m t j i c hi hj b hb s r hs n 0 (by omega) ⟨16 + r.val, by omega⟩ rfl
  have g1 := gate_row m t j i c hi hj b hb s r hs n 1 (by omega) ⟨15 + r.val, by omega⟩ (by simp only; omega)
  have g2 := gate_row m t j i c hi hj b hb s r hs n 2 (by omega) ⟨14 + r.val, by omega⟩ (by simp only; omega)
  have gz : ∀ n, back (xh m c) (xg m c) 0 b s n = gate (xh m c) (xg m c) b s n := fun n => if_pos (Nat.zero_le _)
  rw [e, Cert.ActReferenceIdeal.Val.ref_apply]
  unfold outsAt0
  refine (out_apply c (grid0.coords t) _ _ _ _ _ _ _ _ _ _ _ _ _ _ _ _ _ _ _ _ _ _ r n).trans ?_
  unfold blockv
  rw [g0, g1, g2, gz, h4, h4, h4, h5]
  have hu : ∑ k : Fin 2048, (fun x y : EReal => x * y) (iblk m c 0 t (ix2 r k)) (iblk m c 2 t (ix2 k n)) = gate (xh m c) (xu m c) b s ⟨2816 * j.val + n.val, by omega⟩ :=
    Finset.sum_congr rfl fun k _ => congrArg₂ (fun x y : EReal => x * y) (h0 k) (h2 k)
  dsimp only at hu ⊢
  rw [hu]
  have hc : ∀ a0 a1 a2 c0 c1 c2 z : EReal, conv a0 a1 a2 c0 c1 c2 z = a2 * c0 + a1 * c1 + a0 * c2 + z := fun a0 a1 a2 c0 c1 c2 z => by
    unfold conv
    rw [add_comm (c2 * a0), add_comm (c1 * a1), mul_comm c0, mul_comm c1, mul_comm c2]
  have hn : ∀ x : EReal, 0 - x = -x := fun x => zero_sub x
  rw [hc]
  simp only [hn]

end Cert.ActIdeal.Val
end
-- ==== Proof.Down.Value.lean ====
module

public import proofs.«01_k».proof.Proof.Gen.DownIdeal.Value
public import proofs.«01_k».proof.Proof.Gen.DownReferenceIdeal.Read
public import Idealize.ShloMosaic.Lib.StableHlo.ReadAt
public import Idealize.ShloMosaic.Lib.Pipeline.ValueKit.Point
public import Idealize.ShloMosaic.Lib.Pointwise

/-! The FFN's down product, its residual and the norm after it: the kernel's result array is the reference's. -/

@[expose] public section

set_option maxRecDepth 16384
noncomputable section
namespace Cert.DownIdeal.Val
open Cert.DownIdeal Cert.DownIdeal.Gen Idealize.ShloMosaic Idealize.ShloMosaic.TcCoe Idealize.SL.Sem

variable (m : (ℓ : Loc nD τ sig) → Buf (Elt Ideal) ℓ)

/-- The argument arrays. -/
abbrev xa (c : Dev nD) : S8x2048x5632.Idx → EReal := m ((c : Thread nD τ).loc main_arg0)
abbrev xw (c : Dev nD) : S5632x2048.Idx → EReal := m ((c : Thread nD τ).loc main_arg1)
abbrev xr (c : Dev nD) : S8x2048x2048.Idx → EReal := m ((c : Thread nD τ).loc main_arg2)
abbrev xg (c : Dev nD) : S2048.Idx → EReal := m ((c : Thread nD τ).loc main_arg3)

/-- One row before the norm: the residual and the product. -/
def row (a : S8x2048x5632.Idx → EReal) (w : S5632x2048.Idx → EReal) (x : S8x2048x2048.Idx → EReal) (b : Fin 8) (s : Fin 2048) (n : Fin 2048) : EReal :=
  x (ix3 b s n) + ∑ k : Fin 5632, a (ix3 b s k) * w (ix2 k n)

/-- A row after the norm. -/
def normed (f : Fin 2048 → EReal) (g : S2048.Idx → EReal) (n : Fin 2048) : EReal :=
  f n * Ideal.rsqrt (Ideal.div (∑ k : Fin 2048, f k * f k) (Ideal.ofBits FTy.f32 0x45000000#32) + Ideal.ofBits FTy.f32 0x358637BD#32) * g (ix1 n)

/-- The host's operands at an index. -/
theorem v1_at (c : Dev nD) (b : Fin 8) (s : Fin 2048) (k : Fin 5632) :
    V m c main_v1 (ix2 ⟨2048 * b.val + s.val, by omega⟩ k) = xa m c (ix3 b s k) := by
  unfold V
  after_reads_at
  have e5 : (2048 * b.val + s.val) / 2048 = b.val := by omega
  have e6 : (2048 * b.val + s.val) % 2048 = s.val := by omega
  simp only [e5, e6, Fin.eta]

theorem v2_at (c : Dev nD) (k : Fin 5632) (n : Fin 2048) : V m c main_v2 (ix2 k n) = xw m c (ix2 k n) := by
  unfold V
  after_reads_at

theorem v3_at (c : Dev nD) (b : Fin 8) (s : Fin 2048) (n : Fin 2048) :
    V m c main_v3 (ix2 ⟨2048 * b.val + s.val, by omega⟩ n) = xr m c (ix3 b s n) := by
  unfold V
  after_reads_at

theorem v4_at (c : Dev nD) (n : Fin 2048) : V m c main_v4 (ix2 0 n) = xg m c (ix1 n) := by
  unfold V
  after_reads_at

/-- What one grid point computes, at an index. -/
theorem out_apply (x0 : Vec Ideal S512x5632 .bf16) (x1 : Vec Ideal S5632x2048 .bf16) (x2 : Vec Ideal S512x2048 .f32) (x3 : Vec Ideal S1x2048 .f32)
    (r : Fin 512) (n : Fin 2048) : out0_4 x0 x1 x2 x3 (ix2 r n)
      = (fun f : Fin 2048 → EReal => f n * Ideal.rsqrt (Ideal.div (∑ k : Fin 2048, f k * f k) (Ideal.ofBits FTy.f32 0x45000000#32)
          + Ideal.ofBits FTy.f32 0x358637BD#32) * x3 (ix2 0 n)) (fun n => x2 (ix2 r n) + ∑ k : Fin 5632, x0 (ix2 r k) * x1 (ix2 k n)) := by
  unfold out0_4
  rw [show View.ld x0 r0_1 = x0 from View.ld_unit_zero (by decide) _ x0, show View.ld x1 r0_2 = x1 from View.ld_unit_zero (by decide) _ x1,
    show View.ld x2 r0_0 = x2 from View.ld_unit_zero (by decide) _ x2, show View.ld x3 r0_3 = x3 from View.ld_unit_zero (by decide) _ x3]
  refine (congrFun (View.canon_unit_zero (by decide) _ _) _).trans ?_
  unfold k0_pay1
  pointwise [dot_S512x5632_S5632x2048_S512x2048_1_0_0_1_n_n]

/-- Which block of each array a grid point reads or writes. -/
theorem idx4 : ∀ t : Fin grid0.N, win0_0.index t = ![(grid0.coords t 0).val, 0] ∧ win0_1.index t = ![0, 0]
  ∧ win0_2.index t = ![(grid0.coords t 0).val, 0] ∧ win0_3.index t = ![0, 0] ∧ win0_4.index t = ![(grid0.coords t 0).val, 0] := by decide +kernel

variable (t : Fin cfg0.N) (i : Fin 32)

theorem blk0 (c : Dev nD) (hi : i.val = (grid0.coords t 0).val) (r : Fin 512) (k : Fin 5632) :
    iblk m c 0 t (ix2 r k) = V m c main_v1 (ix2 ⟨512 * i.val + r.val, by omega⟩ k) := by
  blk_ext [iblk, idx4 t]

theorem blk1 (c : Dev nD) (k : Fin 5632) (n : Fin 2048) : iblk m c 1 t (ix2 k n) = V m c main_v2 (ix2 k n) := by
  blk_ext [iblk, idx4 t]

theorem blk2 (c : Dev nD) (hi : i.val = (grid0.coords t 0).val) (r : Fin 512) (n : Fin 2048) :
    iblk m c 2 t (ix2 r n) = V m c main_v3 (ix2 ⟨512 * i.val + r.val, by omega⟩ n) := by
  blk_ext [iblk, idx4 t]

theorem blk3 (c : Dev nD) (n : Fin 2048) : iblk m c 3 t (ix2 0 n) = V m c main_v4 (ix2 0 n) := by
  blk_ext [iblk, idx4 t]

theorem emb4 (hi : i.val = (grid0.coords t 0).val) (r : Fin 512) (n : Fin 2048) (G : S16384x2048.Idx → EReal) :
    G ((win0_4.blk t).view.emb (ix2 r n)) = G (ix2 ⟨512 * i.val + r.val, by omega⟩ n) := by
  blk_ext [iblk, idx4 t]

open Cert.DownReferenceIdeal.Read in
/-- The reference at an index. -/
theorem ref_apply (a : S8x2048x5632.Idx → EReal) (w : S5632x2048.Idx → EReal) (x : S8x2048x2048.Idx → EReal) (g : S2048.Idx → EReal)
    (b : Fin 8) (s : Fin 2048) (n : Fin 2048) :
    val_main_v15 (F := Ideal) a w x g (ix2 ⟨2048 * b.val + s.val, by omega⟩ n) = normed (row a w x b s) g n := by
  unfold val_main_v15 val_main_v14 val_main_v13 val_main_v12 val_main_v11 val_main_v10 val_main_v9 val_main_v8 val_main_v7 val_main_cst_1 val_main_v6
    val_main_v5 val_main_cst_0 val_main_v4 val_main_v3 val_main_cst val_main_v2 val_main_v1 val_main_v0 normed row
  pointwise [Cert.DownReferenceIdeal.dot_S8x2048x5632_S5632x2048_S8x2048x2048_2_0_01_1_n_n]

/-- The kernel's result array is the reference's. -/
theorem result_eq (c : Dev nD) :
    (dats m 0 c).arrAt 4 cfg0.N = Cert.DownReferenceIdeal.Read.val_main_v15 (F := Ideal) (xa m c) (xw m c) (xr m c) (xg m c) := by
  refine (dats m 0 c).arrAt_eq_of_covers 4 _ (by decide +kernel) fun t hf y => ?_
  blk_simp
  rw [after0_4]
  obtain ⟨i, hi⟩ : ∃ i : Fin 32, i.val = (grid0.coords t 0).val := ⟨⟨_, (grid0.coords t 0).isLt⟩, rfl⟩
  obtain ⟨r, n, rfl⟩ : ∃ (r : Fin 512) (n : Fin 2048), y = ix2 r n := ⟨y 0, y 1, eq_ix2 y⟩
  refine Eq.trans ?_ (emb4 t i hi r n (Cert.DownReferenceIdeal.Read.val_main_v15 (F := Ideal) (xa m c) (xw m c) (xr m c) (xg m c))).symm
  obtain ⟨b, hb⟩ : ∃ b : Fin 8, b.val = i.val / 4 := ⟨⟨i.val / 4, by omega⟩, rfl⟩
  obtain ⟨s, hs⟩ : ∃ s : Fin 2048, s.val = 512 * (i.val % 4) + r.val := ⟨⟨512 * (i.val % 4) + r.val, by omega⟩, rfl⟩
  have e : ∀ h, (⟨512 * i.val + r.val, h⟩ : Fin 16384) = ⟨2048 * b.val + s.val, by omega⟩ := fun h => Fin.ext (by simp only; omega)
  have h0 : ∀ k, iblk m c 0 t (ix2 r k) = xa m c (ix3 b s k) := fun k => by rw [blk0 m t i c hi, e]; exact v1_at m c b s k
  have h1 : ∀ k n, iblk m c 1 t (ix2 k n) = xw m c (ix2 k n) := fun k n => by rw [blk1 m t c]; exact v2_at m c k n
  have h2 : ∀ n, iblk m c 2 t (ix2 r n) = xr m c (ix3 b s n) := fun n => by rw [blk2 m t i c hi, e]; exact v3_at m c b s n
  have h3 : ∀ n, iblk m c 3 t (ix2 0 n) = xg m c (ix1 n) := fun n => by rw [blk3 m t c]; exact v4_at m c n
  rw [e, ref_apply, out_apply]
  simp only [h0, h1, h2, h3]
  rfl

end Cert.DownIdeal.Val
end
-- ==== Proof.Common.Real.lean ====
module

public import Idealize.ShloMosaic.Lib.Pointwise

/-! Extended reals that are real numbers: sums, products and the norm's factor stay real. -/

@[expose] public section

noncomputable section
namespace Cert.Common
open Idealize.ShloMosaic

/-- An extended real that is a real number. -/
def IsReal (x : EReal) : Prop := ∃ r : ℝ, x = (r : EReal)

/-- An extended real whose absolute value is below +∞ is a real number. -/
theorem isReal_of_abs_lt (x : EReal) (h : Ideal.cmp .olt (max x (-x)) ⊤ = 1#1) : IsReal x := by
  induction x using EReal.rec with
  | bot => simp [Ideal.cmp] at h
  | top => simp [Ideal.cmp] at h
  | coe r => exact ⟨r, rfl⟩

theorem infinite_bits : Ideal.ofBits .f32 0x7F800000#32 = ⊤ := by simp [Ideal.ofBits, Ideal.ieee]

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- A sum of real numbers, taken over the extended reals. -/
theorem coe_sum {ι : Type} [Fintype ι] (f : ι → ℝ) : ∑ k, ((f k : ℝ) : EReal) = ((∑ k, f k : ℝ) : EReal) := by
  classical
  refine Finset.induction_on (Finset.univ : Finset ι) (by simp) fun a s ha ih => ?_
  rw [Finset.sum_insert ha, Finset.sum_insert ha, ih, EReal.coe_add]

theorem IsReal.sum {ι : Type} [Fintype ι] (f : ι → EReal) (h : ∀ k, IsReal (f k)) : IsReal (∑ k, f k) := by
  choose r hr using h
  exact ⟨∑ k, r k, by rw [← coe_sum]; exact Finset.sum_congr rfl fun k _ => hr k⟩

/-- A sum of negated real numbers is the negated sum. -/
theorem sum_mul_neg {ι : Type} [Fintype ι] (f g : ι → EReal) (hf : ∀ k, IsReal (f k)) (hg : ∀ k, IsReal (g k)) :
    ∑ k, f k * -g k = -∑ k, f k * g k := by
  choose r hr using hf
  choose s hs using hg
  have e1 : ∀ k, f k * -g k = ((-(r k * s k) : ℝ) : EReal) := fun k => by
    rw [hr, hs, ← EReal.coe_neg, ← EReal.coe_mul, mul_neg]
  have e2 : ∀ k, f k * g k = ((r k * s k : ℝ) : EReal) := fun k => by rw [hr, hs, ← EReal.coe_mul]
  rw [Finset.sum_congr rfl fun k _ => e1 k, Finset.sum_congr rfl fun k _ => e2 k, coe_sum, coe_sum, Finset.sum_neg_distrib, EReal.coe_neg]

theorem eps_bits : ∃ e : ℝ, 0 < e ∧ Ideal.ofBits .f32 0x358637BD#32 = (e : EReal) := by
  refine ⟨8796093 / 8796093022208, by norm_num, ?_⟩
  simp [Ideal.ofBits, Ideal.ieee, -EReal.coe_mul]
  norm_num

/-- The norm's factor of a row of real numbers is real: its mean of squares plus the small constant is positive. -/
theorem isReal_factor {ι : Type} [Fintype ι] (f : ι → EReal) (hf : ∀ k, IsReal (f k)) (D : EReal) (d : ℝ) (hd : 0 < d) (hD : D = (d : EReal)) :
    IsReal (Ideal.rsqrt (Ideal.div (∑ k, f k * f k) D + Ideal.ofBits .f32 0x358637BD#32)) := by
  choose r hr using hf
  obtain ⟨e, he, hE⟩ := eps_bits
  have e1 : ∀ k, f k * f k = ((r k * r k : ℝ) : EReal) := fun k => by rw [hr, ← EReal.coe_mul]
  have e2 : Ideal.div (∑ k, f k * f k) D + Ideal.ofBits .f32 0x358637BD#32 = (((∑ k, r k * r k) * d⁻¹ + e : ℝ) : EReal) := by
    rw [Finset.sum_congr rfl fun k _ => e1 k, coe_sum, hE, hD]
    unfold Ideal.div
    rw [if_neg (by exact_mod_cast hd.ne'), ← EReal.coe_inv, ← EReal.coe_mul, ← EReal.coe_add]
  have hpos : 0 < (∑ k, r k * r k) * d⁻¹ + e :=
    add_pos_of_nonneg_of_pos (mul_nonneg (Finset.sum_nonneg fun k _ => mul_self_nonneg _) (inv_nonneg.mpr hd.le)) he
  rw [e2, Ideal.rsqrt_coe, if_neg (not_lt.mpr hpos.le), if_neg hpos.ne']
  exact ⟨_, rfl⟩

/-- The norm of any row is real before its scales: an infinite entry makes the mean of squares infinite and the factor zero. -/
theorem isReal_scaled {ι : Type} [Fintype ι] (f : ι → EReal) (D : EReal) (d : ℝ) (hd : 0 < d) (hD : D = (d : EReal)) (n : ι) :
    IsReal (f n * Ideal.rsqrt (Ideal.div (∑ k, f k * f k) D + Ideal.ofBits .f32 0x358637BD#32)) := by
  by_cases h : ∀ k, IsReal (f k)
  · exact (h n).mul (isReal_factor f h D d hd hD)
  obtain ⟨k, hk⟩ := not_forall.mp h
  have hsq : ∀ x : EReal, 0 ≤ x * x := fun x => by
    induction x with
    | bot => rw [EReal.bot_mul_bot]; exact le_top
    | coe r => rw [← EReal.coe_mul]; exact_mod_cast mul_self_nonneg r
    | top => rw [EReal.top_mul_top]; exact le_top
  have hinf : ∀ x : EReal, ¬ IsReal x → x * x = ⊤ := fun x hx => by
    induction x with
    | bot => exact EReal.bot_mul_bot
    | coe r => exact absurd ⟨r, rfl⟩ hx
    | top => exact EReal.top_mul_top
  have hsum : ∑ k, f k * f k = ⊤ :=
    top_le_iff.mp ((hinf (f k) hk) ▸ Finset.single_le_sum (f := fun k => f k * f k) (fun i _ => hsq (f i)) (Finset.mem_univ k))
  obtain ⟨e, he, hE⟩ := eps_bits
  have hz : Ideal.rsqrt (Ideal.div (∑ k, f k * f k) D + Ideal.ofBits .f32 0x358637BD#32) = 0 := by
    rw [hsum, hE, hD]
    unfold Ideal.div
    rw [if_neg (by exact_mod_cast hd.ne'), ← EReal.coe_inv, EReal.top_mul_coe_of_pos (inv_pos.mpr hd), EReal.top_add_coe]
    rfl
  rw [hz, mul_zero]
  exact ⟨0, rfl⟩

theorem width_bits : Ideal.ofBits .f32 0x45000000#32 = ((2048 : ℝ) : EReal) := by
  simp [Ideal.ofBits, Ideal.ieee, -EReal.coe_mul]; norm_num

end Cert.Common
end
-- ==== Proof.Proj.Value.lean ====
module

public import proofs.«01_k».proof.Proof.Gen.ProjIdeal.Value
public import proofs.«01_k».proof.Proof.Gen.ProjReferenceIdeal.Read
public import proofs.«01_k».proof.Proof.Common.Real
public import Idealize.ShloMosaic.Lib.StableHlo.ReadAt
public import Idealize.ShloMosaic.Lib.Pipeline.ValueKit.Point
public import Idealize.ShloMosaic.Lib.Pipeline.ValueKit.Tiles
public import Idealize.ShloMosaic.Lib.Pointwise

/-! The norm and the input projection: the kernel's result array is the reference's. -/

@[expose] public section

set_option maxRecDepth 65536
noncomputable section
namespace Cert.ProjIdeal.Val
open Cert.ProjIdeal Cert.ProjIdeal.Gen Cert.Common Idealize.ShloMosaic Idealize.ShloMosaic.TcCoe Idealize.SL.Sem

variable (m : (ℓ : Loc nD τ sig) → Buf (Elt Ideal) ℓ)

/-- The argument arrays. -/
abbrev xx (c : Dev nD) : S8x2048x2048.Idx → EReal := m ((c : Thread nD τ).loc main_arg0)
abbrev xg (c : Dev nD) : S2048.Idx → EReal := m ((c : Thread nD τ).loc main_arg1)
abbrev xw (c : Dev nD) : S2048x4448.Idx → EReal := m ((c : Thread nD τ).loc main_arg2)

/-- The columns of the result after the first 3072, in terms of the columns of the projection. -/
def rest (f : Fin 4448 → EReal) (n : Fin 1536) : EReal :=
  if h : n.val < 512 then f ⟨3360 + n.val, by omega⟩
  else if h : n.val - 512 < 512 then f ⟨3872 + (n.val - 512), by omega⟩
  else if h : n.val - 512 - 512 < 128 then f ⟨3072 + (n.val - 512 - 512), by omega⟩
  else if h : n.val - 512 - 512 - 128 < 128 then f ⟨3200 + (n.val - 512 - 512 - 128), by omega⟩
  else if h : n.val - 512 - 512 - 128 - 128 < 64 then f ⟨4384 + (n.val - 512 - 512 - 128 - 128), by omega⟩
  else if h : n.val - 512 - 512 - 128 - 128 - 64 < 32 then f ⟨3200 + (128 + (n.val - 512 - 512 - 128 - 128 - 64)), by omega⟩
  else if h : n.val - 512 - 512 - 128 - 128 - 64 - 32 < 32 then 0
  else if h : n.val - 512 - 512 - 128 - 128 - 64 - 32 - 32 < 64 then
    if h1 : n.val - 512 - 512 - 128 - 128 - 64 - 32 - 32 < 32 then -f ⟨4384 + (32 + (n.val - 512 - 512 - 128 - 128 - 64 - 32 - 32)), by omega⟩
    else f ⟨4384 + (n.val - 512 - 512 - 128 - 128 - 64 - 32 - 32 - 32), by omega⟩
  else 0

/-- All the columns of the result. -/
def sel (f : Fin 4448 → EReal) (n : Fin 4608) : EReal :=
  if h : n.val < 3072 then f ⟨n.val, by omega⟩ else rest f ⟨n.val - 3072, by omega⟩

/-- The host's operands at an index. -/
theorem v12_at (c : Dev nD) (k : Fin 2048) (n : Fin 3072) : V m c main_v12 (ix2 k n) = xw m c (ix2 k ⟨n.val, by omega⟩) := by
  unfold V
  after_reads_at

theorem v18_at (c : Dev nD) (n : Fin 1536) (k : Fin 2048) : V m c main_v18 (ix2 n k) = rest (fun j => xw m c (ix2 k j)) n := by
  unfold V rest
  after_reads_at
  by_cases h0 : n.val < 512
  · refine Eq.trans (dif_pos h0) (Eq.trans ?_ (dif_pos h0).symm)
    after_reads_at
    exact congrArg (fun j => xw m c (ix2 k j)) (Fin.ext (by simp only; omega))
  refine Eq.trans (dif_neg h0) (Eq.trans ?_ (dif_neg h0).symm)
  by_cases h1 : n.val - 512 < 512
  · refine Eq.trans (dif_pos h1) (Eq.trans ?_ (dif_pos h1).symm)
    after_reads_at
    exact congrArg (fun j => xw m c (ix2 k j)) (Fin.ext (by simp only; omega))
  refine Eq.trans (dif_neg h1) (Eq.trans ?_ (dif_neg h1).symm)
  by_cases h2 : n.val - 512 - 512 < 128
  · refine Eq.trans (dif_pos h2) (Eq.trans ?_ (dif_pos h2).symm)
    after_reads_at
  refine Eq.trans (dif_neg h2) (Eq.trans ?_ (dif_neg h2).symm)
  by_cases h3 : n.val - 512 - 512 - 128 < 128
  · refine Eq.trans (dif_pos h3) (Eq.trans ?_ (dif_pos h3).symm)
    after_reads_at
    exact congrArg (fun j => xw m c (ix2 k j)) (Fin.ext (by simp only; omega))
  refine Eq.trans (dif_neg h3) (Eq.trans ?_ (dif_neg h3).symm)
  by_cases h4 : n.val - 512 - 512 - 128 - 128 < 64
  · refine Eq.trans (dif_pos h4) (Eq.trans ?_ (dif_pos h4).symm)
    after_reads_at
    exact congrArg (fun j => xw m c (ix2 k j)) (Fin.ext (by simp only; omega))
  refine Eq.trans (dif_neg h4) (Eq.trans ?_ (dif_neg h4).symm)
  by_cases h5 : n.val - 512 - 512 - 128 - 128 - 64 < 32
  · refine Eq.trans (dif_pos h5) (Eq.trans ?_ (dif_pos h5).symm)
    after_reads_at
    exact congrArg (fun j => xw m c (ix2 k j)) (Fin.ext (by simp only; omega))
  refine Eq.trans (dif_neg h5) (Eq.trans ?_ (dif_neg h5).symm)
  by_cases h6 : n.val - 512 - 512 - 128 - 128 - 64 - 32 < 32
  · refine Eq.trans (dif_pos h6) (Eq.trans ?_ (dif_pos h6).symm)
    after_reads_at
  refine Eq.trans (dif_neg h6) (Eq.trans ?_ (dif_neg h6).symm)
  by_cases h7 : n.val - 512 - 512 - 128 - 128 - 64 - 32 - 32 < 64
  · refine Eq.trans (dif_pos h7) (Eq.trans ?_ (dif_pos h7).symm)
    after_reads_at
    by_cases h8 : n.val - 512 - 512 - 128 - 128 - 64 - 32 - 32 < 32
    · refine Eq.trans (dif_pos h8) (Eq.trans ?_ (dif_pos h8).symm)
      exact congrArg (fun j => -xw m c (ix2 k j)) (Fin.ext (by simp only; omega))
    · refine Eq.trans (dif_neg h8) (Eq.trans ?_ (dif_neg h8).symm)
      exact congrArg (fun j => xw m c (ix2 k j)) (Fin.ext (by simp only; omega))
  refine Eq.trans (dif_neg h7) (Eq.trans ?_ (dif_neg h7).symm)
  after_reads_at

theorem v19_at (c : Dev nD) (b : Fin 8) (s : Fin 2048) (k : Fin 2048) :
    V m c main_v19 (ix2 ⟨2048 * b.val + s.val, by omega⟩ k) = xx m c (ix3 b s k) := by
  unfold V
  after_reads_at

theorem v20_at (c : Dev nD) (n : Fin 2048) : V m c main_v20 (ix2 0 n) = xg m c (ix1 n) := by
  unfold V
  after_reads_at

/-- A row after the norm. -/
def normed (f : Fin 2048 → EReal) (g : Fin 2048 → EReal) (n : Fin 2048) : EReal :=
  f n * Ideal.rsqrt (Ideal.div (∑ k : Fin 2048, f k * f k) (Ideal.ofBits FTy.f32 0x45000000#32) + Ideal.ofBits FTy.f32 0x358637BD#32) * g n

theorem norm_apply (x : Vec Ideal S512x2048 .f32) (g : Vec Ideal S1x2048 .f32) (r : Fin 512) (n : Fin 2048) :
    k0_pay1 x g (ix2 r n) = normed (fun k => x (ix2 r k)) (fun k => g (ix2 0 k)) n := by
  unfold k0_pay1 normed
  pointwise

theorem left_apply (x : Vec Ideal S512x2048 .f32) (g : Vec Ideal S1x2048 .f32) (w : Vec Ideal S2048x3072 .bf16) (r : Fin 512) (n : Fin 3072) :
    k0_pay2 x g w (ix2 r n) = ∑ k : Fin 2048, normed (fun k => x (ix2 r k)) (fun k => g (ix2 0 k)) k * w (ix2 k n) := by
  unfold k0_pay2
  have key := norm_apply x g r
  generalize k0_pay1 x g = h at key
  pointwise [dot_S512x2048_S2048x3072_S512x3072_1_0_0_1_n_n, key]

theorem right_apply (x : Vec Ideal S512x2048 .f32) (g : Vec Ideal S1x2048 .f32) (w : Vec Ideal S1536x2048 .bf16) (r : Fin 512) (n : Fin 1536) :
    k0_pay3 x g w (ix2 r n) = ∑ k : Fin 2048, normed (fun k => x (ix2 r k)) (fun k => g (ix2 0 k)) k * w (ix2 n k) := by
  unfold k0_pay3
  have key := norm_apply x g r
  generalize k0_pay1 x g = h at key
  pointwise [dot_S512x2048_S1536x2048_S512x1536_1_1_0_0_n_n, key]

/-- A product's column block, at a row and a column. -/
def blockv (x0 : S512x2048.Idx → EReal) (x1 : S1x2048.Idx → EReal) (x2 : S2048x3072.Idx → EReal) (x3 : S1536x2048.Idx → EReal) (r : Fin 512) (n : Fin 4608) : EReal :=
  ∑ k : Fin 2048, normed (fun k => x0 (ix2 r k)) (fun k => x1 (ix2 0 k)) k *
    if h : n.val < 3072 then x2 (ix2 k ⟨n.val, h⟩) else x3 (ix2 ⟨n.val - 3072, by omega⟩ k)

/-- The block the body leaves, at an index. -/
theorem out_apply (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x3072 .bf16) (harg3 : arg3.IsWhole) (arg4 : Memref sig .tc .vmem S1536x2048 .bf16) (harg4 : arg4.IsWhole) (arg5 : Memref sig .tc .vmem S512x4608 .f32) (harg5 : arg5.IsWhole)
    (x0 : Vec Ideal S512x2048 .f32) (x1 : Vec Ideal S1x2048 .f32) (x2 : Vec Ideal S2048x3072 .bf16) (x3 : Vec Ideal S1536x2048 .bf16) (r : Fin 512) (n : Fin 4608) :
    out0_A_4 c i arg1 harg1 arg2 harg2 arg3 harg3 arg4 harg4 arg5 harg5 x0 x1 x2 x3 (ix2 r n) = blockv x0 x1 x2 x3 r n := by
  have hc := cover0_A_4 c i arg1 harg1 arg2 harg2 arg3 harg3 arg4 harg4 arg5 harg5 x0 x1 x2 x3
  unfold out0_A_4
  rw [View.read_writes_eq_canon _ _ _ hc]
  refine View.canon_apply_of_pieces (fun y : S512x4608.Idx => blockv x0 x1 x2 x3 (y 0) (y 1)) _ ?_ (ix2 r n) (hc (ix2 r n))
  unfold kernelRun0_A
  dsimp only
  rw [View.readAt_eq_ld, View.readAt_eq_ld, View.readAt_eq_ld, View.readAt_eq_ld, harg1.read_unread, harg2.read_unread, harg3.read_unread, harg4.read_unread]
  have l0 : View.ld (Val := Elt Ideal) x0 (Rect.unit (s := S512x2048) ![0, 0] S512x2048.size inb_S512x2048_S512x2048_0_0) = x0 := View.ld_unit_zero (by decide) _ x0
  have l1 : View.ld (Val := Elt Ideal) x1 (Rect.unit (s := S1x2048) ![0, 0] S1x2048.size inb_S1x2048_S1x2048_0_0) = x1 := View.ld_unit_zero (by decide) _ x1
  have l2 : View.ld (Val := Elt Ideal) x2 (Rect.unit (s := S2048x3072) ![0, 0] S2048x3072.size inb_S2048x3072_S2048x3072_0_0) = x2 := View.ld_unit_zero (by decide) _ x2
  have l3 : View.ld (Val := Elt Ideal) x3 (Rect.unit (s := S1536x2048) ![0, 0] S1536x2048.size inb_S1536x2048_S1536x2048_0_0) = x3 := View.ld_unit_zero (by decide) _ x3
  rw [l0, l1, l2, l3]
  intro p hp
  simp only [List.mem_cons, List.not_mem_nil, or_false] at hp
  rcases hp with rfl | rfl
  · intro z
    obtain ⟨r, n, rfl⟩ : ∃ (r : Fin 512) (n : Fin 1536), z = ix2 r n := ⟨z 0, z 1, eq_ix2 z⟩
    have e1 : (Rect.unit (s := S512x4608) ![0, 3072] S512x1536.size inb_S512x4608_S512x1536_0_3072).emb (ix2 r n) = ix2 r ⟨3072 + n.val, by omega⟩ :=
      funext fun a => by fin_cases a <;> exact Fin.ext (by simp)
    refine (right_apply x0 x1 x3 r n).trans (Eq.trans ?_ (congrArg (fun y : S512x4608.Idx => blockv x0 x1 x2 x3 (y 0) (y 1)) e1).symm)
    show _ = blockv x0 x1 x2 x3 r ⟨3072 + n.val, by omega⟩
    unfold blockv
    refine Finset.sum_congr rfl fun k _ => congrArg (normed _ _ k * ·) ?_
    rw [dif_neg (by simp)]
    congr 2
    exact Fin.ext (by simp)
  · intro z
    obtain ⟨r, n, rfl⟩ : ∃ (r : Fin 512) (n : Fin 3072), z = ix2 r n := ⟨z 0, z 1, eq_ix2 z⟩
    have e1 : (Rect.unit (s := S512x4608) ![0, 0] S512x3072.size inb_S512x4608_S512x3072_0_0).emb (ix2 r n) = ix2 r ⟨n.val, by omega⟩ :=
      funext fun a => by fin_cases a <;> exact Fin.ext (by simp)
    refine (left_apply x0 x1 x2 r n).trans (Eq.trans ?_ (congrArg (fun y : S512x4608.Idx => blockv x0 x1 x2 x3 (y 0) (y 1)) e1).symm)
    show _ = blockv x0 x1 x2 x3 r ⟨n.val, by omega⟩
    unfold blockv
    refine Finset.sum_congr rfl fun k _ => congrArg (normed _ _ k * ·) ?_
    rw [dif_pos n.isLt]

open Cert.ProjReferenceIdeal.Read in
/-- The reference at an index. -/
theorem ref_apply (x : S8x2048x2048.Idx → EReal) (g : S2048.Idx → EReal) (w : S2048x4448.Idx → EReal)
    (b : Fin 8) (s : Fin 2048) (n : Fin 4608) :
    val_main_v29 (F := Ideal) x g w (ix2 ⟨2048 * b.val + s.val, by omega⟩ n)
      = sel (fun j => ∑ k : Fin 2048, normed (fun k => x (ix3 b s k)) (fun k => g (ix1 k)) k * w (ix2 k j)) n := by
  have key : ∀ j, val_main_v13 (F := Ideal) x g w (ix3 b s j) = ∑ k : Fin 2048, normed (fun k => x (ix3 b s k)) (fun k => g (ix1 k)) k * w (ix2 k j) := by
    intro j
    unfold val_main_v13 val_main_v12 val_main_v11 val_main_v10 val_main_v9 val_main_v8 val_main_v7 val_main_v6 val_main_v5 val_main_cst_1 val_main_v4 val_main_v3 val_main_cst_0
      val_main_v2 val_main_v1 val_main_cst val_main_v0 normed
    pointwise [Cert.ProjReferenceIdeal.dot_S8x2048x2048_S2048x4448_S8x2048x4448_2_0_01_1_n_n]
  rw [← funext key]
  unfold val_main_v29 val_main_v28 val_main_v27 val_main_cst_3 val_main_v26 val_main_cst_2 val_main_v25 val_main_v24 val_main_v23 val_main_v22 val_main_v21 val_main_v20 val_main_v19 val_main_v18
    val_main_v17 val_main_v16 val_main_v15 val_main_v14
  generalize val_main_v13 (F := Ideal) x g w = p
  unfold sel rest
  pointwise

/-- Each of the remaining columns is a column of the projection, zero, or a negated column of the rotary key. -/
theorem rest_cases (n : Fin 1536) : (∃ j, ∀ f, rest f n = f j) ∨ (∀ f, rest f n = 0) ∨ ∃ j : Fin 4448, 4416 ≤ j.val ∧ ∀ f, rest f n = -f j := by
  by_cases h0 : n.val < 512
  · exact .inl ⟨_, fun f => dif_pos h0⟩
  by_cases h1 : n.val - 512 < 512
  · exact .inl ⟨_, fun f => (dif_neg h0).trans <| dif_pos h1⟩
  by_cases h2 : n.val - 512 - 512 < 128
  · exact .inl ⟨_, fun f => (dif_neg h0).trans <| (dif_neg h1).trans <| dif_pos h2⟩
  by_cases h3 : n.val - 512 - 512 - 128 < 128
  · exact .inl ⟨_, fun f => (dif_neg h0).trans <| (dif_neg h1).trans <| (dif_neg h2).trans <| dif_pos h3⟩
  by_cases h4 : n.val - 512 - 512 - 128 - 128 < 64
  · exact .inl ⟨_, fun f => (dif_neg h0).trans <| (dif_neg h1).trans <| (dif_neg h2).trans <| (dif_neg h3).trans <| dif_pos h4⟩
  by_cases h5 : n.val - 512 - 512 - 128 - 128 - 64 < 32
  · exact .inl ⟨_, fun f => (dif_neg h0).trans <| (dif_neg h1).trans <| (dif_neg h2).trans <| (dif_neg h3).trans <| (dif_neg h4).trans <| dif_pos h5⟩
  by_cases h6 : n.val - 512 - 512 - 128 - 128 - 64 - 32 < 32
  · exact .inr (.inl fun f => (dif_neg h0).trans <| (dif_neg h1).trans <| (dif_neg h2).trans <| (dif_neg h3).trans <| (dif_neg h4).trans <| (dif_neg h5).trans <| dif_pos h6)
  by_cases h7 : n.val - 512 - 512 - 128 - 128 - 64 - 32 - 32 < 64
  · by_cases h8 : n.val - 512 - 512 - 128 - 128 - 64 - 32 - 32 < 32
    · exact .inr (.inr ⟨_, show 4416 ≤ 4384 + (32 + _) by omega, fun f => (dif_neg h0).trans <| (dif_neg h1).trans <| (dif_neg h2).trans <| (dif_neg h3).trans <| (dif_neg h4).trans <| (dif_neg h5).trans <| (dif_neg h6).trans <| (dif_pos h7).trans <| dif_pos h8⟩)
    · exact .inl ⟨_, fun f => (dif_neg h0).trans <| (dif_neg h1).trans <| (dif_neg h2).trans <| (dif_neg h3).trans <| (dif_neg h4).trans <| (dif_neg h5).trans <| (dif_neg h6).trans <| (dif_pos h7).trans <| dif_neg h8⟩
  · exact .inr (.inl fun f => (dif_neg h0).trans <| (dif_neg h1).trans <| (dif_neg h2).trans <| (dif_neg h3).trans <| (dif_neg h4).trans <| (dif_neg h5).trans <| (dif_neg h6).trans <| dif_neg h7)

/-- A row times a selected column of the weights is the selection of the products. -/
theorem sum_rest (h : Fin 2048 → EReal) (w : Fin 2048 → Fin 4448 → EReal) (hh : ∀ k, IsReal (h k)) (hw : ∀ k j, 4416 ≤ j.val → IsReal (w k j)) (n : Fin 1536) :
    ∑ k, h k * rest (w k) n = rest (fun j => ∑ k, h k * w k j) n := by
  rcases rest_cases n with ⟨j, e⟩ | e | ⟨j, hj, e⟩
  · rw [e, Finset.sum_congr rfl fun k _ => congrArg (h k * ·) (e (w k))]
  · rw [e, Finset.sum_congr rfl fun k _ => (congrArg (h k * ·) (e (w k))).trans (mul_zero _)]
    exact Finset.sum_const_zero
  · rw [e, Finset.sum_congr rfl fun k _ => congrArg (h k * ·) (e (w k))]
    exact sum_mul_neg _ _ hh fun k => hw k j hj

/-- A normed row with real scales is real. -/
theorem isReal_normed (f g : Fin 2048 → EReal) (hg : ∀ k, IsReal (g k)) (n : Fin 2048) : IsReal (normed f g n) :=
  (isReal_scaled f _ 2048 (by norm_num) width_bits n).mul (hg n)

/-- Which block of each array a grid point reads or writes. -/
theorem idx4 : ∀ t : Fin grid0.N, win0_0.index t = ![(grid0.coords t 0).val, 0] ∧ win0_1.index t = ![0, 0]
  ∧ win0_2.index t = ![0, 0] ∧ win0_3.index t = ![0, 0] ∧ win0_4.index t = ![(grid0.coords t 0).val, 0] := by decide +kernel

variable (t : Fin cfg0.N) (i : Fin 32)

theorem blk0 (c : Dev nD) (hi : i.val = (grid0.coords t 0).val) (r : Fin 512) (k : Fin 2048) :
    iblk m c 0 t (ix2 r k) = V m c main_v19 (ix2 ⟨512 * i.val + r.val, by omega⟩ k) := by
  blk_ext [iblk, idx4 t]

theorem blk1 (c : Dev nD) (n : Fin 2048) : iblk m c 1 t (ix2 0 n) = V m c main_v20 (ix2 0 n) := by
  blk_ext [iblk, idx4 t]

theorem blk2 (c : Dev nD) (k : Fin 2048) (n : Fin 3072) : iblk m c 2 t (ix2 k n) = V m c main_v12 (ix2 k n) := by
  blk_ext [iblk, idx4 t]

theorem blk3 (c : Dev nD) (n : Fin 1536) (k : Fin 2048) : iblk m c 3 t (ix2 n k) = V m c main_v18 (ix2 n k) := by
  blk_ext [iblk, idx4 t]

theorem emb4 (hi : i.val = (grid0.coords t 0).val) (r : Fin 512) (n : Fin 4608) (G : S16384x4608.Idx → EReal) :
    G ((win0_4.blk t).view.emb (ix2 r n)) = G (ix2 ⟨512 * i.val + r.val, by omega⟩ n) := by
  blk_ext [iblk, idx4 t]

/-- With real scales and real weights of the rotary key, the kernel's result array is the reference's. -/
theorem result_eq (c : Dev nD) (hg : ∀ k, IsReal (xg m c (ix1 k)))
    (hw : ∀ (k : Fin 2048) (j : Fin 4448), 4416 ≤ j.val → IsReal (xw m c (ix2 k j))) :
    (dats m 0 c).arrAt 4 cfg0.N = Cert.ProjReferenceIdeal.Read.val_main_v29 (F := Ideal) (xx m c) (xg m c) (xw m c) := by
  refine (dats m 0 c).arrAt_eq_of_covers 4 _ (by decide +kernel) fun t hf y => ?_
  blk_simp
  rw [after0_4]
  obtain ⟨i, hi⟩ : ∃ i : Fin 32, i.val = (grid0.coords t 0).val := ⟨⟨_, (grid0.coords t 0).isLt⟩, rfl⟩
  obtain ⟨r, n, rfl⟩ : ∃ (r : Fin 512) (n : Fin 4608), y = ix2 r n := ⟨y 0, y 1, eq_ix2 y⟩
  refine Eq.trans ?_ (emb4 t i hi r n (Cert.ProjReferenceIdeal.Read.val_main_v29 (F := Ideal) (xx m c) (xg m c) (xw m c))).symm
  obtain ⟨b, hb⟩ : ∃ b : Fin 8, b.val = i.val / 4 := ⟨⟨i.val / 4, by omega⟩, rfl⟩
  obtain ⟨s, hs⟩ : ∃ s : Fin 2048, s.val = 512 * (i.val % 4) + r.val := ⟨⟨512 * (i.val % 4) + r.val, by omega⟩, rfl⟩
  have e : ∀ h, (⟨512 * i.val + r.val, h⟩ : Fin 16384) = ⟨2048 * b.val + s.val, by omega⟩ := fun h => Fin.ext (by simp only; omega)
  have h0 : ∀ k, iblk m c 0 t (ix2 r k) = xx m c (ix3 b s k) := fun k => by rw [blk0 m t i c hi, e]; exact v19_at m c b s k
  have h1 : ∀ k, iblk m c 1 t (ix2 0 k) = xg m c (ix1 k) := fun k => by rw [blk1 m t c]; exact v20_at m c k
  have h2 : ∀ k n, iblk m c 2 t (ix2 k n) = xw m c (ix2 k ⟨n.val, by omega⟩) := fun k n => by rw [blk2 m t c]; exact v12_at m c k n
  have h3 : ∀ k n, iblk m c 3 t (ix2 n k) = rest (fun j => xw m c (ix2 k j)) n := fun k n => by rw [blk3 m t c]; exact v18_at m c n k
  rw [e, ref_apply]
  unfold outsAt0
  refine (out_apply c (grid0.coords t) _ _ _ _ _ _ _ _ _ _ _ _ _ _ r n).trans ?_
  unfold blockv
  rw [funext h0, funext h1]
  by_cases h : n.val < 3072
  · refine Eq.trans (Finset.sum_congr rfl fun k _ => congrArg (normed _ _ k * ·) ((dif_pos h).trans (h2 k _))) ?_
    unfold sel
    rw [dif_pos h]
  · refine Eq.trans (Finset.sum_congr rfl fun k _ => congrArg (normed _ _ k * ·) ((dif_neg h).trans (h3 k _))) ?_
    refine (sum_rest _ (fun k j => xw m c (ix2 k j)) (isReal_normed _ _ hg) hw _).trans ?_
    unfold sel
    rw [dif_neg h]

end Cert.ProjIdeal.Val
end
-- ==== Proof.Proj.Pre.lean ====
module

public import proofs.«01_k».proof.Defs
public import proofs.«01_k».proof.Proof.Common.Real

/-! What the projection's precondition says: the scales and the rotary key's weights are real numbers. -/

@[expose] public section

noncomputable section
namespace Cert.Pre_finite_proj
open Idealize.ShloMosaic Cert.Common

/-- The side conditions the precondition's operations take. -/
theorem facts : Facts := ⟨by decide, by decide, by decide⟩

variable [Facts] (x : FVec Ideal S8x2048x2048 .f32) (g : FVec Ideal S2048 .f32) (w : FVec Ideal S2048x4448 .f32)

theorem real_g (h : (fn (F := Ideal) x g w).1 = fun _ => 1#1) (i : S2048.Idx) : IsReal (g i) := by
  refine isReal_of_abs_lt _ ?_
  rw [← infinite_bits]
  exact congrFun h i

/-- The weights' last 32 columns are real. -/
theorem real_w (h : (fn (F := Ideal) x g w).2 = fun _ => 1#1) (k : Fin 2048) (j : Fin 4448) (hj : 4416 ≤ j.val) : IsReal (w (ix2 k j)) := by
  refine isReal_of_abs_lt _ ?_
  rw [← infinite_bits]
  have e := congrFun h (ix2 k ⟨j.val - 4416, by omega⟩)
  have key : extractStridedSlice S2048x32 ![0, 4416] w Facts.slices_S2048x4448_S2048x32_0_4416 (ix2 k ⟨j.val - 4416, by omega⟩) = w (ix2 k j) := by
    pointwise
    exact congrArg (fun j => w (ix2 k j)) (Fin.ext (by simp only; omega))
  rw [← key]
  exact e

end Cert.Pre_finite_proj
end
-- ==== Proof.Out.Value.lean ====
module

public import proofs.«01_k».proof.Proof.Gen.OutIdeal.Value
public import proofs.«01_k».proof.Proof.Gen.OutReferenceIdeal.Read
public import Idealize.ShloMosaic.Lib.StableHlo.ReadAt
public import Idealize.ShloMosaic.Lib.Pipeline.ValueKit.Point
public import Idealize.ShloMosaic.Lib.Pipeline.ValueKit.Tiles
public import Idealize.ShloMosaic.Lib.Pointwise

/-! The output projection, the residual and the norm: the kernel's two result arrays are the reference's. -/

@[expose] public section

set_option maxRecDepth 65536
noncomputable section
namespace Cert.OutIdeal.Val
open Cert.OutIdeal Cert.OutIdeal.Gen Idealize.ShloMosaic Idealize.ShloMosaic.TcCoe Idealize.SL.Sem

variable (m : (ℓ : Loc nD τ sig) → Buf (Elt Ideal) ℓ)

/-- The argument arrays. -/
abbrev xa (c : Dev nD) : S8x2048x1024.Idx → EReal := m ((c : Thread nD τ).loc main_arg0)
abbrev xm (c : Dev nD) : S8x2048x1024.Idx → EReal := m ((c : Thread nD τ).loc main_arg1)
abbrev xw (c : Dev nD) : S2048x2048.Idx → EReal := m ((c : Thread nD τ).loc main_arg2)
abbrev xr (c : Dev nD) : S8x2048x2048.Idx → EReal := m ((c : Thread nD τ).loc main_arg3)
abbrev xg (c : Dev nD) : S2048.Idx → EReal := m ((c : Thread nD τ).loc main_arg4)

/-- The host's operands at an index. -/
theorem v1_at (c : Dev nD) (b : Fin 8) (s : Fin 2048) (k : Fin 1024) :
    V m c main_v1 (ix2 ⟨2048 * b.val + s.val, by omega⟩ k) = xa m c (ix3 b s k) := by
  unfold V
  after_reads_at
  have e5 : (2048 * b.val + s.val) / 2048 = b.val := by omega
  have e6 : (2048 * b.val + s.val) % 2048 = s.val := by omega
  simp only [e5, e6, Fin.eta]

theorem v3_at (c : Dev nD) (b : Fin 8) (s : Fin 2048) (k : Fin 1024) :
    V m c main_v3 (ix2 ⟨2048 * b.val + s.val, by omega⟩ k) = xm m c (ix3 b s k) := by
  unfold V
  after_reads_at
  have e5 : (2048 * b.val + s.val) / 2048 = b.val := by omega
  have e6 : (2048 * b.val + s.val) % 2048 = s.val := by omega
  simp only [e5, e6, Fin.eta]

theorem v4_at (c : Dev nD) (k n : Fin 2048) : V m c main_v4 (ix2 k n) = xw m c (ix2 k n) := by
  unfold V
  after_reads_at

theorem v5_at (c : Dev nD) (b : Fin 8) (s : Fin 2048) (k : Fin 2048) :
    V m c main_v5 (ix2 ⟨2048 * b.val + s.val, by omega⟩ k) = xr m c (ix3 b s k) := by
  unfold V
  after_reads_at

theorem v6_at (c : Dev nD) (n : Fin 2048) : V m c main_v6 (ix2 0 n) = xg m c (ix1 n) := by
  unfold V
  after_reads_at

/-- A row of the residual plus the projected row. -/
def row (x : Fin 2048 → EReal) (a b : Fin 1024 → EReal) (w : S2048x2048.Idx → EReal) (n : Fin 2048) : EReal :=
  x n + ∑ k : Fin 1024, a k * w (ix2 ⟨k.val, by omega⟩ n) + ∑ k : Fin 1024, b k * w (ix2 ⟨1024 + k.val, by omega⟩ n)

/-- A row after the norm. -/
def normed (f : Fin 2048 → EReal) (g : Fin 2048 → EReal) (n : Fin 2048) : EReal :=
  f n * Ideal.rsqrt (Ideal.div (∑ k : Fin 2048, f k * f k) (Ideal.ofBits FTy.f32 0x45000000#32) + Ideal.ofBits FTy.f32 0x358637BD#32) * g n

/-- Dropping a block's unit axis. -/
theorem cast_at (v : Vec Ideal S1x512x2048 .f32) (r : Fin 512) (n : Fin 2048) :
    shapeCast S512x2048 v shapeCasts_S1x512x2048_S512x2048 (ix2 r n) = v (ix3 0 r n) := by
  pointwise

/-- What a load of a ring's slot reads after a transfer filled the slot. -/
theorem slot_read (s : Fin 3) (off : Fin 3 → ℕ) (hoff : off = ![s.val, 0, 0]) (inb : ∀ a, off a + S1x512x2048.size a ≤ S3x512x2048.size a)
    (f : cc0_scratch0.ty.Contents (Elt Ideal)) (w : S512x2048.Idx → EReal) (r : Fin 512) (n : Fin 2048) :
    View.readAt (Elt Ideal) scM0_0.view (Rect.unit (s := S3x512x2048) off S1x512x2048.size inb).toLoadRect
      ((rslot0_0 s).view.writes (Elt Ideal) f [⟨Rect.whole S512x2048, w⟩]) (ix3 0 r n) = w (ix2 r n) := by
  subst hoff
  refine Eq.trans ?_ (congrFun (View.read_writes_whole (rslot0_0 s).view f w) (ix2 r n))
  generalize (rslot0_0 s).view.writes (Elt Ideal) f [⟨Rect.whole S512x2048, w⟩] = G
  exact (cast_at (View.readAt (Elt Ideal) scM0_0.view (Rect.unit (s := S3x512x2048) ![s.val, 0, 0] S1x512x2048.size inb).toLoadRect G) r n).symm

/-- What a block of the residual holds. -/
theorem src_read (c : Dev nD) (b : Fin 32) (fh : HbBuf0 (F := Ideal) c hbM0_0) (r : Fin 512) (n : Fin 2048) :
    View.read (Elt Ideal) (srcB0_0 b).view fh (ix2 r n) = fh (ix2 ⟨512 * b.val + r.val, by omega⟩ n) := by
  show fh ((Rect.unit (s := S16384x2048) ![512 * b.val, 0] S512x2048.size (inb_src0_0 b)).emb (ix2 r n)) = _
  exact congrArg fh (funext fun a => by fin_cases a <;> exact Fin.ext (by simp))

/-- A grid point's block of the residual. -/
theorem bk_val (t : Fin cfg0.N) : (Ring.bk 32 t.val).val = t.val := Nat.mod_eq_of_lt t.isLt

/-- Every grid point's load of its slot reads its block of the residual. -/
theorem v34_B (c : Dev nD) (t : Fin cfg0.N) (fh : HbBuf0 (F := Ideal) c hbM0_0) (r : Fin 512) (n : Fin 2048) :
    kernelRun0_B.sl.v34 c t fh (ix3 0 r n) = fh (ix2 ⟨512 * t.val + r.val, by have := t.isLt; change t.val < 32 at this; omega⟩ n) := by
  unfold kernelRun0_B.sl.v34
  refine (slot_read _ _ (coff0_0_13 t) _ _ _ r n).trans ((src_read c _ fh r n).trans ?_)
  exact congrArg (fun k => fh (ix2 k n)) (Fin.ext (by simp only [bk_val]))

theorem v34_C (c : Dev nD) (t : Fin cfg0.N) (fh : HbBuf0 (F := Ideal) c hbM0_0) (r : Fin 512) (n : Fin 2048) :
    kernelRun0_C.sl.v34 c t fh (ix3 0 r n) = fh (ix2 ⟨512 * t.val + r.val, by have := t.isLt; change t.val < 32 at this; omega⟩ n) := by
  unfold kernelRun0_C.sl.v34
  refine (slot_read _ _ (coff0_0_13 t) _ _ _ r n).trans ((src_read c _ fh r n).trans ?_)
  exact congrArg (fun k => fh (ix2 k n)) (Fin.ext (by simp only [bk_val]))

theorem v34_A (c : Dev nD) (t : Fin cfg0.N) (fh : HbBuf0 (F := Ideal) c hbM0_0) (r : Fin 512) (n : Fin 2048) :
    kernelRun0_A.sl.v34 c t fh (ix3 0 r n) = fh (ix2 ⟨512 * t.val + r.val, by have := t.isLt; change t.val < 32 at this; omega⟩ n) := by
  unfold kernelRun0_A.sl.v34
  unfold kernelRun0_A.sl.dma0
  refine (slot_read _ _ (coff0_0_13 t) _ _ _ r n).trans ((src_read c _ fh r n).trans ?_)
  exact congrArg (fun k => fh (ix2 k n)) (Fin.ext (by simp only [bk_val]))

/-- What one grid point computes, at an index. -/
theorem pay1_at (x : Vec Ideal S1x512x2048 .f32) (a : Vec Ideal S512x1024 .bf16) (u : Vec Ideal S1024x2048 .bf16) (b : Vec Ideal S512x1024 .bf16)
    (v : Vec Ideal S1024x2048 .bf16) (r : Fin 512) (n : Fin 2048) :
    k0_pay1 x a u b v (ix2 r n) = x (ix3 0 r n) + ∑ k : Fin 1024, a (ix2 r k) * u (ix2 k n) + ∑ k : Fin 1024, b (ix2 r k) * v (ix2 k n) := by
  unfold k0_pay1
  pointwise [dot_S512x1024_S1024x2048_S512x2048_1_0_0_1_n_n]

theorem pay2_at (x : Vec Ideal S1x512x2048 .f32) (a : Vec Ideal S512x1024 .bf16) (u : Vec Ideal S1024x2048 .bf16) (b : Vec Ideal S512x1024 .bf16)
    (v : Vec Ideal S1024x2048 .bf16) (g : Vec Ideal S1x2048 .f32) (r : Fin 512) (n : Fin 2048) :
    k0_pay2 x a u b v g (ix2 r n) = normed (fun k => k0_pay1 x a u b v (ix2 r k)) (fun k => g (ix2 0 k)) n := by
  unfold k0_pay2
  generalize k0_pay1 x a u b v = h
  unfold normed
  pointwise

/-- A block's row of the residual. -/
abbrev resid (c : Dev nD) (t : Fin cfg0.N) (fh : HbBuf0 (F := Ideal) c hbM0_0) (r : Fin 512) (n : Fin 2048) : EReal :=
  fh (ix2 ⟨512 * t.val + r.val, by have := t.isLt; change t.val < 32 at this; omega⟩ n)

/-- The lower half of the weights, as loaded. -/
theorem low_at (x2 : Vec Ideal S2048x2048 .bf16) (k : Fin 1024) (n : Fin 2048) :
    View.ld (Val := Elt Ideal) x2 (Rect.unit (s := S2048x2048) ![1024, 0] S1024x2048.size inb_S2048x2048_S1024x2048_1024_0) (ix2 k n) = x2 (ix2 ⟨1024 + k.val, by omega⟩ n) :=
  View.ld_unit_apply_of x2 _ _ _ (ix2 k n) _ (fun a => by fin_cases a <;> simp)

theorem high_at (x2 : Vec Ideal S2048x2048 .bf16) (k : Fin 1024) (n : Fin 2048) :
    View.ld (Val := Elt Ideal) x2 (Rect.unit (s := S2048x2048) ![0, 0] S1024x2048.size inb_S2048x2048_S1024x2048_0_0) (ix2 k n) = x2 (ix2 ⟨k.val, by omega⟩ n) :=
  View.ld_unit_apply_of x2 _ _ _ (ix2 k n) _ (fun a => by fin_cases a <;> simp)

/-- The first payload over the blocks as loaded. -/
theorem load1_at (c : Dev nD) (t : Fin cfg0.N) (fh : HbBuf0 (F := Ideal) c hbM0_0) (v : Vec Ideal S1x512x2048 .f32) (hv : ∀ r n, v (ix3 0 r n) = resid c t fh r n)
    (x0 x1 : Vec Ideal S512x1024 .bf16) (x2 : Vec Ideal S2048x2048 .bf16) (r : Fin 512) (n : Fin 2048) :
    k0_pay1 v x0 (View.ld (Val := Elt Ideal) x2 (Rect.unit (s := S2048x2048) ![0, 0] S1024x2048.size inb_S2048x2048_S1024x2048_0_0)) x1
      (View.ld (Val := Elt Ideal) x2 (Rect.unit (s := S2048x2048) ![1024, 0] S1024x2048.size inb_S2048x2048_S1024x2048_1024_0)) (ix2 r n)
      = row (resid c t fh r) (fun k => x0 (ix2 r k)) (fun k => x1 (ix2 r k)) x2 n := by
  refine (pay1_at _ _ _ _ _ r n).trans ?_
  rw [hv]
  unfold row
  exact congrArg₂ (fun x y : EReal => x + y)
    (congrArg (fun y : EReal => resid c t fh r n + y) (Finset.sum_congr rfl fun k _ => congrArg (fun y : EReal => x0 (ix2 r k) * y) (high_at x2 k n)))
    (Finset.sum_congr rfl fun k _ => congrArg (fun y : EReal => x1 (ix2 r k) * y) (low_at x2 k n))

/-- The blocks the body leaves, at an index, by the grid point's case. -/
theorem out_A_4 (c : Dev nD) (t : Fin cfg0.N) (arg1 : Memref sig .tc .vmem S512x1024 .bf16) (harg1 : arg1.IsWhole) (arg2 : Memref sig .tc .vmem S512x1024 .bf16) (harg2 : arg2.IsWhole) (arg3 : Memref sig .tc .vmem S2048x2048 .bf16) (harg3 : arg3.IsWhole) (arg5 : Memref sig .tc .vmem S1x2048 .f32) (harg5 : arg5.IsWhole) (arg6 : Memref sig .tc .vmem S512x2048 .f32) (harg6 : arg6.IsWhole) (arg7 : Memref sig .tc .vmem S512x2048 .bf16) (harg7 : arg7.IsWhole) (hc0 : cond0_0 (grid0.coords t)) (hc1 : cond0_1 (grid0.coords t))
    (x0 : Vec Ideal S512x1024 .bf16) (x1 : Vec Ideal S512x1024 .bf16) (x2 : Vec Ideal S2048x2048 .bf16) (x3 : Vec Ideal S1x2048 .f32) (fh : HbBuf0 (F := Ideal) c hbM0_0) (r : Fin 512) (n : Fin 2048) :
    out0_A_4 c t arg1 harg1 arg2 harg2 arg3 harg3 arg5 harg5 arg6 harg6 arg7 harg7 hc0 hc1 x0 x1 x2 x3 fh (ix2 r n) = row (resid c t fh r) (fun k => x0 (ix2 r k)) (fun k => x1 (ix2 r k)) x2 n := by
  have hc := cover0_A_4 c t arg1 harg1 arg2 harg2 arg3 harg3 arg5 harg5 arg6 harg6 arg7 harg7 hc0 hc1 x0 x1 x2 x3 fh
  unfold out0_A_4
  rw [View.read_writes_eq_canon _ _ _ hc]
  unfold kernelRun0_A
  dsimp only
  refine (congrFun (View.canon_unit_zero (by decide) _ _) _).trans ?_
  simp only [View.readAt_eq_ld]
  rw [harg1.read_unread, harg2.read_unread, harg3.read_unread]
  have l0 : View.ld (Val := Elt Ideal) x0 (Rect.unit (s := S512x1024) ![0, 0] S512x1024.size inb_S512x1024_S512x1024_0_0) = x0 := View.ld_unit_zero (by decide) _ x0
  have l1 : View.ld (Val := Elt Ideal) x1 (Rect.unit (s := S512x1024) ![0, 0] S512x1024.size inb_S512x1024_S512x1024_0_0) = x1 := View.ld_unit_zero (by decide) _ x1
  rw [l0, l1]
  exact load1_at c t fh _ (v34_A c t fh) x0 x1 x2 r n

theorem out_A_5 (c : Dev nD) (t : Fin cfg0.N) (arg1 : Memref sig .tc .vmem S512x1024 .bf16) (harg1 : arg1.IsWhole) (arg2 : Memref sig .tc .vmem S512x1024 .bf16) (harg2 : arg2.IsWhole) (arg3 : Memref sig .tc .vmem S2048x2048 .bf16) (harg3 : arg3.IsWhole) (arg5 : Memref sig .tc .vmem S1x2048 .f32) (harg5 : arg5.IsWhole) (arg6 : Memref sig .tc .vmem S512x2048 .f32) (harg6 : arg6.IsWhole) (arg7 : Memref sig .tc .vmem S512x2048 .bf16) (harg7 : arg7.IsWhole) (hc0 : cond0_0 (grid0.coords t)) (hc1 : cond0_1 (grid0.coords t))
    (x0 : Vec Ideal S512x1024 .bf16) (x1 : Vec Ideal S512x1024 .bf16) (x2 : Vec Ideal S2048x2048 .bf16) (x3 : Vec Ideal S1x2048 .f32) (fh : HbBuf0 (F := Ideal) c hbM0_0) (r : Fin 512) (n : Fin 2048) :
    out0_A_5 c t arg1 harg1 arg2 harg2 arg3 harg3 arg5 harg5 arg6 harg6 arg7 harg7 hc0 hc1 x0 x1 x2 x3 fh (ix2 r n) = normed (row (resid c t fh r) (fun k => x0 (ix2 r k)) (fun k => x1 (ix2 r k)) x2) (fun k => x3 (ix2 0 k)) n := by
  have hc := cover0_A_5 c t arg1 harg1 arg2 harg2 arg3 harg3 arg5 harg5 arg6 harg6 arg7 harg7 hc0 hc1 x0 x1 x2 x3 fh
  unfold out0_A_5
  rw [View.read_writes_eq_canon _ _ _ hc]
  unfold kernelRun0_A
  dsimp only
  refine (congrFun (View.canon_unit_zero (by decide) _ _) _).trans ?_
  simp only [View.readAt_eq_ld]
  rw [harg1.read_unread, harg2.read_unread, harg3.read_unread, harg5.read_unread]
  have l0 : View.ld (Val := Elt Ideal) x0 (Rect.unit (s := S512x1024) ![0, 0] S512x1024.size inb_S512x1024_S512x1024_0_0) = x0 := View.ld_unit_zero (by decide) _ x0
  have l1 : View.ld (Val := Elt Ideal) x1 (Rect.unit (s := S512x1024) ![0, 0] S512x1024.size inb_S512x1024_S512x1024_0_0) = x1 := View.ld_unit_zero (by decide) _ x1
  have l3 : View.ld (Val := Elt Ideal) x3 (Rect.unit (s := S1x2048) ![0, 0] S1x2048.size inb_S1x2048_S1x2048_0_0) = x3 := View.ld_unit_zero (by decide) _ x3
  rw [l0, l1, l3]
  refine (pay2_at _ _ _ _ _ _ r n).trans ?_
  exact congrArg (normed · _ n) (funext fun k => load1_at c t fh _ (v34_A c t fh) x0 x1 x2 r k)

theorem out_B_4 (c : Dev nD) (t : Fin cfg0.N) (arg1 : Memref sig .tc .vmem S512x1024 .bf16) (harg1 : arg1.IsWhole) (arg2 : Memref sig .tc .vmem S512x1024 .bf16) (harg2 : arg2.IsWhole) (arg3 : Memref sig .tc .vmem S2048x2048 .bf16) (harg3 : arg3.IsWhole) (arg5 : Memref sig .tc .vmem S1x2048 .f32) (harg5 : arg5.IsWhole) (arg6 : Memref sig .tc .vmem S512x2048 .f32) (harg6 : arg6.IsWhole) (arg7 : Memref sig .tc .vmem S512x2048 .bf16) (harg7 : arg7.IsWhole) (hc0 : ¬cond0_0 (grid0.coords t)) (hc1 : cond0_1 (grid0.coords t))
    (x0 : Vec Ideal S512x1024 .bf16) (x1 : Vec Ideal S512x1024 .bf16) (x2 : Vec Ideal S2048x2048 .bf16) (x3 : Vec Ideal S1x2048 .f32) (fh : HbBuf0 (F := Ideal) c hbM0_0) (r : Fin 512) (n : Fin 2048) :
    out0_B_4 c t arg1 harg1 arg2 harg2 arg3 harg3 arg5 harg5 arg6 harg6 arg7 harg7 hc0 hc1 x0 x1 x2 x3 fh (ix2 r n) = row (resid c t fh r) (fun k => x0 (ix2 r k)) (fun k => x1 (ix2 r k)) x2 n := by
  have hc := cover0_B_4 c t arg1 harg1 arg2 harg2 arg3 harg3 arg5 harg5 arg6 harg6 arg7 harg7 hc0 hc1 x0 x1 x2 x3 fh
  unfold out0_B_4
  rw [View.read_writes_eq_canon _ _ _ hc]
  unfold kernelRun0_B
  dsimp only
  refine (congrFun (View.canon_unit_zero (by decide) _ _) _).trans ?_
  simp only [View.readAt_eq_ld]
  rw [harg1.read_unread, harg2.read_unread, harg3.read_unread]
  have l0 : View.ld (Val := Elt Ideal) x0 (Rect.unit (s := S512x1024) ![0, 0] S512x1024.size inb_S512x1024_S512x1024_0_0) = x0 := View.ld_unit_zero (by decide) _ x0
  have l1 : View.ld (Val := Elt Ideal) x1 (Rect.unit (s := S512x1024) ![0, 0] S512x1024.size inb_S512x1024_S512x1024_0_0) = x1 := View.ld_unit_zero (by decide) _ x1
  rw [l0, l1]
  exact load1_at c t fh _ (v34_B c t fh) x0 x1 x2 r n

theorem out_B_5 (c : Dev nD) (t : Fin cfg0.N) (arg1 : Memref sig .tc .vmem S512x1024 .bf16) (harg1 : arg1.IsWhole) (arg2 : Memref sig .tc .vmem S512x1024 .bf16) (harg2 : arg2.IsWhole) (arg3 : Memref sig .tc .vmem S2048x2048 .bf16) (harg3 : arg3.IsWhole) (arg5 : Memref sig .tc .vmem S1x2048 .f32) (harg5 : arg5.IsWhole) (arg6 : Memref sig .tc .vmem S512x2048 .f32) (harg6 : arg6.IsWhole) (arg7 : Memref sig .tc .vmem S512x2048 .bf16) (harg7 : arg7.IsWhole) (hc0 : ¬cond0_0 (grid0.coords t)) (hc1 : cond0_1 (grid0.coords t))
    (x0 : Vec Ideal S512x1024 .bf16) (x1 : Vec Ideal S512x1024 .bf16) (x2 : Vec Ideal S2048x2048 .bf16) (x3 : Vec Ideal S1x2048 .f32) (fh : HbBuf0 (F := Ideal) c hbM0_0) (r : Fin 512) (n : Fin 2048) :
    out0_B_5 c t arg1 harg1 arg2 harg2 arg3 harg3 arg5 harg5 arg6 harg6 arg7 harg7 hc0 hc1 x0 x1 x2 x3 fh (ix2 r n) = normed (row (resid c t fh r) (fun k => x0 (ix2 r k)) (fun k => x1 (ix2 r k)) x2) (fun k => x3 (ix2 0 k)) n := by
  have hc := cover0_B_5 c t arg1 harg1 arg2 harg2 arg3 harg3 arg5 harg5 arg6 harg6 arg7 harg7 hc0 hc1 x0 x1 x2 x3 fh
  unfold out0_B_5
  rw [View.read_writes_eq_canon _ _ _ hc]
  unfold kernelRun0_B
  dsimp only
  refine (congrFun (View.canon_unit_zero (by decide) _ _) _).trans ?_
  simp only [View.readAt_eq_ld]
  rw [harg1.read_unread, harg2.read_unread, harg3.read_unread, harg5.read_unread]
  have l0 : View.ld (Val := Elt Ideal) x0 (Rect.unit (s := S512x1024) ![0, 0] S512x1024.size inb_S512x1024_S512x1024_0_0) = x0 := View.ld_unit_zero (by decide) _ x0
  have l1 : View.ld (Val := Elt Ideal) x1 (Rect.unit (s := S512x1024) ![0, 0] S512x1024.size inb_S512x1024_S512x1024_0_0) = x1 := View.ld_unit_zero (by decide) _ x1
  have l3 : View.ld (Val := Elt Ideal) x3 (Rect.unit (s := S1x2048) ![0, 0] S1x2048.size inb_S1x2048_S1x2048_0_0) = x3 := View.ld_unit_zero (by decide) _ x3
  rw [l0, l1, l3]
  refine (pay2_at _ _ _ _ _ _ r n).trans ?_
  exact congrArg (normed · _ n) (funext fun k => load1_at c t fh _ (v34_B c t fh) x0 x1 x2 r k)

theorem out_C_4 (c : Dev nD) (t : Fin cfg0.N) (arg1 : Memref sig .tc .vmem S512x1024 .bf16) (harg1 : arg1.IsWhole) (arg2 : Memref sig .tc .vmem S512x1024 .bf16) (harg2 : arg2.IsWhole) (arg3 : Memref sig .tc .vmem S2048x2048 .bf16) (harg3 : arg3.IsWhole) (arg5 : Memref sig .tc .vmem S1x2048 .f32) (harg5 : arg5.IsWhole) (arg6 : Memref sig .tc .vmem S512x2048 .f32) (harg6 : arg6.IsWhole) (arg7 : Memref sig .tc .vmem S512x2048 .bf16) (harg7 : arg7.IsWhole) (hc0 : ¬cond0_0 (grid0.coords t)) (hc1 : ¬cond0_1 (grid0.coords t))
    (x0 : Vec Ideal S512x1024 .bf16) (x1 : Vec Ideal S512x1024 .bf16) (x2 : Vec Ideal S2048x2048 .bf16) (x3 : Vec Ideal S1x2048 .f32) (fh : HbBuf0 (F := Ideal) c hbM0_0) (r : Fin 512) (n : Fin 2048) :
    out0_C_4 c t arg1 harg1 arg2 harg2 arg3 harg3 arg5 harg5 arg6 harg6 arg7 harg7 hc0 hc1 x0 x1 x2 x3 fh (ix2 r n) = row (resid c t fh r) (fun k => x0 (ix2 r k)) (fun k => x1 (ix2 r k)) x2 n := by
  have hc := cover0_C_4 c t arg1 harg1 arg2 harg2 arg3 harg3 arg5 harg5 arg6 harg6 arg7 harg7 hc0 hc1 x0 x1 x2 x3 fh
  unfold out0_C_4
  rw [View.read_writes_eq_canon _ _ _ hc]
  unfold kernelRun0_C
  dsimp only
  refine (congrFun (View.canon_unit_zero (by decide) _ _) _).trans ?_
  simp only [View.readAt_eq_ld]
  rw [harg1.read_unread, harg2.read_unread, harg3.read_unread]
  have l0 : View.ld (Val := Elt Ideal) x0 (Rect.unit (s := S512x1024) ![0, 0] S512x1024.size inb_S512x1024_S512x1024_0_0) = x0 := View.ld_unit_zero (by decide) _ x0
  have l1 : View.ld (Val := Elt Ideal) x1 (Rect.unit (s := S512x1024) ![0, 0] S512x1024.size inb_S512x1024_S512x1024_0_0) = x1 := View.ld_unit_zero (by decide) _ x1
  rw [l0, l1]
  exact load1_at c t fh _ (v34_C c t fh) x0 x1 x2 r n

theorem out_C_5 (c : Dev nD) (t : Fin cfg0.N) (arg1 : Memref sig .tc .vmem S512x1024 .bf16) (harg1 : arg1.IsWhole) (arg2 : Memref sig .tc .vmem S512x1024 .bf16) (harg2 : arg2.IsWhole) (arg3 : Memref sig .tc .vmem S2048x2048 .bf16) (harg3 : arg3.IsWhole) (arg5 : Memref sig .tc .vmem S1x2048 .f32) (harg5 : arg5.IsWhole) (arg6 : Memref sig .tc .vmem S512x2048 .f32) (harg6 : arg6.IsWhole) (arg7 : Memref sig .tc .vmem S512x2048 .bf16) (harg7 : arg7.IsWhole) (hc0 : ¬cond0_0 (grid0.coords t)) (hc1 : ¬cond0_1 (grid0.coords t))
    (x0 : Vec Ideal S512x1024 .bf16) (x1 : Vec Ideal S512x1024 .bf16) (x2 : Vec Ideal S2048x2048 .bf16) (x3 : Vec Ideal S1x2048 .f32) (fh : HbBuf0 (F := Ideal) c hbM0_0) (r : Fin 512) (n : Fin 2048) :
    out0_C_5 c t arg1 harg1 arg2 harg2 arg3 harg3 arg5 harg5 arg6 harg6 arg7 harg7 hc0 hc1 x0 x1 x2 x3 fh (ix2 r n) = normed (row (resid c t fh r) (fun k => x0 (ix2 r k)) (fun k => x1 (ix2 r k)) x2) (fun k => x3 (ix2 0 k)) n := by
  have hc := cover0_C_5 c t arg1 harg1 arg2 harg2 arg3 harg3 arg5 harg5 arg6 harg6 arg7 harg7 hc0 hc1 x0 x1 x2 x3 fh
  unfold out0_C_5
  rw [View.read_writes_eq_canon _ _ _ hc]
  unfold kernelRun0_C
  dsimp only
  refine (congrFun (View.canon_unit_zero (by decide) _ _) _).trans ?_
  simp only [View.readAt_eq_ld]
  rw [harg1.read_unread, harg2.read_unread, harg3.read_unread, harg5.read_unread]
  have l0 : View.ld (Val := Elt Ideal) x0 (Rect.unit (s := S512x1024) ![0, 0] S512x1024.size inb_S512x1024_S512x1024_0_0) = x0 := View.ld_unit_zero (by decide) _ x0
  have l1 : View.ld (Val := Elt Ideal) x1 (Rect.unit (s := S512x1024) ![0, 0] S512x1024.size inb_S512x1024_S512x1024_0_0) = x1 := View.ld_unit_zero (by decide) _ x1
  have l3 : View.ld (Val := Elt Ideal) x3 (Rect.unit (s := S1x2048) ![0, 0] S1x2048.size inb_S1x2048_S1x2048_0_0) = x3 := View.ld_unit_zero (by decide) _ x3
  rw [l0, l1, l3]
  refine (pay2_at _ _ _ _ _ _ r n).trans ?_
  exact congrArg (normed · _ n) (funext fun k => load1_at c t fh _ (v34_C c t fh) x0 x1 x2 r k)

/-- Every grid point's blocks, at an index, by the point's case. -/
theorem at_A_4 (c : Dev nD) (t : Fin cfg0.N) (h0 : t.val % 32 = 0) (h1 : t.val < 30) (r : Fin 512) (n : Fin 2048) :
    (outsAt0 m c t.val t.isLt).1 (ix2 r n) = row (resid c t (V m c main_v5) r) (fun k => iblk m c 0 t (ix2 r k)) (fun k => iblk m c 1 t (ix2 r k)) (iblk m c 2 t) n := by
  rw [outsAt0_A m c t h0 h1]
  dsimp only
  exact out_A_4 c t (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) ((hcond0_1 t).mpr h1)
    (iblk m c 0 t) (iblk m c 1 t) (iblk m c 2 t) (iblk m c 3 t) (V m c main_v5) r n

theorem at_A_5 (c : Dev nD) (t : Fin cfg0.N) (h0 : t.val % 32 = 0) (h1 : t.val < 30) (r : Fin 512) (n : Fin 2048) :
    (outsAt0 m c t.val t.isLt).2 (ix2 r n) = normed (row (resid c t (V m c main_v5) r) (fun k => iblk m c 0 t (ix2 r k)) (fun k => iblk m c 1 t (ix2 r k)) (iblk m c 2 t)) (fun k => iblk m c 3 t (ix2 0 k)) n := by
  rw [outsAt0_A m c t h0 h1]
  dsimp only
  exact out_A_5 c t (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) ((hcond0_1 t).mpr h1)
    (iblk m c 0 t) (iblk m c 1 t) (iblk m c 2 t) (iblk m c 3 t) (V m c main_v5) r n

theorem at_B_4 (c : Dev nD) (t : Fin cfg0.N) (h0 : ¬t.val % 32 = 0) (h1 : t.val < 30) (r : Fin 512) (n : Fin 2048) :
    (outsAt0 m c t.val t.isLt).1 (ix2 r n) = row (resid c t (V m c main_v5) r) (fun k => iblk m c 0 t (ix2 r k)) (fun k => iblk m c 1 t (ix2 r k)) (iblk m c 2 t) n := by
  rw [outsAt0_B m c t h0 h1]
  dsimp only
  exact out_B_4 c t (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1)
    (iblk m c 0 t) (iblk m c 1 t) (iblk m c 2 t) (iblk m c 3 t) (V m c main_v5) r n

theorem at_B_5 (c : Dev nD) (t : Fin cfg0.N) (h0 : ¬t.val % 32 = 0) (h1 : t.val < 30) (r : Fin 512) (n : Fin 2048) :
    (outsAt0 m c t.val t.isLt).2 (ix2 r n) = normed (row (resid c t (V m c main_v5) r) (fun k => iblk m c 0 t (ix2 r k)) (fun k => iblk m c 1 t (ix2 r k)) (iblk m c 2 t)) (fun k => iblk m c 3 t (ix2 0 k)) n := by
  rw [outsAt0_B m c t h0 h1]
  dsimp only
  exact out_B_5 c t (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1)
    (iblk m c 0 t) (iblk m c 1 t) (iblk m c 2 t) (iblk m c 3 t) (V m c main_v5) r n

theorem at_C_4 (c : Dev nD) (t : Fin cfg0.N) (h0 : ¬t.val % 32 = 0) (h1 : ¬t.val < 30) (r : Fin 512) (n : Fin 2048) :
    (outsAt0 m c t.val t.isLt).1 (ix2 r n) = row (resid c t (V m c main_v5) r) (fun k => iblk m c 0 t (ix2 r k)) (fun k => iblk m c 1 t (ix2 r k)) (iblk m c 2 t) n := by
  rw [outsAt0_C m c t h0 h1]
  dsimp only
  exact out_C_4 c t (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h))
    (iblk m c 0 t) (iblk m c 1 t) (iblk m c 2 t) (iblk m c 3 t) (V m c main_v5) r n

theorem at_C_5 (c : Dev nD) (t : Fin cfg0.N) (h0 : ¬t.val % 32 = 0) (h1 : ¬t.val < 30) (r : Fin 512) (n : Fin 2048) :
    (outsAt0 m c t.val t.isLt).2 (ix2 r n) = normed (row (resid c t (V m c main_v5) r) (fun k => iblk m c 0 t (ix2 r k)) (fun k => iblk m c 1 t (ix2 r k)) (iblk m c 2 t)) (fun k => iblk m c 3 t (ix2 0 k)) n := by
  rw [outsAt0_C m c t h0 h1]
  dsimp only
  exact out_C_5 c t (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h))
    (iblk m c 0 t) (iblk m c 1 t) (iblk m c 2 t) (iblk m c 3 t) (V m c main_v5) r n

theorem at_4 (c : Dev nD) (t : Fin cfg0.N) (r : Fin 512) (n : Fin 2048) :
    (outsAt0 m c t.val t.isLt).1 (ix2 r n) = row (resid c t (V m c main_v5) r) (fun k => iblk m c 0 t (ix2 r k)) (fun k => iblk m c 1 t (ix2 r k)) (iblk m c 2 t) n := by
  by_cases h0 : t.val % 32 = 0
  · exact at_A_4 m c t h0 (by have : t.val < 32 := t.isLt; omega) r n
  · by_cases h1 : t.val < 30
    · exact at_B_4 m c t h0 h1 r n
    · exact at_C_4 m c t h0 h1 r n

theorem at_5 (c : Dev nD) (t : Fin cfg0.N) (r : Fin 512) (n : Fin 2048) :
    (outsAt0 m c t.val t.isLt).2 (ix2 r n) = normed (row (resid c t (V m c main_v5) r) (fun k => iblk m c 0 t (ix2 r k)) (fun k => iblk m c 1 t (ix2 r k)) (iblk m c 2 t)) (fun k => iblk m c 3 t (ix2 0 k)) n := by
  by_cases h0 : t.val % 32 = 0
  · exact at_A_5 m c t h0 (by have : t.val < 32 := t.isLt; omega) r n
  · by_cases h1 : t.val < 30
    · exact at_B_5 m c t h0 h1 r n
    · exact at_C_5 m c t h0 h1 r n

/-- Which block of each array a grid point reads or writes. -/
theorem idx6 : ∀ t : Fin grid0.N, win0_0.index t = ![t.val, 0] ∧ win0_1.index t = ![t.val, 0]
  ∧ win0_2.index t = ![0, 0] ∧ win0_3.index t = ![0, 0] ∧ win0_4.index t = ![t.val, 0] ∧ win0_5.index t = ![t.val, 0] := by decide +kernel

variable (t : Fin cfg0.N)

theorem blk0 (c : Dev nD) (r : Fin 512) (k : Fin 1024) :
    iblk m c 0 t (ix2 r k) = V m c main_v1 (ix2 ⟨512 * t.val + r.val, by have := t.isLt; change t.val < 32 at this; omega⟩ k) := by
  blk_ext [iblk, idx6 t]

theorem blk1 (c : Dev nD) (r : Fin 512) (k : Fin 1024) :
    iblk m c 1 t (ix2 r k) = V m c main_v3 (ix2 ⟨512 * t.val + r.val, by have := t.isLt; change t.val < 32 at this; omega⟩ k) := by
  blk_ext [iblk, idx6 t]

theorem blk2 (c : Dev nD) (k n : Fin 2048) : iblk m c 2 t (ix2 k n) = V m c main_v4 (ix2 k n) := by
  blk_ext [iblk, idx6 t]

theorem blk3 (c : Dev nD) (n : Fin 2048) : iblk m c 3 t (ix2 0 n) = V m c main_v6 (ix2 0 n) := by
  blk_ext [iblk, idx6 t]

theorem emb4 (r : Fin 512) (n : Fin 2048) (G : S16384x2048.Idx → EReal) :
    G ((win0_4.blk t).view.emb (ix2 r n)) = G (ix2 ⟨512 * t.val + r.val, by have := t.isLt; change t.val < 32 at this; omega⟩ n) := by
  blk_ext [iblk, idx6 t]

theorem emb5 (r : Fin 512) (n : Fin 2048) (G : S16384x2048.Idx → EReal) :
    G ((win0_5.blk t).view.emb (ix2 r n)) = G (ix2 ⟨512 * t.val + r.val, by have := t.isLt; change t.val < 32 at this; omega⟩ n) := by
  blk_ext [iblk, idx6 t]

/-- A grid point's rows in terms of the arguments. -/
theorem point (c : Dev nD) (r : Fin 512) : ∃ (b : Fin 8) (s : Fin 2048), (∀ h, (⟨512 * t.val + r.val, h⟩ : Fin 16384) = ⟨2048 * b.val + s.val, by omega⟩)
    ∧ row (resid c t (V m c main_v5) r) (fun k => iblk m c 0 t (ix2 r k)) (fun k => iblk m c 1 t (ix2 r k)) (iblk m c 2 t)
      = row (fun n => xr m c (ix3 b s n)) (fun k => xa m c (ix3 b s k)) (fun k => xm m c (ix3 b s k)) (xw m c) := by
  have hN : t.val < 32 := t.isLt
  obtain ⟨b, hb⟩ : ∃ b : Fin 8, b.val = t.val / 4 := ⟨⟨t.val / 4, by omega⟩, rfl⟩
  obtain ⟨s, hs⟩ : ∃ s : Fin 2048, s.val = 512 * (t.val % 4) + r.val := ⟨⟨512 * (t.val % 4) + r.val, by omega⟩, rfl⟩
  have e : ∀ h, (⟨512 * t.val + r.val, h⟩ : Fin 16384) = ⟨2048 * b.val + s.val, by omega⟩ := fun h => Fin.ext (by simp only; omega)
  have h0 : (fun k => iblk m c 0 t (ix2 r k)) = fun k => xa m c (ix3 b s k) := funext fun k => by rw [blk0 m t c, e]; exact v1_at m c b s k
  have h1 : (fun k => iblk m c 1 t (ix2 r k)) = fun k => xm m c (ix3 b s k) := funext fun k => by rw [blk1 m t c, e]; exact v3_at m c b s k
  have h2 : iblk m c 2 t = xw m c := funext fun y => by
    obtain ⟨k, n, rfl⟩ : ∃ (k n : Fin 2048), y = ix2 k n := ⟨y 0, y 1, eq_ix2 y⟩
    rw [blk2 m t c]; exact v4_at m c k n
  have h3 : resid c t (V m c main_v5) r = fun n => xr m c (ix3 b s n) := funext fun n => by unfold resid; rw [e]; exact v5_at m c b s n
  exact ⟨b, s, e, by rw [h0, h1, h2, h3]⟩

open Cert.OutReferenceIdeal.Read in
/-- The reference's sum, before it is flattened, at an index. -/
theorem sum_apply (a q : S8x2048x1024.Idx → EReal) (w : S2048x2048.Idx → EReal) (x : S8x2048x2048.Idx → EReal) (b : Fin 8) (s n : Fin 2048) :
    val_main_v2 (F := Ideal) a q w x (ix3 b s n) = row (fun n => x (ix3 b s n)) (fun k => a (ix3 b s k)) (fun k => q (ix3 b s k)) w n := by
  have e : val_main_v2 (F := Ideal) a q w x (ix3 b s n) = x (ix3 b s n) + ∑ k : Fin 2048, (if h : k.val < 1024 then a (ix3 b s ⟨k.val, h⟩) else q (ix3 b s ⟨k.val - 1024, by omega⟩)) * w (ix2 k n) := by
    unfold val_main_v2 val_main_v1 val_main_v0
    pointwise [Cert.OutReferenceIdeal.dot_S8x2048x2048_S2048x2048_S8x2048x2048_2_0_01_1_n_n]
  rw [e]
  unfold row
  rw [add_assoc]
  refine congrArg (x (ix3 b s n) + ·) ((Fin.sum_univ_add (a := 1024) (b := 1024) _).trans (congrArg₂ (· + ·) (Finset.sum_congr rfl fun k _ => ?_) (Finset.sum_congr rfl fun k _ => ?_)))
  · rw [dif_pos (show (Fin.castAdd 1024 k).val < 1024 from k.isLt)]
    rfl
  · rw [dif_neg (by simp)]
    exact congrArg (· * _) (congrArg (fun k => q (ix3 b s k)) (Fin.ext (by simp)))

open Cert.OutReferenceIdeal.Read in
/-- The reference at an index. -/
theorem ref3_apply (a q : S8x2048x1024.Idx → EReal) (w : S2048x2048.Idx → EReal) (x : S8x2048x2048.Idx → EReal) (b : Fin 8) (s n : Fin 2048) :
    val_main_v3 (F := Ideal) a q w x (ix2 ⟨2048 * b.val + s.val, by omega⟩ n) = row (fun n => x (ix3 b s n)) (fun k => a (ix3 b s k)) (fun k => q (ix3 b s k)) w n := by
  have key := sum_apply a q w x b s
  unfold val_main_v3
  generalize val_main_v2 (F := Ideal) a q w x = p at key
  pointwise [key]

open Cert.OutReferenceIdeal.Read in
theorem ref18_apply (a q : S8x2048x1024.Idx → EReal) (w : S2048x2048.Idx → EReal) (x : S8x2048x2048.Idx → EReal) (g : S2048.Idx → EReal) (b : Fin 8) (s n : Fin 2048) :
    val_main_v18 (F := Ideal) a q w x g (ix2 ⟨2048 * b.val + s.val, by omega⟩ n)
      = normed (row (fun n => x (ix3 b s n)) (fun k => a (ix3 b s k)) (fun k => q (ix3 b s k)) w) (fun k => g (ix1 k)) n := by
  rw [← funext (sum_apply a q w x b s)]
  unfold val_main_v18 val_main_v17 val_main_v16 val_main_v15 val_main_v14 val_main_v13 val_main_v12 val_main_v11 val_main_v10 val_main_v9 val_main_cst_1 val_main_v8 val_main_v7 val_main_cst_0
    val_main_v6 val_main_v5 val_main_cst val_main_v4 normed
  generalize val_main_v2 (F := Ideal) a q w x = p
  pointwise

/-- The kernel's first result array is the reference's. -/
theorem result4_eq (c : Dev nD) :
    (dats m 0 c).arrAt 4 cfg0.N = Cert.OutReferenceIdeal.Read.val_main_v3 (F := Ideal) (xa m c) (xm m c) (xw m c) (xr m c) := by
  refine (dats m 0 c).arrAt_eq_of_covers 4 _ (by decide +kernel) fun t hf y => ?_
  blk_simp
  rw [after0_4]
  obtain ⟨r, n, rfl⟩ : ∃ (r : Fin 512) (n : Fin 2048), y = ix2 r n := ⟨y 0, y 1, eq_ix2 y⟩
  refine Eq.trans ?_ (emb4 t r n (Cert.OutReferenceIdeal.Read.val_main_v3 (F := Ideal) (xa m c) (xm m c) (xw m c) (xr m c))).symm
  obtain ⟨b, s, e, hp⟩ := point m t c r
  rw [e, ref3_apply, ← hp]
  exact at_4 m c t r n

/-- The kernel's second result array is the reference's. -/
theorem result5_eq (c : Dev nD) :
    (dats m 0 c).arrAt 5 cfg0.N = Cert.OutReferenceIdeal.Read.val_main_v18 (F := Ideal) (xa m c) (xm m c) (xw m c) (xr m c) (xg m c) := by
  refine (dats m 0 c).arrAt_eq_of_covers 5 _ (by decide +kernel) fun t hf y => ?_
  blk_simp
  rw [after0_5]
  obtain ⟨r, n, rfl⟩ : ∃ (r : Fin 512) (n : Fin 2048), y = ix2 r n := ⟨y 0, y 1, eq_ix2 y⟩
  refine Eq.trans ?_ (emb5 t r n (Cert.OutReferenceIdeal.Read.val_main_v18 (F := Ideal) (xa m c) (xm m c) (xw m c) (xr m c) (xg m c))).symm
  obtain ⟨b, s, e, hp⟩ := point m t c r
  have h3 : (fun k => iblk m c 3 t (ix2 0 k)) = fun k => xg m c (ix1 k) := funext fun k => by rw [blk3 m t c]; exact v6_at m c k
  rw [e, ref18_apply, ← hp, ← h3]
  exact at_5 m c t r n

end Cert.OutIdeal.Val
end
-- ==== Proof.Mla.Apply.lean ====
module

public import proofs.«01_k».proof.Proof.Gen.MlaIdeal.Value
public import proofs.«01_k».proof.Proof.Common.Real
public import Idealize.ShloMosaic.Lib.Pointwise

/-! The latent expansion's body: each array it computes, at an index. -/

@[expose] public section

set_option maxRecDepth 65536
noncomputable section
namespace Cert.MlaIdeal.Val
open Cert.MlaIdeal Cert.MlaIdeal.Gen Cert.Common Idealize.ShloMosaic Idealize.ShloMosaic.TcCoe Idealize.SL.Sem

/-- The score scale. -/
def scale : EReal := (((Real.sqrt 192 * Real.log 2)⁻¹ : ℝ) : EReal)

/-- The named scale constant is the score scale. -/
theorem named_scale : Named.named (F := Ideal) (φ := .f32) κ "scale" 0x3DD53B95#32 = scale := by
  unfold scale
  exact IdealRules.named_const.ideal_named_scalar _ _ _ _ rfl

/-- A row after the norm. -/
def normed (f : Fin 512 → EReal) (g : Fin 512 → EReal) (n : Fin 512) : EReal :=
  f n * Ideal.rsqrt (Ideal.div (∑ k : Fin 512, f k * f k) (Ideal.ofBits FTy.f32 0x44000000#32) + Ideal.ofBits FTy.f32 0x358637BD#32) * g n

/-- A position as a number. -/
abbrev real (p : BitVec 32) : EReal := FloatOps.sitofp (F := Ideal) FTy.f32 p

/-- The masked rotary factors of one row. -/
def lane (f : EReal → EReal) (p : EReal) (v : Fin 128 → EReal) (j : Fin 128) : EReal :=
  if j.val < 64 then f (p * v j) else 0

theorem angle_apply (p : Vec Ideal S512x1 .i32) (v : Vec Ideal S1x128 .f32) (r : Fin 512) (j : Fin 128) :
    k0_pay2 (F := Ideal) p v (ix2 r j) = real (p (ix2 r 0)) * v (ix2 0 j) := by
  unfold k0_pay2
  pointwise

theorem mask_apply (r : Fin 512) (j : Fin 128) : k0_pay3 (ix2 r j) = if j.val < 64 then 1 else 0 := by
  unfold k0_pay3
  pointwise
  revert j
  decide +kernel

theorem cos_apply (p : Vec Ideal S512x1 .i32) (v : Vec Ideal S1x128 .f32) (r : Fin 512) (j : Fin 128) :
    k0_pay4 (F := Ideal) p v (ix2 r j) = lane Ideal.cos (real (p (ix2 r 0))) (fun j => v (ix2 0 j)) j := by
  unfold k0_pay4 lane
  have key := angle_apply p v r j
  have km := mask_apply r j
  generalize k0_pay2 (F := Ideal) p v = a at key
  generalize k0_pay3 = b at km
  pointwise [key, km]
  split <;> simp_all <;> rfl

theorem sin_apply (p : Vec Ideal S512x1 .i32) (v : Vec Ideal S1x128 .f32) (r : Fin 512) (j : Fin 128) :
    k0_pay5 (F := Ideal) p v (ix2 r j) = lane Ideal.sin (real (p (ix2 r 0))) (fun j => v (ix2 0 j)) j := by
  unfold k0_pay5 lane
  have key := angle_apply p v r j
  have km := mask_apply r j
  generalize k0_pay2 (F := Ideal) p v = a at key
  generalize k0_pay3 = b at km
  pointwise [key, km]
  split <;> simp_all <;> rfl

theorem cq_apply (x : Vec Ideal S512x512 .f32) (g : Vec Ideal S1x512 .f32) (r n : Fin 512) :
    k0_pay6 x g (ix2 r n) = normed (fun k => x (ix2 r k)) (fun k => g (ix2 0 k)) n := by
  unfold k0_pay6 normed
  pointwise

theorem z1_apply (x : Vec Ideal S512x512 .f32) (g : Vec Ideal S1x512 .f32) (w : Vec Ideal S512x2048 .bf16) (r : Fin 512) (n : Fin 2048) :
    k0_pay7 x g w (ix2 r n) = ∑ k : Fin 512, normed (fun k => x (ix2 r k)) (fun k => g (ix2 0 k)) k * w (ix2 k n) := by
  unfold k0_pay7
  have key := cq_apply x g r
  generalize k0_pay6 x g = h at key
  pointwise [dot_S512x512_S512x2048_S512x2048_1_0_0_1_n_n, key]

theorem z2_apply (x : Vec Ideal S512x512 .f32) (g : Vec Ideal S1x512 .f32) (w : Vec Ideal S512x1024 .bf16) (r : Fin 512) (n : Fin 1024) :
    k0_pay9 (k0_pay6 x g) (k0_pay8 w) (constant S512x1024 .f32 0x00000000#32) (ix2 r n)
      = ∑ k : Fin 512, normed (fun k => x (ix2 r k)) (fun k => g (ix2 0 k)) k * w (ix2 k n) := by
  unfold k0_pay9 k0_pay8
  have key := cq_apply x g r
  generalize k0_pay6 x g = h at key
  pointwise [dot_S512x512_S512x1024_S512x1024_1_0_0_1_n_n, key]

theorem ckv_apply (x : Vec Ideal S512x512 .f32) (r n : Fin 512) :
    k0_pay29 x (ix2 r n) = normed (fun k => x (ix2 r k)) (fun _ => 1) n := by
  unfold k0_pay29 normed
  pointwise [mul_one]

theorem z_apply (x : Vec Ideal S512x512 .f32) (g : Vec Ideal S1x512 .f32) (w : Vec Ideal S512x2048 .bf16) (r : Fin 512) (n : Fin 2048) :
    k0_pay30 (k0_pay28 g) (k0_pay29 x) w (ix2 r n) = ∑ k : Fin 512, normed (fun k => x (ix2 r k)) (fun k => g (ix2 0 k)) k * w (ix2 k n) := by
  unfold k0_pay30 k0_pay28
  have key : ∀ k, k0_pay29 x (ix2 r k) * g (ix2 0 k) = normed (fun k => x (ix2 r k)) (fun k => g (ix2 0 k)) k := fun k => by
    rw [ckv_apply]; unfold normed; rw [mul_one]
  generalize k0_pay29 x = h at key
  pointwise [dot_S512x512_S512x2048_S512x2048_1_0_0_1_n_n, key]

theorem cosS_apply (v : FVec Ideal S512x128 .f32) (r : Fin 512) (j : Fin 128) : k0_pay10 v (ix2 r j) = v (ix2 r j) * scale := by
  unfold k0_pay10
  pointwise [named_scale]

theorem sinS_apply (v : FVec Ideal S512x128 .f32) (r : Fin 512) (j : Fin 128) : k0_pay11 v (ix2 r j) = v (ix2 r j) * scale := by
  unfold k0_pay11
  pointwise [named_scale]

theorem kpe_apply (c s : FVec Ideal S512x128 .f32) (a b : Vec Ideal S512x128 .f32) (r : Fin 512) (j : Fin 128) :
    k0_pay31 c s a b (ix2 r j) = a (ix2 r j) * c (ix2 r j) + b (ix2 r j) * s (ix2 r j) := by
  unfold k0_pay31
  pointwise

theorem pay12_apply (z : FVec Ideal S512x2048 .f32) (r : Fin 512) (j : Fin 128) :
    k0_pay12 z (ix2 r j) = z (ix2 r ⟨0 + j.val, by omega⟩) * scale := by
  unfold k0_pay12
  pointwise [named_scale]

theorem pay13_apply (c s : FVec Ideal S512x128 .f32) (z : FVec Ideal S512x2048 .f32) (a : FVec Ideal S512x512 .bf16) (w : FVec Ideal S512x1024 .bf16) (k : FVec Ideal S512x1024 .f32) (r : Fin 512) (j : Fin 128) :
    k0_pay13 c s a z w k (ix2 r j) = z (ix2 r ⟨128 + j.val, by omega⟩) * (c (ix2 r j) * scale) + k0_pay9 a w k (ix2 r ⟨0 + j.val, by omega⟩) * (s (ix2 r j) * scale) := by
  unfold k0_pay13
  have kc := cosS_apply c r j
  have ks := sinS_apply s r j
  generalize k0_pay10 c = c' at kc
  generalize k0_pay11 s = s' at ks
  generalize k0_pay9 a w k = q
  pointwise [kc, ks]

theorem pay14_apply (z : FVec Ideal S512x2048 .f32) (r : Fin 512) (j : Fin 128) :
    k0_pay14 z (ix2 r j) = z (ix2 r ⟨256 + j.val, by omega⟩) * scale := by
  unfold k0_pay14
  pointwise [named_scale]

theorem pay15_apply (c s : FVec Ideal S512x128 .f32) (z : FVec Ideal S512x2048 .f32) (a : FVec Ideal S512x512 .bf16) (w : FVec Ideal S512x1024 .bf16) (k : FVec Ideal S512x1024 .f32) (r : Fin 512) (j : Fin 128) :
    k0_pay15 c s a z w k (ix2 r j) = z (ix2 r ⟨384 + j.val, by omega⟩) * (c (ix2 r j) * scale) + k0_pay9 a w k (ix2 r ⟨128 + j.val, by omega⟩) * (s (ix2 r j) * scale) := by
  unfold k0_pay15
  have kc := cosS_apply c r j
  have ks := sinS_apply s r j
  generalize k0_pay10 c = c' at kc
  generalize k0_pay11 s = s' at ks
  generalize k0_pay9 a w k = q
  pointwise [kc, ks]

theorem pay16_apply (z : FVec Ideal S512x2048 .f32) (r : Fin 512) (j : Fin 128) :
    k0_pay16 z (ix2 r j) = z (ix2 r ⟨512 + j.val, by omega⟩) * scale := by
  unfold k0_pay16
  pointwise [named_scale]

theorem pay17_apply (c s : FVec Ideal S512x128 .f32) (z : FVec Ideal S512x2048 .f32) (a : FVec Ideal S512x512 .bf16) (w : FVec Ideal S512x1024 .bf16) (k : FVec Ideal S512x1024 .f32) (r : Fin 512) (j : Fin 128) :
    k0_pay17 c s a z w k (ix2 r j) = z (ix2 r ⟨640 + j.val, by omega⟩) * (c (ix2 r j) * scale) + k0_pay9 a w k (ix2 r ⟨256 + j.val, by omega⟩) * (s (ix2 r j) * scale) := by
  unfold k0_pay17
  have kc := cosS_apply c r j
  have ks := sinS_apply s r j
  generalize k0_pay10 c = c' at kc
  generalize k0_pay11 s = s' at ks
  generalize k0_pay9 a w k = q
  pointwise [kc, ks]

theorem pay18_apply (z : FVec Ideal S512x2048 .f32) (r : Fin 512) (j : Fin 128) :
    k0_pay18 z (ix2 r j) = z (ix2 r ⟨768 + j.val, by omega⟩) * scale := by
  unfold k0_pay18
  pointwise [named_scale]

theorem pay19_apply (z : FVec Ideal S512x2048 .f32) (y : FVec Ideal S512x1024 .f32) (c s : FVec Ideal S512x128 .f32) (r : Fin 512) (j : Fin 128) :
    k0_pay19 z y c s (ix2 r j) = z (ix2 r ⟨896 + j.val, by omega⟩) * c (ix2 r j) + y (ix2 r ⟨384 + j.val, by omega⟩) * s (ix2 r j) := by
  unfold k0_pay19
  pointwise

theorem pay20_apply (z : FVec Ideal S512x2048 .f32) (r : Fin 512) (j : Fin 128) :
    k0_pay20 z (ix2 r j) = z (ix2 r ⟨1024 + j.val, by omega⟩) * scale := by
  unfold k0_pay20
  pointwise [named_scale]

theorem pay21_apply (z : FVec Ideal S512x2048 .f32) (y : FVec Ideal S512x1024 .f32) (c s : FVec Ideal S512x128 .f32) (r : Fin 512) (j : Fin 128) :
    k0_pay21 z y c s (ix2 r j) = z (ix2 r ⟨1152 + j.val, by omega⟩) * c (ix2 r j) + y (ix2 r ⟨512 + j.val, by omega⟩) * s (ix2 r j) := by
  unfold k0_pay21
  pointwise

theorem pay22_apply (z : FVec Ideal S512x2048 .f32) (r : Fin 512) (j : Fin 128) :
    k0_pay22 z (ix2 r j) = z (ix2 r ⟨1280 + j.val, by omega⟩) * scale := by
  unfold k0_pay22
  pointwise [named_scale]

theorem pay23_apply (z : FVec Ideal S512x2048 .f32) (y : FVec Ideal S512x1024 .f32) (c s : FVec Ideal S512x128 .f32) (r : Fin 512) (j : Fin 128) :
    k0_pay23 z y c s (ix2 r j) = z (ix2 r ⟨1408 + j.val, by omega⟩) * c (ix2 r j) + y (ix2 r ⟨640 + j.val, by omega⟩) * s (ix2 r j) := by
  unfold k0_pay23
  pointwise

theorem pay24_apply (z : FVec Ideal S512x2048 .f32) (r : Fin 512) (j : Fin 128) :
    k0_pay24 z (ix2 r j) = z (ix2 r ⟨1536 + j.val, by omega⟩) * scale := by
  unfold k0_pay24
  pointwise [named_scale]

theorem pay25_apply (z : FVec Ideal S512x2048 .f32) (y : FVec Ideal S512x1024 .f32) (c s : FVec Ideal S512x128 .f32) (r : Fin 512) (j : Fin 128) :
    k0_pay25 z y c s (ix2 r j) = z (ix2 r ⟨1664 + j.val, by omega⟩) * c (ix2 r j) + y (ix2 r ⟨768 + j.val, by omega⟩) * s (ix2 r j) := by
  unfold k0_pay25
  pointwise

theorem pay26_apply (z : FVec Ideal S512x2048 .f32) (r : Fin 512) (j : Fin 128) :
    k0_pay26 z (ix2 r j) = z (ix2 r ⟨1792 + j.val, by omega⟩) * scale := by
  unfold k0_pay26
  pointwise [named_scale]

theorem pay27_apply (z : FVec Ideal S512x2048 .f32) (y : FVec Ideal S512x1024 .f32) (c s : FVec Ideal S512x128 .f32) (r : Fin 512) (j : Fin 128) :
    k0_pay27 z y c s (ix2 r j) = z (ix2 r ⟨1920 + j.val, by omega⟩) * c (ix2 r j) + y (ix2 r ⟨896 + j.val, by omega⟩) * s (ix2 r j) := by
  unfold k0_pay27
  pointwise

theorem pay32_apply (g : FVec Ideal S1x512 .f32) (x : FVec Ideal S512x512 .f32) (w : Vec Ideal S512x2048 .bf16) (r : Fin 512) (j : Fin 128) :
    k0_pay32 g x w (ix2 r j) = k0_pay30 g x w (ix2 r ⟨0 + j.val, by omega⟩) := by
  unfold k0_pay32
  generalize k0_pay30 g x w = q
  pointwise

theorem pay33_apply (g : FVec Ideal S1x512 .f32) (x : FVec Ideal S512x512 .f32) (w : Vec Ideal S512x2048 .bf16) (r : Fin 512) (j : Fin 128) :
    k0_pay33 g x w (ix2 r j) = k0_pay30 g x w (ix2 r ⟨128 + j.val, by omega⟩) := by
  unfold k0_pay33
  generalize k0_pay30 g x w = q
  pointwise

theorem pay34_apply (g : FVec Ideal S1x512 .f32) (x : FVec Ideal S512x512 .f32) (w : Vec Ideal S512x2048 .bf16) (r : Fin 512) (j : Fin 128) :
    k0_pay34 g x w (ix2 r j) = k0_pay30 g x w (ix2 r ⟨256 + j.val, by omega⟩) := by
  unfold k0_pay34
  generalize k0_pay30 g x w = q
  pointwise

theorem pay35_apply (g : FVec Ideal S1x512 .f32) (x : FVec Ideal S512x512 .f32) (w : Vec Ideal S512x2048 .bf16) (r : Fin 512) (j : Fin 128) :
    k0_pay35 g x w (ix2 r j) = k0_pay30 g x w (ix2 r ⟨384 + j.val, by omega⟩) := by
  unfold k0_pay35
  generalize k0_pay30 g x w = q
  pointwise

theorem pay36_apply (z : FVec Ideal S512x2048 .f32) (r : Fin 512) (j : Fin 128) :
    k0_pay36 z (ix2 r j) = z (ix2 r ⟨512 + j.val, by omega⟩) := by
  unfold k0_pay36
  pointwise

theorem pay37_apply (z : FVec Ideal S512x2048 .f32) (r : Fin 512) (j : Fin 128) :
    k0_pay37 z (ix2 r j) = z (ix2 r ⟨640 + j.val, by omega⟩) := by
  unfold k0_pay37
  pointwise

theorem pay38_apply (z : FVec Ideal S512x2048 .f32) (r : Fin 512) (j : Fin 128) :
    k0_pay38 z (ix2 r j) = z (ix2 r ⟨768 + j.val, by omega⟩) := by
  unfold k0_pay38
  pointwise

theorem pay39_apply (z : FVec Ideal S512x2048 .f32) (r : Fin 512) (j : Fin 128) :
    k0_pay39 z (ix2 r j) = z (ix2 r ⟨896 + j.val, by omega⟩) := by
  unfold k0_pay39
  pointwise

theorem pay41_apply (z : FVec Ideal S512x2048 .f32) (j : Fin 128) (r : Fin 512) :
    k0_pay41 z (ix2 j r) = z (ix2 r ⟨1024 + j.val, by omega⟩) := by
  unfold k0_pay41
  pointwise

theorem pay42_apply (z : FVec Ideal S512x2048 .f32) (j : Fin 128) (r : Fin 512) :
    k0_pay42 z (ix2 j r) = z (ix2 r ⟨1152 + j.val, by omega⟩) := by
  unfold k0_pay42
  pointwise

theorem pay43_apply (z : FVec Ideal S512x2048 .f32) (j : Fin 128) (r : Fin 512) :
    k0_pay43 z (ix2 j r) = z (ix2 r ⟨1280 + j.val, by omega⟩) := by
  unfold k0_pay43
  pointwise

theorem pay44_apply (z : FVec Ideal S512x2048 .f32) (j : Fin 128) (r : Fin 512) :
    k0_pay44 z (ix2 j r) = z (ix2 r ⟨1408 + j.val, by omega⟩) := by
  unfold k0_pay44
  pointwise

theorem pay45_apply (z : FVec Ideal S512x2048 .f32) (j : Fin 128) (r : Fin 512) :
    k0_pay45 z (ix2 j r) = z (ix2 r ⟨1536 + j.val, by omega⟩) := by
  unfold k0_pay45
  pointwise

theorem pay46_apply (z : FVec Ideal S512x2048 .f32) (j : Fin 128) (r : Fin 512) :
    k0_pay46 z (ix2 j r) = z (ix2 r ⟨1664 + j.val, by omega⟩) := by
  unfold k0_pay46
  pointwise

theorem pay47_apply (z : FVec Ideal S512x2048 .f32) (j : Fin 128) (r : Fin 512) :
    k0_pay47 z (ix2 j r) = z (ix2 r ⟨1792 + j.val, by omega⟩) := by
  unfold k0_pay47
  pointwise

theorem pay1_apply (z : FVec Ideal S512x2048 .f32) (j : Fin 128) (r : Fin 512) :
    k0_pay1 z (ix2 j r) = z (ix2 r ⟨1920 + j.val, by omega⟩) := by
  unfold k0_pay1
  pointwise

theorem one_bits : Ideal.ofBits FTy.bf16 0x3F80#16 = 1 := by
  simp [Ideal.ofBits, Ideal.ieee, -EReal.coe_mul]; norm_num

end Cert.MlaIdeal.Val
end
-- ==== Proof.Mla.Body.lean ====
module

public import proofs.«01_k».proof.Proof.Mla.Apply
public import Idealize.ShloMosaic.Lib.Pipeline.ValueKit.Tiles

/-! The latent expansion's body: the three blocks it leaves at a grid point. -/

@[expose] public section

set_option maxRecDepth 65536
noncomputable section
namespace Cert.MlaIdeal.Val
open Cert.MlaIdeal Cert.MlaIdeal.Gen Cert.Common Idealize.ShloMosaic Idealize.ShloMosaic.TcCoe Idealize.SL.Sem

/-- A row of the queries, from its two products and its rotary factors. -/
def qv (z1 : Fin 2048 → EReal) (z2 : Fin 1024 → EReal) (cm sm : Fin 128 → EReal) (n : Fin 2048) : EReal :=
  if n.val % 256 < 128 then z1 n * scale
  else z1 n * (cm ⟨n.val % 256 - 128, by omega⟩ * scale) + z2 ⟨128 * (n.val / 256) + (n.val % 256 - 128), by omega⟩ * (sm ⟨n.val % 256 - 128, by omega⟩ * scale)

/-- A row of the keys, from its product, its two rotary inputs and its rotary factors. -/
def kv (z : Fin 2048 → EReal) (p q cm sm : Fin 128 → EReal) (n : Fin 2048) : EReal :=
  if n.val % 256 < 128 then z ⟨128 * (n.val / 256) + n.val % 256, by omega⟩
  else p ⟨n.val % 256 - 128, by omega⟩ * cm ⟨n.val % 256 - 128, by omega⟩ + q ⟨n.val % 256 - 128, by omega⟩ * sm ⟨n.val % 256 - 128, by omega⟩

/-- A column of the values, from its row's product. -/
def vv (z : Fin 2048 → EReal) (n : Fin 1152) : EReal :=
  if h : n.val % 144 < 128 then z ⟨1024 + 128 * (n.val / 144) + n.val % 144, by omega⟩ else 1

theorem qv_even (z1 : Fin 2048 → EReal) (z2 : Fin 1024 → EReal) (cm sm : Fin 128 → EReal) (o h : ℕ) (hh : h < 8) (ho : o = 256 * h) (j : Fin 128) :
    qv z1 z2 cm sm ⟨o + j.val, by omega⟩ = z1 ⟨o + j.val, by omega⟩ * scale := by
  unfold qv
  rw [if_pos (by simp only; omega)]

theorem qv_odd (z1 : Fin 2048 → EReal) (z2 : Fin 1024 → EReal) (cm sm : Fin 128 → EReal) (o p h : ℕ) (hh : h < 8) (ho : o = 256 * h + 128) (hp : p = 128 * h) (j : Fin 128) :
    qv z1 z2 cm sm ⟨o + j.val, by omega⟩ = z1 ⟨o + j.val, by omega⟩ * (cm j * scale) + z2 ⟨p + j.val, by omega⟩ * (sm j * scale) := by
  have e1 : ∀ h, (⟨(o + j.val) % 256 - 128, h⟩ : Fin 128) = j := fun _ => Fin.ext (by simp only; omega)
  have e2 : ∀ h, (⟨128 * ((o + j.val) / 256) + ((o + j.val) % 256 - 128), h⟩ : Fin 1024) = ⟨p + j.val, by omega⟩ := fun _ => Fin.ext (by simp only; omega)
  unfold qv
  rw [if_neg (by simp only; omega), e1, e2]

theorem kv_even (z : Fin 2048 → EReal) (p q cm sm : Fin 128 → EReal) (o a h : ℕ) (hh : h < 8) (ho : o = 256 * h) (ha : a = 128 * h) (j : Fin 128) :
    kv z p q cm sm ⟨o + j.val, by omega⟩ = z ⟨a + j.val, by omega⟩ := by
  unfold kv
  rw [if_pos (by simp only; omega)]
  exact congrArg z (Fin.ext (by simp only; omega))

theorem kv_odd (z : Fin 2048 → EReal) (p q cm sm : Fin 128 → EReal) (o h : ℕ) (hh : h < 8) (ho : o = 256 * h + 128) (j : Fin 128) :
    kv z p q cm sm ⟨o + j.val, by omega⟩ = p j * cm j + q j * sm j := by
  have e1 : ∀ h, (⟨(o + j.val) % 256 - 128, h⟩ : Fin 128) = j := fun _ => Fin.ext (by simp only; omega)
  unfold kv
  rw [if_neg (by simp only; omega), e1]

theorem vv_low (z : Fin 2048 → EReal) (o a h : ℕ) (hh : h < 8) (ho : o = 144 * h) (ha : a = 1024 + 128 * h) (j : Fin 128) :
    vv z ⟨o + j.val, by omega⟩ = z ⟨a + j.val, by omega⟩ := by
  unfold vv
  rw [dif_pos (by simp only; omega)]
  exact congrArg z (Fin.ext (by simp only; omega))

theorem vv_high (z : Fin 2048 → EReal) (o h : ℕ) (hh : h < 8) (ho : o = 144 * h + 128) (j : Fin 16) :
    vv z ⟨o + j.val, by omega⟩ = 1 := by
  unfold vv
  rw [dif_neg (by simp only; omega)]

/-- One store of the first two results, at an index of its rectangle. -/
theorem piece (G : Fin 512 → Fin 2048 → EReal) (o : ℕ) (ho : o + 128 ≤ 2048) (v : FVec Ideal S512x128 .bf16)
    (hv : ∀ (r : Fin 512) (j : Fin 128), v (ix2 r j) = G r ⟨o + j.val, by omega⟩) (i0) (z : S512x128.Idx) :
    v z = (fun y : S512x2048.Idx => G (y 0) (y 1)) ((Rect.unit (s := S512x2048) ![0, o] ![512, 128] i0).emb z) := by
  obtain ⟨r, n, rfl⟩ : ∃ (r : Fin 512) (n : Fin 128), z = ix2 r n := ⟨z 0, z 1, eq_ix2 z⟩
  have e1 : (Rect.unit (s := S512x2048) ![0, o] ![512, 128] i0).emb (ix2 r n) = ix2 r ⟨o + n.val, by omega⟩ :=
    funext fun a => by fin_cases a <;> exact Fin.ext (by simp)
  rw [e1]
  exact hv r n

/-- One store of the values, at an index of its rectangle. -/
theorem pieceV (G : Fin 512 → Fin 1152 → EReal) (o : ℕ) (ho : o + 128 ≤ 1152) (v : FVec Ideal S128x512 .bf16)
    (hv : ∀ (j : Fin 128) (r : Fin 512), v (ix2 j r) = G r ⟨o + j.val, by omega⟩) (i0) (z : S128x512.Idx) :
    v z = (fun y : S1152x512.Idx => G (y 1) (y 0)) ((Rect.unit (s := S1152x512) ![o, 0] ![128, 512] i0).emb z) := by
  obtain ⟨n, r, rfl⟩ : ∃ (n : Fin 128) (r : Fin 512), z = ix2 n r := ⟨z 0, z 1, eq_ix2 z⟩
  have e1 : (Rect.unit (s := S1152x512) ![o, 0] ![128, 512] i0).emb (ix2 n r) = ix2 ⟨o + n.val, by omega⟩ r :=
    funext fun a => by fin_cases a <;> exact Fin.ext (by simp)
  rw [e1]
  exact hv n r

/-- One store of ones among the values, at an index of its rectangle. -/
theorem pieceOne (G : Fin 512 → Fin 1152 → EReal) (o : ℕ) (ho : o + 16 ≤ 1152)
    (hv : ∀ (j : Fin 16) (r : Fin 512), 1 = G r ⟨o + j.val, by omega⟩) (i0) (z : S16x512.Idx) :
    k0_pay40 (F := Ideal) z = (fun y : S1152x512.Idx => G (y 1) (y 0)) ((Rect.unit (s := S1152x512) ![o, 0] ![16, 512] i0).emb z) := by
  obtain ⟨n, r, rfl⟩ : ∃ (n : Fin 16) (r : Fin 512), z = ix2 n r := ⟨z 0, z 1, eq_ix2 z⟩
  have e1 : (Rect.unit (s := S1152x512) ![o, 0] ![16, 512] i0).emb (ix2 n r) = ix2 ⟨o + n.val, by omega⟩ r :=
    funext fun a => by fin_cases a <;> exact Fin.ext (by simp)
  rw [e1]
  refine Eq.trans ?_ (hv n r)
  unfold k0_pay40
  exact one_bits

/-- A row of latents after the norm and a product. -/
def prod {N : ℕ} (x : S512x512.Idx → EReal) (g : S1x512.Idx → EReal) (w : Fin 512 → Fin N → EReal) (r : Fin 512) (n : Fin N) : EReal :=
  ∑ k : Fin 512, normed (fun k => x (ix2 r k)) (fun k => g (ix2 0 k)) k * w k n

/-- The rotary factors of a row. -/
def cosv (p : Vec Ideal S512x1 .i32) (v : S1x128.Idx → EReal) (r : Fin 512) : Fin 128 → EReal := lane Ideal.cos (real (p (ix2 r 0))) (fun j => v (ix2 0 j))
def sinv (p : Vec Ideal S512x1 .i32) (v : S1x128.Idx → EReal) (r : Fin 512) : Fin 128 → EReal := lane Ideal.sin (real (p (ix2 r 0))) (fun j => v (ix2 0 j))

/-- The three blocks at a row. -/
def qrow (x0 : S512x512.Idx → EReal) (x3 : Vec Ideal S512x1 .i32) (x4 : S1x128.Idx → EReal) (x5 : S1x512.Idx → EReal) (x7 : S512x2048.Idx → EReal) (x8 : S512x1024.Idx → EReal)
    (r : Fin 512) (n : Fin 2048) : EReal :=
  qv (prod x0 x5 (fun k n => x7 (ix2 k n)) r) (prod x0 x5 (fun k n => x8 (ix2 k n)) r) (cosv x3 x4 r) (sinv x3 x4 r) n

def krow (x1 x2 : S512x512.Idx → EReal) (x3 : Vec Ideal S512x1 .i32) (x4 : S1x128.Idx → EReal) (x6 : S1x512.Idx → EReal) (x9 : S512x2048.Idx → EReal)
    (r : Fin 512) (n : Fin 2048) : EReal :=
  kv (prod x1 x6 (fun k n => x9 (ix2 k n)) r) (fun j => x2 (ix2 r ⟨256 + j.val, by omega⟩)) (fun j => x2 (ix2 r ⟨384 + j.val, by omega⟩)) (cosv x3 x4 r) (sinv x3 x4 r) n

def vrow (x1 : S512x512.Idx → EReal) (x6 : S1x512.Idx → EReal) (x9 : S512x2048.Idx → EReal) (r : Fin 512) (n : Fin 1152) : EReal :=
  vv (prod x1 x6 (fun k n => x9 (ix2 k n)) r) n

/-- The two terms of a rotated query lane. -/
theorem congr_q (x0 : Vec Ideal S512x512 .f32) (x3 : Vec Ideal S512x1 .i32) (x4 : Vec Ideal S1x128 .f32) (x5 : Vec Ideal S1x512 .f32) (x7 : Vec Ideal S512x2048 .bf16) (x8 : Vec Ideal S512x1024 .bf16)
    (r : Fin 512) (n : Fin 2048) (a : Fin 1024) (j : Fin 128) :
    k0_pay7 x0 x5 x7 (ix2 r n) * (k0_pay4 x3 x4 (ix2 r j) * scale) + k0_pay9 (k0_pay6 x0 x5) (k0_pay8 x8) (constant S512x1024 .f32 0x00000000#32) (ix2 r a) * (k0_pay5 x3 x4 (ix2 r j) * scale)
      = prod x0 x5 (fun k n => x7 (ix2 k n)) r n * (cosv x3 x4 r j * scale) + prod x0 x5 (fun k n => x8 (ix2 k n)) r a * (sinv x3 x4 r j * scale) := by
  rw [z1_apply, z2_apply, cos_apply, sin_apply]
  rfl

theorem congr_q' (x0 : Vec Ideal S512x512 .f32) (x3 : Vec Ideal S512x1 .i32) (x4 : Vec Ideal S1x128 .f32) (x5 : Vec Ideal S1x512 .f32) (x7 : Vec Ideal S512x2048 .bf16) (x8 : Vec Ideal S512x1024 .bf16)
    (r : Fin 512) (n : Fin 2048) (a : Fin 1024) (j : Fin 128) :
    k0_pay7 x0 x5 x7 (ix2 r n) * k0_pay10 (k0_pay4 x3 x4) (ix2 r j) + k0_pay9 (k0_pay6 x0 x5) (k0_pay8 x8) (constant S512x1024 .f32 0x00000000#32) (ix2 r a) * k0_pay11 (k0_pay5 x3 x4) (ix2 r j)
      = prod x0 x5 (fun k n => x7 (ix2 k n)) r n * (cosv x3 x4 r j * scale) + prod x0 x5 (fun k n => x8 (ix2 k n)) r a * (sinv x3 x4 r j * scale) := by
  rw [cosS_apply, sinS_apply]
  exact congr_q x0 x3 x4 x5 x7 x8 r n a j

/-- The two terms of a rotated key lane. -/
theorem congr_k (x2 : Vec Ideal S512x512 .f32) (x3 : Vec Ideal S512x1 .i32) (x4 : Vec Ideal S1x128 .f32) (r : Fin 512) (j : Fin 128) :
    k0_pay31 (k0_pay4 x3 x4) (k0_pay5 x3 x4) (View.ld (Val := Elt Ideal) x2 (Rect.unit (s := S512x512) ![0, 256] S512x128.size inb_S512x512_S512x128_0_256)) (View.ld (Val := Elt Ideal) x2 (Rect.unit (s := S512x512) ![0, 384] S512x128.size inb_S512x512_S512x128_0_384)) (ix2 r j)
      = x2 (ix2 r ⟨256 + j.val, by omega⟩) * cosv x3 x4 r j + x2 (ix2 r ⟨384 + j.val, by omega⟩) * sinv x3 x4 r j := by
  refine (kpe_apply _ _ _ _ r j).trans ?_
  have h1 : View.ld (Val := Elt Ideal) x2 (Rect.unit (s := S512x512) ![0, 256] S512x128.size inb_S512x512_S512x128_0_256) (ix2 r j) = x2 (ix2 r ⟨256 + j.val, by omega⟩) :=
    View.ld_unit_apply_of x2 _ _ _ (ix2 r j) _ (fun a => by fin_cases a <;> simp)
  have h2 : View.ld (Val := Elt Ideal) x2 (Rect.unit (s := S512x512) ![0, 384] S512x128.size inb_S512x512_S512x128_0_384) (ix2 r j) = x2 (ix2 r ⟨384 + j.val, by omega⟩) :=
    View.ld_unit_apply_of x2 _ _ _ (ix2 r j) _ (fun a => by fin_cases a <;> simp)
  rw [cos_apply, sin_apply]
  exact congrArg₂ (fun a b : EReal => a + b) (congrArg (fun a : EReal => a * cosv x3 x4 r j) h1) (congrArg (fun a : EReal => a * sinv x3 x4 r j) h2)

/-- The block of queries, at an index. -/
theorem out_q (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S512x2048 .bf16) (harg10 : arg10.IsWhole) (arg11 : Memref sig .tc .vmem S512x2048 .bf16) (harg11 : arg11.IsWhole) (arg12 : Memref sig .tc .vmem S512x2048 .bf16) (harg12 : arg12.IsWhole) (arg13 : Memref sig .tc .vmem S1152x512 .bf16) (harg13 : arg13.IsWhole)
    (x0 : Vec Ideal S512x512 .f32) (x1 : Vec Ideal S512x512 .f32) (x2 : Vec Ideal S512x512 .f32) (x3 : Vec Ideal S512x1 .i32) (x4 : Vec Ideal S1x128 .f32) (x5 : Vec Ideal S1x512 .f32) (x6 : Vec Ideal S1x512 .f32) (x7 : Vec Ideal S512x2048 .bf16) (x8 : Vec Ideal S512x1024 .bf16) (x9 : Vec Ideal S512x2048 .bf16) (r : Fin 512) (n : Fin 2048) :
    out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 (ix2 r n) = qrow x0 x3 x4 x5 x7 x8 r n := by
  have hc := cover0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9
  unfold out0_A_10
  rw [View.read_writes_eq_canon _ _ _ hc]
  refine View.canon_apply_of_pieces (fun y : S512x2048.Idx => qrow x0 x3 x4 x5 x7 x8 (y 0) (y 1)) _ ?_ ((ix2 r n)) (hc ((ix2 r n)))
  unfold kernelRun0_A
  dsimp only
  have l0 : View.ld (Val := Elt Ideal) x0 (Rect.unit (s := S512x512) ![0, 0] S512x512.size inb_S512x512_S512x512_0_0) = x0 := View.ld_unit_zero (by decide) _ x0
  have l1 : View.ld (Val := Elt Ideal) x1 (Rect.unit (s := S512x512) ![0, 0] S512x512.size inb_S512x512_S512x512_0_0) = x1 := View.ld_unit_zero (by decide) _ x1
  have l3 : View.ld (Val := Elt Ideal) x3 (Rect.unit (s := S512x1) ![0, 0] S512x1.size inb_S512x1_S512x1_0_0) = x3 := View.ld_unit_zero (by decide) _ x3
  have l4 : View.ld (Val := Elt Ideal) x4 (Rect.unit (s := S1x128) ![0, 0] S1x128.size inb_S1x128_S1x128_0_0) = x4 := View.ld_unit_zero (by decide) _ x4
  have l5 : View.ld (Val := Elt Ideal) x5 (Rect.unit (s := S1x512) ![0, 0] S1x512.size inb_S1x512_S1x512_0_0) = x5 := View.ld_unit_zero (by decide) _ x5
  have l6 : View.ld (Val := Elt Ideal) x6 (Rect.unit (s := S1x512) ![0, 0] S1x512.size inb_S1x512_S1x512_0_0) = x6 := View.ld_unit_zero (by decide) _ x6
  have l7 : View.ld (Val := Elt Ideal) x7 (Rect.unit (s := S512x2048) ![0, 0] S512x2048.size inb_S512x2048_S512x2048_0_0) = x7 := View.ld_unit_zero (by decide) _ x7
  have l8 : View.ld (Val := Elt Ideal) x8 (Rect.unit (s := S512x1024) ![0, 0] S512x1024.size inb_S512x1024_S512x1024_0_0) = x8 := View.ld_unit_zero (by decide) _ x8
  have l9 : View.ld (Val := Elt Ideal) x9 (Rect.unit (s := S512x2048) ![0, 0] S512x2048.size inb_S512x2048_S512x2048_0_0) = x9 := View.ld_unit_zero (by decide) _ x9
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.cst_16, View.readAt_eq_ld, harg1.read_unread, harg2.read_unread, harg3.read_unread, harg4.read_unread, harg5.read_unread, harg6.read_unread, harg7.read_unread, harg8.read_unread, harg9.read_unread, harg10.read_unread, l0, l1, l3, l4, l5, l6, l7, l8, l9]
  clear hc
  intro p hp
  simp only [List.mem_cons, List.not_mem_nil, or_false] at hp
  rcases hp with rfl | rfl | rfl | rfl | rfl | rfl | rfl | rfl | rfl | rfl | rfl | rfl | rfl | rfl | rfl | rfl
  · exact piece (qrow x0 x3 x4 x5 x7 x8) 1920 (by norm_num) _ (fun r j => (pay27_apply _ _ _ _ r j).trans ((congr_q' x0 x3 x4 x5 x7 x8 r _ _ j).trans (qv_odd (prod x0 x5 (fun k n => x7 (ix2 k n)) r) (prod x0 x5 (fun k n => x8 (ix2 k n)) r) (cosv x3 x4 r) (sinv x3 x4 r) 1920 896 7 (by norm_num) rfl rfl j).symm)) inb_S512x2048_S512x128_0_1920
  · exact piece (qrow x0 x3 x4 x5 x7 x8) 1792 (by norm_num) _ (fun r j => (pay26_apply _ r j).trans ((congrArg (· * scale) (z1_apply x0 x5 x7 r _)).trans (qv_even (prod x0 x5 (fun k n => x7 (ix2 k n)) r) (prod x0 x5 (fun k n => x8 (ix2 k n)) r) (cosv x3 x4 r) (sinv x3 x4 r) 1792 7 (by norm_num) rfl j).symm)) inb_S512x2048_S512x128_0_1792
  · exact piece (qrow x0 x3 x4 x5 x7 x8) 1664 (by norm_num) _ (fun r j => (pay25_apply _ _ _ _ r j).trans ((congr_q' x0 x3 x4 x5 x7 x8 r _ _ j).trans (qv_odd (prod x0 x5 (fun k n => x7 (ix2 k n)) r) (prod x0 x5 (fun k n => x8 (ix2 k n)) r) (cosv x3 x4 r) (sinv x3 x4 r) 1664 768 6 (by norm_num) rfl rfl j).symm)) inb_S512x2048_S512x128_0_1664
  · exact piece (qrow x0 x3 x4 x5 x7 x8) 1536 (by norm_num) _ (fun r j => (pay24_apply _ r j).trans ((congrArg (· * scale) (z1_apply x0 x5 x7 r _)).trans (qv_even (prod x0 x5 (fun k n => x7 (ix2 k n)) r) (prod x0 x5 (fun k n => x8 (ix2 k n)) r) (cosv x3 x4 r) (sinv x3 x4 r) 1536 6 (by norm_num) rfl j).symm)) inb_S512x2048_S512x128_0_1536
  · exact piece (qrow x0 x3 x4 x5 x7 x8) 1408 (by norm_num) _ (fun r j => (pay23_apply _ _ _ _ r j).trans ((congr_q' x0 x3 x4 x5 x7 x8 r _ _ j).trans (qv_odd (prod x0 x5 (fun k n => x7 (ix2 k n)) r) (prod x0 x5 (fun k n => x8 (ix2 k n)) r) (cosv x3 x4 r) (sinv x3 x4 r) 1408 640 5 (by norm_num) rfl rfl j).symm)) inb_S512x2048_S512x128_0_1408
  · exact piece (qrow x0 x3 x4 x5 x7 x8) 1280 (by norm_num) _ (fun r j => (pay22_apply _ r j).trans ((congrArg (· * scale) (z1_apply x0 x5 x7 r _)).trans (qv_even (prod x0 x5 (fun k n => x7 (ix2 k n)) r) (prod x0 x5 (fun k n => x8 (ix2 k n)) r) (cosv x3 x4 r) (sinv x3 x4 r) 1280 5 (by norm_num) rfl j).symm)) inb_S512x2048_S512x128_0_1280
  · exact piece (qrow x0 x3 x4 x5 x7 x8) 1152 (by norm_num) _ (fun r j => (pay21_apply _ _ _ _ r j).trans ((congr_q' x0 x3 x4 x5 x7 x8 r _ _ j).trans (qv_odd (prod x0 x5 (fun k n => x7 (ix2 k n)) r) (prod x0 x5 (fun k n => x8 (ix2 k n)) r) (cosv x3 x4 r) (sinv x3 x4 r) 1152 512 4 (by norm_num) rfl rfl j).symm)) inb_S512x2048_S512x128_0_1152
  · exact piece (qrow x0 x3 x4 x5 x7 x8) 1024 (by norm_num) _ (fun r j => (pay20_apply _ r j).trans ((congrArg (· * scale) (z1_apply x0 x5 x7 r _)).trans (qv_even (prod x0 x5 (fun k n => x7 (ix2 k n)) r) (prod x0 x5 (fun k n => x8 (ix2 k n)) r) (cosv x3 x4 r) (sinv x3 x4 r) 1024 4 (by norm_num) rfl j).symm)) inb_S512x2048_S512x128_0_1024
  · exact piece (qrow x0 x3 x4 x5 x7 x8) 896 (by norm_num) _ (fun r j => (pay19_apply _ _ _ _ r j).trans ((congr_q' x0 x3 x4 x5 x7 x8 r _ _ j).trans (qv_odd (prod x0 x5 (fun k n => x7 (ix2 k n)) r) (prod x0 x5 (fun k n => x8 (ix2 k n)) r) (cosv x3 x4 r) (sinv x3 x4 r) 896 384 3 (by norm_num) rfl rfl j).symm)) inb_S512x2048_S512x128_0_896
  · exact piece (qrow x0 x3 x4 x5 x7 x8) 768 (by norm_num) _ (fun r j => (pay18_apply _ r j).trans ((congrArg (· * scale) (z1_apply x0 x5 x7 r _)).trans (qv_even (prod x0 x5 (fun k n => x7 (ix2 k n)) r) (prod x0 x5 (fun k n => x8 (ix2 k n)) r) (cosv x3 x4 r) (sinv x3 x4 r) 768 3 (by norm_num) rfl j).symm)) inb_S512x2048_S512x128_0_768
  · exact piece (qrow x0 x3 x4 x5 x7 x8) 640 (by norm_num) _ (fun r j => (pay17_apply _ _ _ _ _ _ r j).trans ((congr_q x0 x3 x4 x5 x7 x8 r _ _ j).trans (qv_odd (prod x0 x5 (fun k n => x7 (ix2 k n)) r) (prod x0 x5 (fun k n => x8 (ix2 k n)) r) (cosv x3 x4 r) (sinv x3 x4 r) 640 256 2 (by norm_num) rfl rfl j).symm)) inb_S512x2048_S512x128_0_640
  · exact piece (qrow x0 x3 x4 x5 x7 x8) 512 (by norm_num) _ (fun r j => (pay16_apply _ r j).trans ((congrArg (· * scale) (z1_apply x0 x5 x7 r _)).trans (qv_even (prod x0 x5 (fun k n => x7 (ix2 k n)) r) (prod x0 x5 (fun k n => x8 (ix2 k n)) r) (cosv x3 x4 r) (sinv x3 x4 r) 512 2 (by norm_num) rfl j).symm)) inb_S512x2048_S512x128_0_512
  · exact piece (qrow x0 x3 x4 x5 x7 x8) 384 (by norm_num) _ (fun r j => (pay15_apply _ _ _ _ _ _ r j).trans ((congr_q x0 x3 x4 x5 x7 x8 r _ _ j).trans (qv_odd (prod x0 x5 (fun k n => x7 (ix2 k n)) r) (prod x0 x5 (fun k n => x8 (ix2 k n)) r) (cosv x3 x4 r) (sinv x3 x4 r) 384 128 1 (by norm_num) rfl rfl j).symm)) inb_S512x2048_S512x128_0_384
  · exact piece (qrow x0 x3 x4 x5 x7 x8) 256 (by norm_num) _ (fun r j => (pay14_apply _ r j).trans ((congrArg (· * scale) (z1_apply x0 x5 x7 r _)).trans (qv_even (prod x0 x5 (fun k n => x7 (ix2 k n)) r) (prod x0 x5 (fun k n => x8 (ix2 k n)) r) (cosv x3 x4 r) (sinv x3 x4 r) 256 1 (by norm_num) rfl j).symm)) inb_S512x2048_S512x128_0_256
  · exact piece (qrow x0 x3 x4 x5 x7 x8) 128 (by norm_num) _ (fun r j => (pay13_apply _ _ _ _ _ _ r j).trans ((congr_q x0 x3 x4 x5 x7 x8 r _ _ j).trans (qv_odd (prod x0 x5 (fun k n => x7 (ix2 k n)) r) (prod x0 x5 (fun k n => x8 (ix2 k n)) r) (cosv x3 x4 r) (sinv x3 x4 r) 128 0 0 (by norm_num) rfl rfl j).symm)) inb_S512x2048_S512x128_0_128
  · exact piece (qrow x0 x3 x4 x5 x7 x8) 0 (by norm_num) _ (fun r j => (pay12_apply _ r j).trans ((congrArg (· * scale) (z1_apply x0 x5 x7 r _)).trans (qv_even (prod x0 x5 (fun k n => x7 (ix2 k n)) r) (prod x0 x5 (fun k n => x8 (ix2 k n)) r) (cosv x3 x4 r) (sinv x3 x4 r) 0 0 (by norm_num) rfl j).symm)) inb_S512x2048_S512x128_0_0

/-- The block of keys, at an index. -/
theorem out_k (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S512x2048 .bf16) (harg10 : arg10.IsWhole) (arg11 : Memref sig .tc .vmem S512x2048 .bf16) (harg11 : arg11.IsWhole) (arg12 : Memref sig .tc .vmem S512x2048 .bf16) (harg12 : arg12.IsWhole) (arg13 : Memref sig .tc .vmem S1152x512 .bf16) (harg13 : arg13.IsWhole)
    (x0 : Vec Ideal S512x512 .f32) (x1 : Vec Ideal S512x512 .f32) (x2 : Vec Ideal S512x512 .f32) (x3 : Vec Ideal S512x1 .i32) (x4 : Vec Ideal S1x128 .f32) (x5 : Vec Ideal S1x512 .f32) (x6 : Vec Ideal S1x512 .f32) (x7 : Vec Ideal S512x2048 .bf16) (x8 : Vec Ideal S512x1024 .bf16) (x9 : Vec Ideal S512x2048 .bf16) (r : Fin 512) (n : Fin 2048) :
    out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 (ix2 r n) = krow x1 x2 x3 x4 x6 x9 r n := by
  have hc := cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9
  unfold out0_A_11
  rw [View.read_writes_eq_canon _ _ _ hc]
  refine View.canon_apply_of_pieces (fun y : S512x2048.Idx => krow x1 x2 x3 x4 x6 x9 (y 0) (y 1)) _ ?_ ((ix2 r n)) (hc ((ix2 r n)))
  unfold kernelRun0_A
  dsimp only
  have l0 : View.ld (Val := Elt Ideal) x0 (Rect.unit (s := S512x512) ![0, 0] S512x512.size inb_S512x512_S512x512_0_0) = x0 := View.ld_unit_zero (by decide) _ x0
  have l1 : View.ld (Val := Elt Ideal) x1 (Rect.unit (s := S512x512) ![0, 0] S512x512.size inb_S512x512_S512x512_0_0) = x1 := View.ld_unit_zero (by decide) _ x1
  have l3 : View.ld (Val := Elt Ideal) x3 (Rect.unit (s := S512x1) ![0, 0] S512x1.size inb_S512x1_S512x1_0_0) = x3 := View.ld_unit_zero (by decide) _ x3
  have l4 : View.ld (Val := Elt Ideal) x4 (Rect.unit (s := S1x128) ![0, 0] S1x128.size inb_S1x128_S1x128_0_0) = x4 := View.ld_unit_zero (by decide) _ x4
  have l5 : View.ld (Val := Elt Ideal) x5 (Rect.unit (s := S1x512) ![0, 0] S1x512.size inb_S1x512_S1x512_0_0) = x5 := View.ld_unit_zero (by decide) _ x5
  have l6 : View.ld (Val := Elt Ideal) x6 (Rect.unit (s := S1x512) ![0, 0] S1x512.size inb_S1x512_S1x512_0_0) = x6 := View.ld_unit_zero (by decide) _ x6
  have l7 : View.ld (Val := Elt Ideal) x7 (Rect.unit (s := S512x2048) ![0, 0] S512x2048.size inb_S512x2048_S512x2048_0_0) = x7 := View.ld_unit_zero (by decide) _ x7
  have l8 : View.ld (Val := Elt Ideal) x8 (Rect.unit (s := S512x1024) ![0, 0] S512x1024.size inb_S512x1024_S512x1024_0_0) = x8 := View.ld_unit_zero (by decide) _ x8
  have l9 : View.ld (Val := Elt Ideal) x9 (Rect.unit (s := S512x2048) ![0, 0] S512x2048.size inb_S512x2048_S512x2048_0_0) = x9 := View.ld_unit_zero (by decide) _ x9
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.cst_16, View.readAt_eq_ld, harg1.read_unread, harg2.read_unread, harg3.read_unread, harg4.read_unread, harg5.read_unread, harg6.read_unread, harg7.read_unread, harg8.read_unread, harg9.read_unread, harg10.read_unread, l0, l1, l3, l4, l5, l6, l7, l8, l9]
  clear hc
  intro p hp
  simp only [List.mem_cons, List.not_mem_nil, or_false] at hp
  rcases hp with rfl | rfl | rfl | rfl | rfl | rfl | rfl | rfl | rfl | rfl | rfl | rfl | rfl | rfl | rfl | rfl
  · exact piece (krow x1 x2 x3 x4 x6 x9) 1920 (by norm_num) _ (fun r j => (congr_k x2 x3 x4 r j).trans (kv_odd (prod x1 x6 (fun k n => x9 (ix2 k n)) r) (fun j => x2 (ix2 r ⟨256 + j.val, by omega⟩)) (fun j => x2 (ix2 r ⟨384 + j.val, by omega⟩)) (cosv x3 x4 r) (sinv x3 x4 r) 1920 7 (by norm_num) rfl j).symm) inb_S512x2048_S512x128_0_1920
  · exact piece (krow x1 x2 x3 x4 x6 x9) 1792 (by norm_num) _ (fun r j => (pay39_apply _ r j).trans ((z_apply x1 x6 x9 r _).trans (kv_even (prod x1 x6 (fun k n => x9 (ix2 k n)) r) (fun j => x2 (ix2 r ⟨256 + j.val, by omega⟩)) (fun j => x2 (ix2 r ⟨384 + j.val, by omega⟩)) (cosv x3 x4 r) (sinv x3 x4 r) 1792 896 7 (by norm_num) rfl rfl j).symm)) inb_S512x2048_S512x128_0_1792
  · exact piece (krow x1 x2 x3 x4 x6 x9) 1664 (by norm_num) _ (fun r j => (congr_k x2 x3 x4 r j).trans (kv_odd (prod x1 x6 (fun k n => x9 (ix2 k n)) r) (fun j => x2 (ix2 r ⟨256 + j.val, by omega⟩)) (fun j => x2 (ix2 r ⟨384 + j.val, by omega⟩)) (cosv x3 x4 r) (sinv x3 x4 r) 1664 6 (by norm_num) rfl j).symm) inb_S512x2048_S512x128_0_1664
  · exact piece (krow x1 x2 x3 x4 x6 x9) 1536 (by norm_num) _ (fun r j => (pay38_apply _ r j).trans ((z_apply x1 x6 x9 r _).trans (kv_even (prod x1 x6 (fun k n => x9 (ix2 k n)) r) (fun j => x2 (ix2 r ⟨256 + j.val, by omega⟩)) (fun j => x2 (ix2 r ⟨384 + j.val, by omega⟩)) (cosv x3 x4 r) (sinv x3 x4 r) 1536 768 6 (by norm_num) rfl rfl j).symm)) inb_S512x2048_S512x128_0_1536
  · exact piece (krow x1 x2 x3 x4 x6 x9) 1408 (by norm_num) _ (fun r j => (congr_k x2 x3 x4 r j).trans (kv_odd (prod x1 x6 (fun k n => x9 (ix2 k n)) r) (fun j => x2 (ix2 r ⟨256 + j.val, by omega⟩)) (fun j => x2 (ix2 r ⟨384 + j.val, by omega⟩)) (cosv x3 x4 r) (sinv x3 x4 r) 1408 5 (by norm_num) rfl j).symm) inb_S512x2048_S512x128_0_1408
  · exact piece (krow x1 x2 x3 x4 x6 x9) 1280 (by norm_num) _ (fun r j => (pay37_apply _ r j).trans ((z_apply x1 x6 x9 r _).trans (kv_even (prod x1 x6 (fun k n => x9 (ix2 k n)) r) (fun j => x2 (ix2 r ⟨256 + j.val, by omega⟩)) (fun j => x2 (ix2 r ⟨384 + j.val, by omega⟩)) (cosv x3 x4 r) (sinv x3 x4 r) 1280 640 5 (by norm_num) rfl rfl j).symm)) inb_S512x2048_S512x128_0_1280
  · exact piece (krow x1 x2 x3 x4 x6 x9) 1152 (by norm_num) _ (fun r j => (congr_k x2 x3 x4 r j).trans (kv_odd (prod x1 x6 (fun k n => x9 (ix2 k n)) r) (fun j => x2 (ix2 r ⟨256 + j.val, by omega⟩)) (fun j => x2 (ix2 r ⟨384 + j.val, by omega⟩)) (cosv x3 x4 r) (sinv x3 x4 r) 1152 4 (by norm_num) rfl j).symm) inb_S512x2048_S512x128_0_1152
  · exact piece (krow x1 x2 x3 x4 x6 x9) 1024 (by norm_num) _ (fun r j => (pay36_apply _ r j).trans ((z_apply x1 x6 x9 r _).trans (kv_even (prod x1 x6 (fun k n => x9 (ix2 k n)) r) (fun j => x2 (ix2 r ⟨256 + j.val, by omega⟩)) (fun j => x2 (ix2 r ⟨384 + j.val, by omega⟩)) (cosv x3 x4 r) (sinv x3 x4 r) 1024 512 4 (by norm_num) rfl rfl j).symm)) inb_S512x2048_S512x128_0_1024
  · exact piece (krow x1 x2 x3 x4 x6 x9) 896 (by norm_num) _ (fun r j => (congr_k x2 x3 x4 r j).trans (kv_odd (prod x1 x6 (fun k n => x9 (ix2 k n)) r) (fun j => x2 (ix2 r ⟨256 + j.val, by omega⟩)) (fun j => x2 (ix2 r ⟨384 + j.val, by omega⟩)) (cosv x3 x4 r) (sinv x3 x4 r) 896 3 (by norm_num) rfl j).symm) inb_S512x2048_S512x128_0_896
  · exact piece (krow x1 x2 x3 x4 x6 x9) 768 (by norm_num) _ (fun r j => (pay35_apply _ _ _ r j).trans ((z_apply x1 x6 x9 r _).trans (kv_even (prod x1 x6 (fun k n => x9 (ix2 k n)) r) (fun j => x2 (ix2 r ⟨256 + j.val, by omega⟩)) (fun j => x2 (ix2 r ⟨384 + j.val, by omega⟩)) (cosv x3 x4 r) (sinv x3 x4 r) 768 384 3 (by norm_num) rfl rfl j).symm)) inb_S512x2048_S512x128_0_768
  · exact piece (krow x1 x2 x3 x4 x6 x9) 640 (by norm_num) _ (fun r j => (congr_k x2 x3 x4 r j).trans (kv_odd (prod x1 x6 (fun k n => x9 (ix2 k n)) r) (fun j => x2 (ix2 r ⟨256 + j.val, by omega⟩)) (fun j => x2 (ix2 r ⟨384 + j.val, by omega⟩)) (cosv x3 x4 r) (sinv x3 x4 r) 640 2 (by norm_num) rfl j).symm) inb_S512x2048_S512x128_0_640
  · exact piece (krow x1 x2 x3 x4 x6 x9) 512 (by norm_num) _ (fun r j => (pay34_apply _ _ _ r j).trans ((z_apply x1 x6 x9 r _).trans (kv_even (prod x1 x6 (fun k n => x9 (ix2 k n)) r) (fun j => x2 (ix2 r ⟨256 + j.val, by omega⟩)) (fun j => x2 (ix2 r ⟨384 + j.val, by omega⟩)) (cosv x3 x4 r) (sinv x3 x4 r) 512 256 2 (by norm_num) rfl rfl j).symm)) inb_S512x2048_S512x128_0_512
  · exact piece (krow x1 x2 x3 x4 x6 x9) 384 (by norm_num) _ (fun r j => (congr_k x2 x3 x4 r j).trans (kv_odd (prod x1 x6 (fun k n => x9 (ix2 k n)) r) (fun j => x2 (ix2 r ⟨256 + j.val, by omega⟩)) (fun j => x2 (ix2 r ⟨384 + j.val, by omega⟩)) (cosv x3 x4 r) (sinv x3 x4 r) 384 1 (by norm_num) rfl j).symm) inb_S512x2048_S512x128_0_384
  · exact piece (krow x1 x2 x3 x4 x6 x9) 256 (by norm_num) _ (fun r j => (pay33_apply _ _ _ r j).trans ((z_apply x1 x6 x9 r _).trans (kv_even (prod x1 x6 (fun k n => x9 (ix2 k n)) r) (fun j => x2 (ix2 r ⟨256 + j.val, by omega⟩)) (fun j => x2 (ix2 r ⟨384 + j.val, by omega⟩)) (cosv x3 x4 r) (sinv x3 x4 r) 256 128 1 (by norm_num) rfl rfl j).symm)) inb_S512x2048_S512x128_0_256
  · exact piece (krow x1 x2 x3 x4 x6 x9) 128 (by norm_num) _ (fun r j => (congr_k x2 x3 x4 r j).trans (kv_odd (prod x1 x6 (fun k n => x9 (ix2 k n)) r) (fun j => x2 (ix2 r ⟨256 + j.val, by omega⟩)) (fun j => x2 (ix2 r ⟨384 + j.val, by omega⟩)) (cosv x3 x4 r) (sinv x3 x4 r) 128 0 (by norm_num) rfl j).symm) inb_S512x2048_S512x128_0_128
  · exact piece (krow x1 x2 x3 x4 x6 x9) 0 (by norm_num) _ (fun r j => (pay32_apply _ _ _ r j).trans ((z_apply x1 x6 x9 r _).trans (kv_even (prod x1 x6 (fun k n => x9 (ix2 k n)) r) (fun j => x2 (ix2 r ⟨256 + j.val, by omega⟩)) (fun j => x2 (ix2 r ⟨384 + j.val, by omega⟩)) (cosv x3 x4 r) (sinv x3 x4 r) 0 0 0 (by norm_num) rfl rfl j).symm)) inb_S512x2048_S512x128_0_0

/-- The block of values, at an index. -/
theorem out_v (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S512x2048 .bf16) (harg10 : arg10.IsWhole) (arg11 : Memref sig .tc .vmem S512x2048 .bf16) (harg11 : arg11.IsWhole) (arg12 : Memref sig .tc .vmem S512x2048 .bf16) (harg12 : arg12.IsWhole) (arg13 : Memref sig .tc .vmem S1152x512 .bf16) (harg13 : arg13.IsWhole)
    (x0 : Vec Ideal S512x512 .f32) (x1 : Vec Ideal S512x512 .f32) (x2 : Vec Ideal S512x512 .f32) (x3 : Vec Ideal S512x1 .i32) (x4 : Vec Ideal S1x128 .f32) (x5 : Vec Ideal S1x512 .f32) (x6 : Vec Ideal S1x512 .f32) (x7 : Vec Ideal S512x2048 .bf16) (x8 : Vec Ideal S512x1024 .bf16) (x9 : Vec Ideal S512x2048 .bf16) (r : Fin 512) (n : Fin 1152) :
    out0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 (ix2 n r) = vrow x1 x6 x9 r n := by
  have hc := cover0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9
  unfold out0_A_12
  rw [View.read_writes_eq_canon _ _ _ hc]
  refine View.canon_apply_of_pieces (fun y : S1152x512.Idx => vrow x1 x6 x9 (y 1) (y 0)) _ ?_ ((ix2 n r)) (hc ((ix2 n r)))
  unfold kernelRun0_A
  dsimp only
  have l0 : View.ld (Val := Elt Ideal) x0 (Rect.unit (s := S512x512) ![0, 0] S512x512.size inb_S512x512_S512x512_0_0) = x0 := View.ld_unit_zero (by decide) _ x0
  have l1 : View.ld (Val := Elt Ideal) x1 (Rect.unit (s := S512x512) ![0, 0] S512x512.size inb_S512x512_S512x512_0_0) = x1 := View.ld_unit_zero (by decide) _ x1
  have l3 : View.ld (Val := Elt Ideal) x3 (Rect.unit (s := S512x1) ![0, 0] S512x1.size inb_S512x1_S512x1_0_0) = x3 := View.ld_unit_zero (by decide) _ x3
  have l4 : View.ld (Val := Elt Ideal) x4 (Rect.unit (s := S1x128) ![0, 0] S1x128.size inb_S1x128_S1x128_0_0) = x4 := View.ld_unit_zero (by decide) _ x4
  have l5 : View.ld (Val := Elt Ideal) x5 (Rect.unit (s := S1x512) ![0, 0] S1x512.size inb_S1x512_S1x512_0_0) = x5 := View.ld_unit_zero (by decide) _ x5
  have l6 : View.ld (Val := Elt Ideal) x6 (Rect.unit (s := S1x512) ![0, 0] S1x512.size inb_S1x512_S1x512_0_0) = x6 := View.ld_unit_zero (by decide) _ x6
  have l7 : View.ld (Val := Elt Ideal) x7 (Rect.unit (s := S512x2048) ![0, 0] S512x2048.size inb_S512x2048_S512x2048_0_0) = x7 := View.ld_unit_zero (by decide) _ x7
  have l8 : View.ld (Val := Elt Ideal) x8 (Rect.unit (s := S512x1024) ![0, 0] S512x1024.size inb_S512x1024_S512x1024_0_0) = x8 := View.ld_unit_zero (by decide) _ x8
  have l9 : View.ld (Val := Elt Ideal) x9 (Rect.unit (s := S512x2048) ![0, 0] S512x2048.size inb_S512x2048_S512x2048_0_0) = x9 := View.ld_unit_zero (by decide) _ x9
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.cst_16, View.readAt_eq_ld, harg1.read_unread, harg2.read_unread, harg3.read_unread, harg4.read_unread, harg5.read_unread, harg6.read_unread, harg7.read_unread, harg8.read_unread, harg9.read_unread, harg10.read_unread, l0, l1, l3, l4, l5, l6, l7, l8, l9]
  clear hc
  intro p hp
  simp only [List.mem_cons, List.not_mem_nil, or_false] at hp
  rcases hp with rfl | rfl | rfl | rfl | rfl | rfl | rfl | rfl | rfl | rfl | rfl | rfl | rfl | rfl | rfl | rfl
  · exact pieceOne (vrow x1 x6 x9) 1136 (by norm_num) (fun j r => (vv_high (prod x1 x6 (fun k n => x9 (ix2 k n)) r) 1136 7 (by norm_num) rfl j).symm) inb_S1152x512_S16x512_1136_0
  · exact pieceV (vrow x1 x6 x9) 1008 (by norm_num) _ (fun j r => (pay1_apply _ j r).trans ((z_apply x1 x6 x9 r _).trans (vv_low (prod x1 x6 (fun k n => x9 (ix2 k n)) r) 1008 1920 7 (by norm_num) rfl rfl j).symm)) inb_S1152x512_S128x512_1008_0
  · exact pieceOne (vrow x1 x6 x9) 992 (by norm_num) (fun j r => (vv_high (prod x1 x6 (fun k n => x9 (ix2 k n)) r) 992 6 (by norm_num) rfl j).symm) inb_S1152x512_S16x512_992_0
  · exact pieceV (vrow x1 x6 x9) 864 (by norm_num) _ (fun j r => (pay47_apply _ j r).trans ((z_apply x1 x6 x9 r _).trans (vv_low (prod x1 x6 (fun k n => x9 (ix2 k n)) r) 864 1792 6 (by norm_num) rfl rfl j).symm)) inb_S1152x512_S128x512_864_0
  · exact pieceOne (vrow x1 x6 x9) 848 (by norm_num) (fun j r => (vv_high (prod x1 x6 (fun k n => x9 (ix2 k n)) r) 848 5 (by norm_num) rfl j).symm) inb_S1152x512_S16x512_848_0
  · exact pieceV (vrow x1 x6 x9) 720 (by norm_num) _ (fun j r => (pay46_apply _ j r).trans ((z_apply x1 x6 x9 r _).trans (vv_low (prod x1 x6 (fun k n => x9 (ix2 k n)) r) 720 1664 5 (by norm_num) rfl rfl j).symm)) inb_S1152x512_S128x512_720_0
  · exact pieceOne (vrow x1 x6 x9) 704 (by norm_num) (fun j r => (vv_high (prod x1 x6 (fun k n => x9 (ix2 k n)) r) 704 4 (by norm_num) rfl j).symm) inb_S1152x512_S16x512_704_0
  · exact pieceV (vrow x1 x6 x9) 576 (by norm_num) _ (fun j r => (pay45_apply _ j r).trans ((z_apply x1 x6 x9 r _).trans (vv_low (prod x1 x6 (fun k n => x9 (ix2 k n)) r) 576 1536 4 (by norm_num) rfl rfl j).symm)) inb_S1152x512_S128x512_576_0
  · exact pieceOne (vrow x1 x6 x9) 560 (by norm_num) (fun j r => (vv_high (prod x1 x6 (fun k n => x9 (ix2 k n)) r) 560 3 (by norm_num) rfl j).symm) inb_S1152x512_S16x512_560_0
  · exact pieceV (vrow x1 x6 x9) 432 (by norm_num) _ (fun j r => (pay44_apply _ j r).trans ((z_apply x1 x6 x9 r _).trans (vv_low (prod x1 x6 (fun k n => x9 (ix2 k n)) r) 432 1408 3 (by norm_num) rfl rfl j).symm)) inb_S1152x512_S128x512_432_0
  · exact pieceOne (vrow x1 x6 x9) 416 (by norm_num) (fun j r => (vv_high (prod x1 x6 (fun k n => x9 (ix2 k n)) r) 416 2 (by norm_num) rfl j).symm) inb_S1152x512_S16x512_416_0
  · exact pieceV (vrow x1 x6 x9) 288 (by norm_num) _ (fun j r => (pay43_apply _ j r).trans ((z_apply x1 x6 x9 r _).trans (vv_low (prod x1 x6 (fun k n => x9 (ix2 k n)) r) 288 1280 2 (by norm_num) rfl rfl j).symm)) inb_S1152x512_S128x512_288_0
  · exact pieceOne (vrow x1 x6 x9) 272 (by norm_num) (fun j r => (vv_high (prod x1 x6 (fun k n => x9 (ix2 k n)) r) 272 1 (by norm_num) rfl j).symm) inb_S1152x512_S16x512_272_0
  · exact pieceV (vrow x1 x6 x9) 144 (by norm_num) _ (fun j r => (pay42_apply _ j r).trans ((z_apply x1 x6 x9 r _).trans (vv_low (prod x1 x6 (fun k n => x9 (ix2 k n)) r) 144 1152 1 (by norm_num) rfl rfl j).symm)) inb_S1152x512_S128x512_144_0
  · exact pieceOne (vrow x1 x6 x9) 128 (by norm_num) (fun j r => (vv_high (prod x1 x6 (fun k n => x9 (ix2 k n)) r) 128 0 (by norm_num) rfl j).symm) inb_S1152x512_S16x512_128_0
  · exact pieceV (vrow x1 x6 x9) 0 (by norm_num) _ (fun j r => (pay41_apply _ j r).trans ((z_apply x1 x6 x9 r _).trans (vv_low (prod x1 x6 (fun k n => x9 (ix2 k n)) r) 0 1024 0 (by norm_num) rfl rfl j).symm)) inb_S1152x512_S128x512_0_0

end Cert.MlaIdeal.Val
end
-- ==== Proof.Mla.Host.lean ====
module

public import proofs.«01_k».proof.Proof.Mla.Apply
public import proofs.«01_k».proof.Proof.Gen.MlaReferenceIdeal.Read
public import Idealize.ShloMosaic.Lib.StableHlo.ReadAt

/-! The latent expansion's operands as the host prepares them, at an index. -/

@[expose] public section

set_option maxRecDepth 65536
noncomputable section
namespace Cert.MlaIdeal.Val
open Cert.MlaIdeal Cert.MlaIdeal.Gen Cert.Common Idealize.ShloMosaic Idealize.ShloMosaic.TcCoe Idealize.SL.Sem

variable (m : (ℓ : Loc nD τ sig) → Buf (Elt Ideal) ℓ)

/-- The argument arrays. -/
abbrev xcq (c : Dev nD) : S8x2048x512.Idx → EReal := m ((c : Thread nD τ).loc main_arg0)
abbrev xckv (c : Dev nD) : S8x2048x512.Idx → EReal := m ((c : Thread nD τ).loc main_arg1)
abbrev xkp (c : Dev nD) : S8x2048x64.Idx → EReal := m ((c : Thread nD τ).loc main_arg2)
abbrev xpos (c : Dev nD) : S8x2048.Idx → BitVec 32 := m ((c : Thread nD τ).loc main_arg3)
abbrev xgq (c : Dev nD) : S512.Idx → EReal := m ((c : Thread nD τ).loc main_arg4)
abbrev xwq (c : Dev nD) : S512x1536.Idx → EReal := m ((c : Thread nD τ).loc main_arg5)
abbrev xgkv (c : Dev nD) : S512.Idx → EReal := m ((c : Thread nD τ).loc main_arg6)
abbrev xwkv (c : Dev nD) : S512x2048.Idx → EReal := m ((c : Thread nD τ).loc main_arg7)

theorem proj_q (c : Dev nD) (b : Fin 8) (s : Fin 2048) (k : Fin 512) :
    V m c main_v10 (ix2 ⟨2048 * b.val + s.val, by omega⟩ ⟨3072 + k.val, by omega⟩) = xcq m c (ix3 b s k) := by
  unfold V
  after_reads_at
  after_reads_at

theorem proj_kv (c : Dev nD) (b : Fin 8) (s : Fin 2048) (k : Fin 512) :
    V m c main_v10 (ix2 ⟨2048 * b.val + s.val, by omega⟩ ⟨3584 + k.val, by omega⟩) = xckv m c (ix3 b s k) := by
  unfold V
  after_reads_at
  refine Eq.trans (dif_neg (show ¬ (3584 + k.val < 3072) by omega)) ?_
  refine Eq.trans (dif_neg (show ¬ (3584 + k.val - 3072 < 512) by omega)) ?_
  refine Eq.trans (dif_pos (show 3584 + k.val - 3072 - 512 < 512 by omega)) ?_
  after_reads_at
  exact congrArg (fun j => xckv m c (ix3 b s j)) (Fin.ext (by first | omega | (simp only; omega)))

theorem proj_pe (c : Dev nD) (b : Fin 8) (s : Fin 2048) (k : Fin 64) :
    V m c main_v10 (ix2 ⟨2048 * b.val + s.val, by omega⟩ ⟨4352 + k.val, by omega⟩) = xkp m c (ix3 b s k) := by
  unfold V
  after_reads_at
  refine Eq.trans (dif_neg (show ¬ (4352 + k.val < 3072) by omega)) ?_
  refine Eq.trans (dif_neg (show ¬ (4352 + k.val - 3072 < 512) by omega)) ?_
  refine Eq.trans (dif_neg (show ¬ (4352 + k.val - 3072 - 512 < 512) by omega)) ?_
  refine Eq.trans (dif_neg (show ¬ (4352 + k.val - 3072 - 512 - 512 < 256) by omega)) ?_
  refine Eq.trans (dif_pos (show 4352 + k.val - 3072 - 512 - 512 - 256 < 64 by omega)) ?_
  after_reads_at
  exact congrArg (fun j => xkp m c (ix3 b s j)) (Fin.ext (by first | omega | (simp only; omega)))

theorem proj_rot_lo (c : Dev nD) (b : Fin 8) (s : Fin 2048) (k : Fin 32) :
    V m c main_v10 (ix2 ⟨2048 * b.val + s.val, by omega⟩ ⟨4480 + k.val, by omega⟩) = -xkp m c (ix3 b s ⟨32 + k.val, by omega⟩) := by
  unfold V
  after_reads_at
  refine Eq.trans (dif_neg (show ¬ (4480 + k.val < 3072) by omega)) ?_
  refine Eq.trans (dif_neg (show ¬ (4480 + k.val - 3072 < 512) by omega)) ?_
  refine Eq.trans (dif_neg (show ¬ (4480 + k.val - 3072 - 512 < 512) by omega)) ?_
  refine Eq.trans (dif_neg (show ¬ (4480 + k.val - 3072 - 512 - 512 < 256) by omega)) ?_
  refine Eq.trans (dif_neg (show ¬ (4480 + k.val - 3072 - 512 - 512 - 256 < 64) by omega)) ?_
  refine Eq.trans (dif_neg (show ¬ (4480 + k.val - 3072 - 512 - 512 - 256 - 64 < 64) by omega)) ?_
  refine Eq.trans (dif_pos (show 4480 + k.val - 3072 - 512 - 512 - 256 - 64 - 64 < 32 by omega)) ?_
  after_reads_at
  refine congrArg (fun i => -xkp m c i) ?_
  congr 1 <;> exact Fin.ext (by first | omega | (simp only; omega))

theorem proj_rot_hi (c : Dev nD) (b : Fin 8) (s : Fin 2048) (k : Fin 32) :
    V m c main_v10 (ix2 ⟨2048 * b.val + s.val, by omega⟩ ⟨4512 + k.val, by omega⟩) = xkp m c (ix3 b s ⟨k.val, by omega⟩) := by
  unfold V
  after_reads_at
  refine Eq.trans (dif_neg (show ¬ (4512 + k.val < 3072) by omega)) ?_
  refine Eq.trans (dif_neg (show ¬ (4512 + k.val - 3072 < 512) by omega)) ?_
  refine Eq.trans (dif_neg (show ¬ (4512 + k.val - 3072 - 512 < 512) by omega)) ?_
  refine Eq.trans (dif_neg (show ¬ (4512 + k.val - 3072 - 512 - 512 < 256) by omega)) ?_
  refine Eq.trans (dif_neg (show ¬ (4512 + k.val - 3072 - 512 - 512 - 256 < 64) by omega)) ?_
  refine Eq.trans (dif_neg (show ¬ (4512 + k.val - 3072 - 512 - 512 - 256 - 64 < 64) by omega)) ?_
  refine Eq.trans (dif_neg (show ¬ (4512 + k.val - 3072 - 512 - 512 - 256 - 64 - 64 < 32) by omega)) ?_
  refine Eq.trans (dif_pos (show 4512 + k.val - 3072 - 512 - 512 - 256 - 64 - 64 - 32 < 32 by omega)) ?_
  after_reads_at
  refine congrArg (fun i => xkp m c i) ?_
  congr 1 <;> exact Fin.ext (by first | omega | (simp only; omega))

theorem pos_at (c : Dev nD) (b : Fin 8) (s : Fin 2048) :
    V m c main_v33 (ix2 ⟨2048 * b.val + s.val, by omega⟩ 0) = xpos m c (ix2 b s) := by
  unfold V
  after_reads_at

/-- The inverse frequencies. -/
def freq (j : Fin 32) : EReal := Cert.MlaReferenceIdeal.Read.val_main_v22 (F := Ideal) (ix1 j)

open Cert.MlaReferenceIdeal.Read in
theorem freq_lo (c : Dev nD) (j : Fin 32) : V m c main_v19 (ix2 0 ⟨j.val, by omega⟩) = freq j := by
  unfold V freq val_main_v22 val_main_v21 val_main_v20 val_main_v19 val_main_v18 val_main_v17 val_main_cst_3 val_main_cst_2
  after_reads_at
  after_reads_at

open Cert.MlaReferenceIdeal.Read in
theorem freq_hi (c : Dev nD) (j : Fin 32) : V m c main_v19 (ix2 0 ⟨32 + j.val, by omega⟩) = freq j := by
  unfold V freq val_main_v22 val_main_v21 val_main_v20 val_main_v19 val_main_v18 val_main_v17 val_main_cst_3 val_main_cst_2
  after_reads_at
  after_reads_at

theorem gq_at (c : Dev nD) (n : Fin 512) : V m c main_v34 (ix2 0 n) = xgq m c (ix1 n) := by
  unfold V
  after_reads_at

theorem gkv_at (c : Dev nD) (n : Fin 512) : V m c main_v35 (ix2 0 n) = xgkv m c (ix1 n) := by
  unfold V
  after_reads_at

theorem w1_nope (c : Dev nD) (k : Fin 512) (h : Fin 8) (d : Fin 128) :
    V m c main_v31 (ix2 k ⟨256 * h.val + d.val, by omega⟩) = xwq m c (ix2 k ⟨192 * h.val + d.val, by omega⟩) := by
  have e1 : (256 * h.val + d.val) / 256 = h.val := by omega
  have e2 : (256 * h.val + d.val) % 256 = d.val := by omega
  unfold V
  after_reads_at
  simp only [e1, e2]
  after_reads_at
  exact congrArg (fun j => xwq m c (ix2 k j)) (Fin.ext (by first | omega | (simp only; omega)))

theorem w1_pe (c : Dev nD) (k : Fin 512) (h : Fin 8) (d : Fin 64) :
    V m c main_v31 (ix2 k ⟨256 * h.val + (128 + d.val), by omega⟩) = xwq m c (ix2 k ⟨192 * h.val + (128 + d.val), by omega⟩) := by
  have e1 : (256 * h.val + (128 + d.val)) / 256 = h.val := by omega
  have e2 : (256 * h.val + (128 + d.val)) % 256 = 128 + d.val := by omega
  unfold V
  after_reads_at
  simp only [e1, e2]
  after_reads_at
  exact congrArg (fun j => xwq m c (ix2 k j)) (Fin.ext (by first | omega | (simp only; omega)))

theorem w1_zero (c : Dev nD) (k : Fin 512) (h : Fin 8) (d : Fin 64) :
    V m c main_v31 (ix2 k ⟨256 * h.val + (192 + d.val), by omega⟩) = (0 : EReal) := by
  have e1 : (256 * h.val + (192 + d.val)) / 256 = h.val := by omega
  have e2 : (256 * h.val + (192 + d.val)) % 256 = 192 + d.val := by omega
  unfold V
  after_reads_at
  simp only [e1, e2]
  rw [dif_neg (by omega), dif_neg (by omega)]
  after_reads_at

theorem w2_lo (c : Dev nD) (k : Fin 512) (h : Fin 8) (d : Fin 32) :
    V m c main_v32 (ix2 k ⟨128 * h.val + d.val, by omega⟩) = -xwq m c (ix2 k ⟨192 * h.val + (160 + d.val), by omega⟩) := by
  have e1 : (128 * h.val + d.val) / 128 = h.val := by omega
  have e2 : (128 * h.val + d.val) % 128 = d.val := by omega
  unfold V
  after_reads_at
  simp only [e1, e2]
  after_reads_at
  exact congrArg (fun j => -xwq m c (ix2 k j)) (Fin.ext (by first | omega | (simp only; omega)))

theorem w2_hi (c : Dev nD) (k : Fin 512) (h : Fin 8) (d : Fin 32) :
    V m c main_v32 (ix2 k ⟨128 * h.val + (32 + d.val), by omega⟩) = xwq m c (ix2 k ⟨192 * h.val + (128 + d.val), by omega⟩) := by
  have e1 : (128 * h.val + (32 + d.val)) / 128 = h.val := by omega
  have e2 : (128 * h.val + (32 + d.val)) % 128 = 32 + d.val := by omega
  unfold V
  after_reads_at
  simp only [e1, e2]
  after_reads_at
  exact congrArg (fun j => xwq m c (ix2 k j)) (Fin.ext (by first | omega | (simp only; omega)))

theorem wk_at (c : Dev nD) (k : Fin 512) (h : Fin 8) (d : Fin 128) :
    V m c main_v42 (ix2 k ⟨128 * h.val + d.val, by omega⟩) = xwkv m c (ix2 k ⟨256 * h.val + d.val, by omega⟩) := by
  have e0 : 128 * h.val + d.val < 1024 := by omega
  have e1 : (128 * h.val + d.val) / 128 = h.val := by omega
  have e2 : (128 * h.val + d.val) % 128 = d.val := by omega
  unfold V
  after_reads_at
  refine Eq.trans (dif_pos e0) ?_
  after_reads_at
  exact congrArg (fun j => xwkv m c (ix2 k j)) (Fin.ext (by first | omega | (simp only; omega)))

theorem wv_at (c : Dev nD) (k : Fin 512) (h : Fin 8) (d : Fin 128) :
    V m c main_v42 (ix2 k ⟨1024 + (128 * h.val + d.val), by omega⟩) = xwkv m c (ix2 k ⟨256 * h.val + (128 + d.val), by omega⟩) := by
  have e1 : (128 * h.val + d.val) / 128 = h.val := by omega
  have e2 : (128 * h.val + d.val) % 128 = d.val := by omega
  have e0 : ¬ (1024 + (128 * h.val + d.val) < 1024) := by omega
  have e3 : 1024 + (128 * h.val + d.val) - 1024 = 128 * h.val + d.val := by omega
  unfold V
  after_reads_at
  after_reads_at
  exact congrArg (fun j => xwkv m c (ix2 k j)) (Fin.ext (by first | omega | (simp only; omega)))

end Cert.MlaIdeal.Val
end
-- ==== Proof.Mla.Ref.lean ====
module

public import proofs.«01_k».proof.Proof.Mla.Host

/-! The latent expansion's reference, at an index. -/

@[expose] public section

set_option maxRecDepth 65536
noncomputable section
namespace Cert.MlaIdeal.Val
open Cert.MlaIdeal Cert.MlaIdeal.Gen Cert.Common Idealize.ShloMosaic Idealize.ShloMosaic.TcCoe Idealize.SL.Sem
open Cert.MlaReferenceIdeal.Read

/-- A token's latent after the norm and its product. -/
def expand {N : ℕ} (x : Fin 512 → EReal) (g : Fin 512 → EReal) (w : Fin 512 → Fin N → EReal) (n : Fin N) : EReal :=
  ∑ k : Fin 512, normed x g k * w k n

/-- The angle's cosine and sine at a token. -/
def rcos (x3 : S8x2048.Idx → BitVec 32) (b : Fin 8) (s : Fin 2048) (j : Fin 32) : EReal := Ideal.cos (real (x3 (ix2 b s)) * freq j)
def rsin (x3 : S8x2048.Idx → BitVec 32) (b : Fin 8) (s : Fin 2048) (j : Fin 32) : EReal := Ideal.sin (real (x3 (ix2 b s)) * freq j)

theorem bits_one : Ideal.ofBits FTy.f32 0x3F800000#32 = 1 := by
  simp [Ideal.ofBits, Ideal.ieee, -EReal.coe_mul]; norm_num

section
variable (x0 x1 : S8x2048x512.Idx → EReal) (x2 : S8x2048x64.Idx → EReal) (x3 : S8x2048.Idx → BitVec 32) (x4 : S512.Idx → EReal) (x5 : S512x1536.Idx → EReal)
  (x6 : S512.Idx → EReal) (x7 : S512x2048.Idx → EReal) (b : Fin 8) (s : Fin 2048) (h : Fin 8)

/-- The two expansions of a token. -/
def eq_ (n : Fin 1536) : EReal := expand (fun k => x0 (ix3 b s k)) (fun k => x4 (ix1 k)) (fun k n => x5 (ix2 k n)) n
def ekv (n : Fin 2048) : EReal := expand (fun k => x1 (ix3 b s k)) (fun k => x6 (ix1 k)) (fun k n => x7 (ix2 k n)) n

theorem r13 (n : Fin 1536) : val_main_v13 (F := Ideal) x0 x4 x5 (ix3 b s n) = eq_ x0 x4 x5 b s n := by
  unfold val_main_v13 val_main_v12 val_main_v11 val_main_v10 val_main_v9 val_main_v8 val_main_v7 val_main_v6 val_main_v5 val_main_cst_1 val_main_v4 val_main_v3 val_main_cst_0
    val_main_v2 val_main_v1 val_main_cst val_main_v0 eq_ expand normed
  pointwise [Cert.MlaReferenceIdeal.dot_S8x2048x512_S512x1536_S8x2048x1536_2_0_01_1_n_n]

theorem r58 (n : Fin 2048) : val_main_v58 (F := Ideal) x1 x6 x7 (ix3 b s n) = ekv x1 x6 x7 b s n := by
  unfold val_main_v58 val_main_v57 val_main_v56 val_main_v55 val_main_v54 val_main_v53 val_main_v52 val_main_v51 val_main_v50 val_main_cst_6 val_main_v49 val_main_v48 val_main_cst_5
    val_main_v47 val_main_v46 val_main_cst_4 val_main_v45 ekv expand normed
  pointwise [Cert.MlaReferenceIdeal.dot_S8x2048x512_S512x2048_S8x2048x2048_2_0_01_1_n_n]

theorem r14 (e : Fin 192) : val_main_v14 (F := Ideal) x0 x4 x5 (ix4 b s h e) = eq_ x0 x4 x5 b s ⟨192 * h.val + e.val, by omega⟩ := by
  have key := r13 x0 x4 x5 b s ⟨192 * h.val + e.val, by omega⟩
  unfold val_main_v14
  generalize val_main_v13 (F := Ideal) x0 x4 x5 = p at key
  rw [← key]
  pointwise
  refine congrArg p ?_
  congr 1 <;> exact Fin.ext (by first | omega | (simp only; omega))

theorem r59 (e : Fin 256) : val_main_v59 (F := Ideal) x1 x6 x7 (ix4 b s h e) = ekv x1 x6 x7 b s ⟨256 * h.val + e.val, by omega⟩ := by
  have key := r58 x1 x6 x7 b s ⟨256 * h.val + e.val, by omega⟩
  unfold val_main_v59
  generalize val_main_v58 (F := Ideal) x1 x6 x7 = p at key
  rw [← key]
  pointwise
  refine congrArg p ?_
  congr 1 <;> exact Fin.ext (by first | omega | (simp only; omega))

theorem r29 (j : Fin 32) : val_main_v29 (F := Ideal) x3 (ix4 b s 0 j) = real (x3 (ix2 b s)) * freq j := by
  unfold freq val_main_v29 val_main_v28 val_main_v27 val_main_v26 val_main_v25 val_main_v24 val_main_v23
  generalize val_main_v22 (F := Ideal) = f
  pointwise

theorem r73 (j : Fin 32) : val_main_v73 (F := Ideal) x3 (ix3 b s j) = real (x3 (ix2 b s)) * freq j := by
  have e : val_main_v67 (F := Ideal) = val_main_v22 := rfl
  unfold freq val_main_v73 val_main_v72 val_main_v71 val_main_v70 val_main_v69 val_main_v68
  rw [e]
  generalize val_main_v22 (F := Ideal) = f
  pointwise

theorem r44_lo (j : Fin 32) : val_main_v44 (F := Ideal) x0 x3 x4 x5 (ix4 b s h ⟨j.val, by omega⟩)
    = eq_ x0 x4 x5 b s ⟨192 * h.val + (128 + j.val), by omega⟩ * rcos x3 b s j - eq_ x0 x4 x5 b s ⟨192 * h.val + (160 + j.val), by omega⟩ * rsin x3 b s j := by
  have k1 := r14 x0 x4 x5 b s h ⟨128 + j.val, by omega⟩
  have k2 : val_main_v14 (F := Ideal) x0 x4 x5 (ix4 b s h ⟨128 + (32 + j.val), by omega⟩) = eq_ x0 x4 x5 b s ⟨192 * h.val + (160 + j.val), by omega⟩ :=
    (r14 x0 x4 x5 b s h ⟨128 + (32 + j.val), by omega⟩).trans (congrArg _ (Fin.ext (by simp only; omega)))
  have k3 := r29 x3 b s j
  unfold val_main_v44 val_main_v43 val_main_v42 val_main_v41 val_main_v40 val_main_v39 val_main_v38 val_main_v37 val_main_v36 val_main_v35 val_main_v34 val_main_v33 val_main_v32 val_main_v31 val_main_v30 val_main_v16 rcos rsin
  generalize val_main_v14 (F := Ideal) x0 x4 x5 = p at k1 k2
  generalize val_main_v29 (F := Ideal) x3 = a at k3
  rw [← k1, ← k2, ← k3]
  pointwise

theorem r44_hi (j : Fin 32) : val_main_v44 (F := Ideal) x0 x3 x4 x5 (ix4 b s h ⟨32 + j.val, by omega⟩)
    = eq_ x0 x4 x5 b s ⟨192 * h.val + (160 + j.val), by omega⟩ * rcos x3 b s j + eq_ x0 x4 x5 b s ⟨192 * h.val + (128 + j.val), by omega⟩ * rsin x3 b s j := by
  have k1 := r14 x0 x4 x5 b s h ⟨128 + j.val, by omega⟩
  have k2 : val_main_v14 (F := Ideal) x0 x4 x5 (ix4 b s h ⟨128 + (32 + j.val), by omega⟩) = eq_ x0 x4 x5 b s ⟨192 * h.val + (160 + j.val), by omega⟩ :=
    (r14 x0 x4 x5 b s h ⟨128 + (32 + j.val), by omega⟩).trans (congrArg _ (Fin.ext (by simp only; omega)))
  have k3 := r29 x3 b s j
  unfold val_main_v44 val_main_v43 val_main_v42 val_main_v41 val_main_v40 val_main_v39 val_main_v38 val_main_v37 val_main_v36 val_main_v35 val_main_v34 val_main_v33 val_main_v32 val_main_v31 val_main_v30 val_main_v16 rcos rsin
  generalize val_main_v14 (F := Ideal) x0 x4 x5 = p at k1 k2
  generalize val_main_v29 (F := Ideal) x3 = a at k3
  rw [← k1, ← k2, ← k3]
  pointwise

theorem r84_lo (j : Fin 32) : val_main_v84 (F := Ideal) x2 x3 (ix3 b s ⟨j.val, by omega⟩)
    = x2 (ix3 b s ⟨j.val, by omega⟩) * rcos x3 b s j - x2 (ix3 b s ⟨32 + j.val, by omega⟩) * rsin x3 b s j := by
  have k3 := r73 x3 b s j
  unfold val_main_v84 val_main_v83 val_main_v82 val_main_v81 val_main_v80 val_main_v79 val_main_v78 val_main_v77 val_main_v76 val_main_v75 val_main_v74 rcos rsin
  generalize val_main_v73 (F := Ideal) x3 = a at k3
  rw [← k3]
  pointwise

theorem r84_hi (j : Fin 32) : val_main_v84 (F := Ideal) x2 x3 (ix3 b s ⟨32 + j.val, by omega⟩)
    = x2 (ix3 b s ⟨32 + j.val, by omega⟩) * rcos x3 b s j + x2 (ix3 b s ⟨j.val, by omega⟩) * rsin x3 b s j := by
  have k3 := r73 x3 b s j
  unfold val_main_v84 val_main_v83 val_main_v82 val_main_v81 val_main_v80 val_main_v79 val_main_v78 val_main_v77 val_main_v76 val_main_v75 val_main_v74 rcos rsin
  generalize val_main_v73 (F := Ideal) x3 = a at k3
  rw [← k3]
  pointwise

/-- The score scale the reference divides out. -/
theorem r88 : val_main_v88 (F := Ideal) ix0 = scale := by
  have b192 : Ideal.ofBits FTy.f32 0x43400000#32 = ((192 : ℝ) : EReal) := by
    simp [Ideal.ofBits, Ideal.ieee, -EReal.coe_mul]; norm_num
  have b2 : Ideal.ofBits FTy.f32 0x40000000#32 = ((2 : ℝ) : EReal) := by
    simp [Ideal.ofBits, Ideal.ieee, -EReal.coe_mul]; norm_num
  have s192 : Ideal.sqrt ((192 : ℝ) : EReal) = ((Real.sqrt 192 : ℝ) : EReal) := by
    show (if (192 : ℝ) < 0 then (⊥ : EReal) else _) = _
    rw [if_neg (by norm_num)]
  have l2 : Ideal.log ((2 : ℝ) : EReal) = ((Real.log 2 : ℝ) : EReal) := by
    show (if (2 : ℝ) ≤ 0 then (⊥ : EReal) else _) = _
    rw [if_neg (by norm_num)]
  have hl : 0 < Real.log 2 := Real.log_pos (by norm_num)
  have hx : Real.sqrt 192 * Real.log 2 ≠ 0 := by positivity
  show Ideal.div (Ideal.ofBits FTy.f32 0x3F800000#32) (Ideal.sqrt (Ideal.ofBits FTy.f32 0x43400000#32) * Ideal.log (Ideal.ofBits FTy.f32 0x40000000#32)) = scale
  rw [b192, b2, s192, l2, bits_one, ← EReal.coe_mul]
  unfold Ideal.div scale
  rw [if_neg (by exact_mod_cast hx), one_mul, EReal.coe_inv]

/-- The rotated queries and keys of a token's 64 position lanes. -/
theorem r94_nope (e : Fin 128) : val_main_v94 (F := Ideal) x0 x3 x4 x5 (ix4 b s h ⟨e.val, by omega⟩) = eq_ x0 x4 x5 b s ⟨192 * h.val + e.val, by omega⟩ * scale := by
  have k1 := r14 x0 x4 x5 b s h ⟨e.val, by omega⟩
  have k2 := r88
  unfold val_main_v94 val_main_v91 val_main_v90 val_main_v15
  generalize val_main_v14 (F := Ideal) x0 x4 x5 = p at k1
  generalize val_main_v88 (F := Ideal) = c at k2
  rw [← k1, ← k2]
  pointwise

theorem r94_pe (e : Fin 64) : val_main_v94 (F := Ideal) x0 x3 x4 x5 (ix4 b s h ⟨128 + e.val, by omega⟩) = val_main_v44 (F := Ideal) x0 x3 x4 x5 (ix4 b s h e) * scale := by
  have k2 := r88
  unfold val_main_v94 val_main_v93 val_main_v92
  generalize val_main_v44 (F := Ideal) x0 x3 x4 x5 = p
  generalize val_main_v88 (F := Ideal) = c at k2
  rw [← k2]
  pointwise

theorem r94_zero (e : Fin 64) : val_main_v94 (F := Ideal) x0 x3 x4 x5 (ix4 b s h ⟨192 + e.val, by omega⟩) = (0 : EReal) := by
  unfold val_main_v94 val_main_v89 val_main_cst_12
  generalize val_main_v93 (F := Ideal) x0 x3 x4 x5 = p
  pointwise
  refine Eq.trans (dif_neg (show ¬ (192 + e.val < 128) by omega)) ?_
  refine Eq.trans (dif_neg (show ¬ (192 + e.val - 128 < 64) by omega)) ?_
  pointwise

theorem r104 (e : Fin 256) : val_main_v104 (F := Ideal) x0 x3 x4 x5 (ix2 ⟨2048 * b.val + s.val, by omega⟩ ⟨256 * h.val + e.val, by omega⟩) = val_main_v94 (F := Ideal) x0 x3 x4 x5 (ix4 b s h e) := by
  unfold val_main_v104 val_main_v95
  generalize val_main_v94 (F := Ideal) x0 x3 x4 x5 = p
  pointwise

theorem r98_nope (e : Fin 128) : val_main_v98 (F := Ideal) x1 x2 x3 x6 x7 (ix4 b s h ⟨e.val, by omega⟩) = ekv x1 x6 x7 b s ⟨256 * h.val + e.val, by omega⟩ := by
  have k1 := r59 x1 x6 x7 b s h ⟨e.val, by omega⟩
  unfold val_main_v98 val_main_v60
  generalize val_main_v59 (F := Ideal) x1 x6 x7 = p at k1
  rw [← k1]
  pointwise

theorem r98_pe (e : Fin 64) : val_main_v98 (F := Ideal) x1 x2 x3 x6 x7 (ix4 b s h ⟨128 + e.val, by omega⟩) = val_main_v84 (F := Ideal) x2 x3 (ix3 b s e) := by
  unfold val_main_v98 val_main_v97 val_main_v96
  generalize val_main_v84 (F := Ideal) x2 x3 = p
  pointwise

theorem r98_zero (e : Fin 64) : val_main_v98 (F := Ideal) x1 x2 x3 x6 x7 (ix4 b s h ⟨192 + e.val, by omega⟩) = (0 : EReal) := by
  unfold val_main_v98 val_main_v89 val_main_cst_12
  pointwise
  refine Eq.trans (dif_neg (show ¬ (192 + e.val < 128) by omega)) ?_
  refine Eq.trans (dif_neg (show ¬ (192 + e.val - 128 < 64) by omega)) ?_
  pointwise

theorem r105 (e : Fin 256) : val_main_v105 (F := Ideal) x1 x2 x3 x6 x7 (ix2 ⟨2048 * b.val + s.val, by omega⟩ ⟨256 * h.val + e.val, by omega⟩) = val_main_v98 (F := Ideal) x1 x2 x3 x6 x7 (ix4 b s h e) := by
  unfold val_main_v105 val_main_v99
  generalize val_main_v98 (F := Ideal) x1 x2 x3 x6 x7 = p
  pointwise

theorem r101_v (e : Fin 128) : val_main_v101 (F := Ideal) x1 x6 x7 (ix4 b s h ⟨e.val, by omega⟩) = ekv x1 x6 x7 b s ⟨256 * h.val + (128 + e.val), by omega⟩ := by
  have k1 := r59 x1 x6 x7 b s h ⟨128 + e.val, by omega⟩
  unfold val_main_v101 val_main_v61
  generalize val_main_v59 (F := Ideal) x1 x6 x7 = p at k1
  rw [← k1]
  pointwise

theorem r101_one (e : Fin 16) : val_main_v101 (F := Ideal) x1 x6 x7 (ix4 b s h ⟨128 + e.val, by omega⟩) = (1 : EReal) := by
  rw [← bits_one]
  unfold val_main_v101 val_main_v100 val_main_cst_13
  generalize val_main_v61 (F := Ideal) x1 x6 x7 = p
  pointwise

theorem r106 (e : Fin 144) : val_main_v106 (F := Ideal) x1 x6 x7 (ix2 ⟨144 * h.val + e.val, by omega⟩ ⟨2048 * b.val + s.val, by omega⟩) = val_main_v101 (F := Ideal) x1 x6 x7 (ix4 b s h e) := by
  unfold val_main_v106 val_main_v103 val_main_v102
  generalize val_main_v101 (F := Ideal) x1 x6 x7 = p
  pointwise

end
end Cert.MlaIdeal.Val
end
-- ==== Proof.Mla.Token.lean ====
module

public import proofs.«01_k».proof.Proof.Mla.Body
public import proofs.«01_k».proof.Proof.Mla.Ref

/-! The latent expansion's queries, keys and values of one token are the reference's. -/

@[expose] public section

set_option maxRecDepth 65536
noncomputable section
namespace Cert.MlaIdeal.Val
open Cert.MlaIdeal Cert.MlaIdeal.Gen Cert.Common Idealize.ShloMosaic Idealize.ShloMosaic.TcCoe Idealize.SL.Sem
open Cert.MlaReferenceIdeal.Read

variable (m : (ℓ : Loc nD τ sig) → Buf (Elt Ideal) ℓ) (c : Dev nD) (b : Fin 8) (s : Fin 2048) (h : Fin 8)

theorem fin_add (o w n : Nat) (hn : o + w ≤ n) (j : Fin w) : o + j.val < n := by omega

theorem fin_add_add (a o w n : Nat) (hn : a + (o + w) ≤ n) (j : Fin w) : a + (o + j.val) < n := by omega

theorem scale_nonneg : 0 ≤ scale := by
  have hl : 0 < Real.log 2 := Real.log_pos (by norm_num)
  have hx : 0 ≤ (Real.sqrt 192 * Real.log 2)⁻¹ := by positivity
  unfold scale
  exact_mod_cast hx

theorem scale_distrib (x y : EReal) : (x + y) * scale = x * scale + y * scale :=
  EReal.right_distrib_of_nonneg_of_ne_top scale_nonneg (EReal.coe_ne_top _) x y

/-- The two rotations with the scale taken in. -/
theorem rot_add (x y p q : EReal) : x * (p * scale) + y * (q * scale) = (x * p + y * q) * scale := by
  rw [scale_distrib, mul_assoc, mul_assoc]

theorem rot_sub (x y p q : EReal) : x * (p * scale) + -y * (q * scale) = (x * p - y * q) * scale := by
  rw [rot_add, EReal.neg_mul]
  rfl

/-- A normed row with real scales is real. -/
theorem isReal_normed (f g : Fin 512 → EReal) (hg : ∀ k, IsReal (g k)) (n : Fin 512) : IsReal (normed f g n) := by
  have hw : Ideal.ofBits FTy.f32 0x44000000#32 = ((512 : ℝ) : EReal) := by
    simp [Ideal.ofBits, Ideal.ieee, -EReal.coe_mul]; norm_num
  exact (isReal_scaled f _ 512 (by norm_num) hw n).mul (hg n)

/-- The lanes of the inverse frequencies, from the host's array. -/
abbrev fl (j : Fin 128) : EReal := V m c main_v19 (ix2 0 j)

theorem lane_lo (f : EReal → EReal) (p : EReal) (j : Fin 32) : lane f p (fl m c) ⟨j.val, by omega⟩ = f (p * freq j) := by
  unfold lane
  rw [if_pos (by simp only; omega)]
  exact congrArg (fun x => f (p * x)) (freq_lo m c j)

theorem lane_hi (f : EReal → EReal) (p : EReal) (j : Fin 32) : lane f p (fl m c) ⟨32 + j.val, by omega⟩ = f (p * freq j) := by
  unfold lane
  rw [if_pos (by simp only; omega)]
  exact congrArg (fun x => f (p * x)) (freq_hi m c j)

theorem lane_zero (f : EReal → EReal) (p : EReal) (v : Fin 128 → EReal) (j : Fin 64) : lane f p v ⟨64 + j.val, by omega⟩ = 0 := by
  unfold lane
  rw [if_neg (by simp only; omega)]

/-- The products a token's blocks are read from. -/
abbrev t1 : Fin 2048 → EReal := expand (fun k => xcq m c (ix3 b s k)) (fun k => xgq m c (ix1 k)) (fun k n => V m c main_v31 (ix2 k n))
abbrev t2 : Fin 1024 → EReal := expand (fun k => xcq m c (ix3 b s k)) (fun k => xgq m c (ix1 k)) (fun k n => V m c main_v32 (ix2 k n))
abbrev tk : Fin 2048 → EReal := expand (fun k => xckv m c (ix3 b s k)) (fun k => xgkv m c (ix1 k)) (fun k n => V m c main_v42 (ix2 k n))
abbrev eqm (n : Fin 1536) : EReal := eq_ (xcq m c) (xgq m c) (xwq m c) b s n
abbrev ekm (n : Fin 2048) : EReal := ekv (xckv m c) (xgkv m c) (xwkv m c) b s n

theorem t1_nope (d : Fin 128) : t1 m c b s ⟨256 * h.val + d.val, by omega⟩ = eqm m c b s ⟨192 * h.val + d.val, by omega⟩ :=
  Finset.sum_congr rfl fun k _ => congrArg (normed _ _ k * ·) (w1_nope m c k h d)

theorem t1_pe (d : Fin 64) : t1 m c b s ⟨256 * h.val + (128 + d.val), by omega⟩ = eqm m c b s ⟨192 * h.val + (128 + d.val), by omega⟩ :=
  Finset.sum_congr rfl fun k _ => congrArg (normed _ _ k * ·) (w1_pe m c k h d)

theorem t2_hi (d : Fin 32) : t2 m c b s ⟨128 * h.val + (32 + d.val), by omega⟩ = eqm m c b s ⟨192 * h.val + (128 + d.val), by omega⟩ :=
  Finset.sum_congr rfl fun k _ => congrArg (normed _ _ k * ·) (w2_hi m c k h d)

theorem t2_lo (hg : ∀ k, IsReal (xgq m c (ix1 k)))
    (hw : ∀ (k : Fin 512) (h : Fin 8) (d : Fin 32), IsReal (xwq m c (ix2 k ⟨192 * h.val + (160 + d.val), by omega⟩))) (d : Fin 32) :
    t2 m c b s ⟨128 * h.val + d.val, by omega⟩ = -eqm m c b s ⟨192 * h.val + (160 + d.val), by omega⟩ := by
  refine Eq.trans (Finset.sum_congr rfl fun k _ => congrArg (normed _ _ k * ·) (w2_lo m c k h d)) ?_
  refine sum_mul_neg _ _ (isReal_normed _ _ hg) fun k => ?_
  exact hw k h d

theorem tk_k (d : Fin 128) : tk m c b s ⟨128 * h.val + d.val, by omega⟩ = ekm m c b s ⟨256 * h.val + d.val, by omega⟩ :=
  Finset.sum_congr rfl fun k _ => congrArg (normed _ _ k * ·) (wk_at m c k h d)

theorem tk_v (d : Fin 128) : tk m c b s ⟨1024 + 128 * h.val + d.val, by omega⟩ = ekm m c b s ⟨256 * h.val + (128 + d.val), by omega⟩ := by
  have e : (⟨1024 + 128 * h.val + d.val, by omega⟩ : Fin 2048) = ⟨1024 + (128 * h.val + d.val), by omega⟩ := Fin.ext (by simp only; omega)
  rw [e]
  exact Finset.sum_congr rfl fun k _ => congrArg (normed _ _ k * ·) (wv_at m c k h d)

/-- The queries of a token. -/
theorem token_q (hg : ∀ k, IsReal (xgq m c (ix1 k)))
    (hw : ∀ (k : Fin 512) (h : Fin 8) (d : Fin 32), IsReal (xwq m c (ix2 k ⟨192 * h.val + (160 + d.val), by omega⟩))) (e : Fin 256) :
    qv (t1 m c b s) (t2 m c b s) (lane Ideal.cos (real (xpos m c (ix2 b s))) (fl m c)) (lane Ideal.sin (real (xpos m c (ix2 b s))) (fl m c)) ⟨256 * h.val + e.val, by omega⟩
      = val_main_v94 (F := Ideal) (xcq m c) (xpos m c) (xgq m c) (xwq m c) (ix4 b s h e) := by
  have hh := h.isLt
  by_cases h0 : e.val < 128
  · refine (qv_even _ _ _ _ (256 * h.val) h.val hh rfl ⟨e.val, h0⟩).trans ?_
    refine Eq.trans ?_ (r94_nope _ _ _ _ b s h ⟨e.val, h0⟩).symm
    exact congrArg (· * scale) (t1_nope m c b s h ⟨e.val, h0⟩)
  by_cases h1 : e.val < 160
  · obtain ⟨j, rfl⟩ : ∃ j : Fin 32, e = ⟨128 + j.val, fin_add 128 32 256 (by decide) j⟩ := ⟨⟨e.val - 128, by omega⟩, Fin.ext (by simp only; omega)⟩
    have ei : (⟨256 * h.val + (128 + j.val), by omega⟩ : Fin 2048) = ⟨256 * h.val + 128 + j.val, by omega⟩ := Fin.ext (by simp only; omega)
    have o := qv_odd (t1 m c b s) (t2 m c b s) (lane Ideal.cos (real (xpos m c (ix2 b s))) (fl m c)) (lane Ideal.sin (real (xpos m c (ix2 b s))) (fl m c)) (256 * h.val + 128) (128 * h.val) h.val hh rfl rfl ⟨j.val, by omega⟩
    rw [lane_lo m c Ideal.cos _ j, lane_lo m c Ideal.sin _ j, t2_lo m c b s h hg hw j, ← ei, t1_pe m c b s h ⟨j.val, by omega⟩, rot_sub] at o
    refine o.trans ?_
    refine Eq.trans ?_ (r94_pe _ _ _ _ b s h ⟨j.val, by omega⟩).symm
    rw [r44_lo]
    rfl
  by_cases h2 : e.val < 192
  · obtain ⟨j, rfl⟩ : ∃ j : Fin 32, e = ⟨128 + (32 + j.val), fin_add_add 128 32 32 256 (by decide) j⟩ := ⟨⟨e.val - 160, by omega⟩, Fin.ext (by simp only; omega)⟩
    have ei : (⟨256 * h.val + (128 + (32 + j.val)), by omega⟩ : Fin 2048) = ⟨256 * h.val + 128 + (32 + j.val), by omega⟩ := Fin.ext (by simp only; omega)
    have o := qv_odd (t1 m c b s) (t2 m c b s) (lane Ideal.cos (real (xpos m c (ix2 b s))) (fl m c)) (lane Ideal.sin (real (xpos m c (ix2 b s))) (fl m c)) (256 * h.val + 128) (128 * h.val) h.val hh rfl rfl ⟨32 + j.val, by omega⟩
    rw [lane_hi m c Ideal.cos _ j, lane_hi m c Ideal.sin _ j, t2_hi m c b s h j, ← ei, t1_pe m c b s h ⟨32 + j.val, by omega⟩, rot_add] at o
    refine o.trans ?_
    refine Eq.trans ?_ (r94_pe _ _ _ _ b s h ⟨32 + j.val, by omega⟩).symm
    rw [r44_hi]
    have e2 : (⟨192 * h.val + (128 + (32 + j.val)), by omega⟩ : Fin 1536) = ⟨192 * h.val + (160 + j.val), by omega⟩ := Fin.ext (by simp only; omega)
    rw [← e2]
    rfl
  · obtain ⟨j, rfl⟩ : ∃ j : Fin 64, e = ⟨192 + j.val, fin_add 192 64 256 (by decide) j⟩ := ⟨⟨e.val - 192, by omega⟩, Fin.ext (by simp only; omega)⟩
    have ei : (⟨256 * h.val + (192 + j.val), by omega⟩ : Fin 2048) = ⟨256 * h.val + 128 + (64 + j.val), by omega⟩ := Fin.ext (by simp only; omega)
    have o := qv_odd (t1 m c b s) (t2 m c b s) (lane Ideal.cos (real (xpos m c (ix2 b s))) (fl m c)) (lane Ideal.sin (real (xpos m c (ix2 b s))) (fl m c)) (256 * h.val + 128) (128 * h.val) h.val hh rfl rfl ⟨64 + j.val, by omega⟩
    rw [lane_zero, lane_zero, zero_mul, mul_zero, mul_zero, add_zero] at o
    rw [ei]
    exact o.trans (r94_zero _ _ _ _ b s h j).symm

/-- The keys of a token. -/
theorem token_k (p q : Fin 128 → EReal) (hp : ∀ j : Fin 64, p ⟨j.val, by omega⟩ = xkp m c (ix3 b s j))
    (hq : ∀ j : Fin 32, q ⟨j.val, by omega⟩ = -xkp m c (ix3 b s ⟨32 + j.val, by omega⟩)) (hq' : ∀ j : Fin 32, q ⟨32 + j.val, by omega⟩ = xkp m c (ix3 b s ⟨j.val, by omega⟩)) (e : Fin 256) :
    kv (tk m c b s) p q (lane Ideal.cos (real (xpos m c (ix2 b s))) (fl m c)) (lane Ideal.sin (real (xpos m c (ix2 b s))) (fl m c)) ⟨256 * h.val + e.val, by omega⟩
      = val_main_v98 (F := Ideal) (xckv m c) (xkp m c) (xpos m c) (xgkv m c) (xwkv m c) (ix4 b s h e) := by
  have hh := h.isLt
  by_cases h0 : e.val < 128
  · refine (kv_even _ _ _ _ _ (256 * h.val) (128 * h.val) h.val hh rfl rfl ⟨e.val, h0⟩).trans ?_
    exact (tk_k m c b s h ⟨e.val, h0⟩).trans (r98_nope _ _ _ _ _ b s h ⟨e.val, h0⟩).symm
  by_cases h1 : e.val < 160
  · obtain ⟨j, rfl⟩ : ∃ j : Fin 32, e = ⟨128 + j.val, fin_add 128 32 256 (by decide) j⟩ := ⟨⟨e.val - 128, by omega⟩, Fin.ext (by simp only; omega)⟩
    have ei : (⟨256 * h.val + (128 + j.val), by omega⟩ : Fin 2048) = ⟨256 * h.val + 128 + j.val, by omega⟩ := Fin.ext (by simp only; omega)
    have o := kv_odd (tk m c b s) p q (lane Ideal.cos (real (xpos m c (ix2 b s))) (fl m c)) (lane Ideal.sin (real (xpos m c (ix2 b s))) (fl m c)) (256 * h.val + 128) h.val hh rfl ⟨j.val, by omega⟩
    rw [lane_lo m c Ideal.cos _ j, lane_lo m c Ideal.sin _ j, hp ⟨j.val, by omega⟩, hq j, EReal.neg_mul] at o
    rw [ei]
    refine o.trans ?_
    refine Eq.trans ?_ (r98_pe _ _ _ _ _ b s h ⟨j.val, by omega⟩).symm
    rw [r84_lo]
    rfl
  by_cases h2 : e.val < 192
  · obtain ⟨j, rfl⟩ : ∃ j : Fin 32, e = ⟨128 + (32 + j.val), fin_add_add 128 32 32 256 (by decide) j⟩ := ⟨⟨e.val - 160, by omega⟩, Fin.ext (by simp only; omega)⟩
    have ei : (⟨256 * h.val + (128 + (32 + j.val)), by omega⟩ : Fin 2048) = ⟨256 * h.val + 128 + (32 + j.val), by omega⟩ := Fin.ext (by simp only; omega)
    have o := kv_odd (tk m c b s) p q (lane Ideal.cos (real (xpos m c (ix2 b s))) (fl m c)) (lane Ideal.sin (real (xpos m c (ix2 b s))) (fl m c)) (256 * h.val + 128) h.val hh rfl ⟨32 + j.val, by omega⟩
    rw [lane_hi m c Ideal.cos _ j, lane_hi m c Ideal.sin _ j, hp ⟨32 + j.val, by omega⟩, hq' j] at o
    rw [ei]
    refine o.trans ?_
    refine Eq.trans ?_ (r98_pe _ _ _ _ _ b s h ⟨32 + j.val, by omega⟩).symm
    rw [r84_hi]
    rfl
  · obtain ⟨j, rfl⟩ : ∃ j : Fin 64, e = ⟨192 + j.val, fin_add 192 64 256 (by decide) j⟩ := ⟨⟨e.val - 192, by omega⟩, Fin.ext (by simp only; omega)⟩
    have ei : (⟨256 * h.val + (192 + j.val), by omega⟩ : Fin 2048) = ⟨256 * h.val + 128 + (64 + j.val), by omega⟩ := Fin.ext (by simp only; omega)
    have o := kv_odd (tk m c b s) p q (lane Ideal.cos (real (xpos m c (ix2 b s))) (fl m c)) (lane Ideal.sin (real (xpos m c (ix2 b s))) (fl m c)) (256 * h.val + 128) h.val hh rfl ⟨64 + j.val, by omega⟩
    rw [lane_zero, lane_zero, mul_zero, mul_zero, add_zero] at o
    rw [ei]
    exact o.trans (r98_zero _ _ _ _ _ b s h j).symm

/-- The values of a token. -/
theorem token_v (e : Fin 144) :
    vv (tk m c b s) ⟨144 * h.val + e.val, by omega⟩ = val_main_v101 (F := Ideal) (xckv m c) (xgkv m c) (xwkv m c) (ix4 b s h e) := by
  have hh := h.isLt
  by_cases h0 : e.val < 128
  · refine (vv_low _ (144 * h.val) (1024 + 128 * h.val) h.val hh rfl rfl ⟨e.val, h0⟩).trans ?_
    exact (tk_v m c b s h ⟨e.val, h0⟩).trans (r101_v _ _ _ b s h ⟨e.val, h0⟩).symm
  · obtain ⟨j, rfl⟩ : ∃ j : Fin 16, e = ⟨128 + j.val, fin_add 128 16 144 (by decide) j⟩ := ⟨⟨e.val - 128, by omega⟩, Fin.ext (by simp only; omega)⟩
    have ei : (⟨144 * h.val + (128 + j.val), by omega⟩ : Fin 1152) = ⟨144 * h.val + 128 + j.val, by omega⟩ := Fin.ext (by simp only; omega)
    rw [ei]
    exact (vv_high _ (144 * h.val + 128) h.val hh rfl j).trans (r101_one _ _ _ b s h j).symm

end Cert.MlaIdeal.Val
end
-- ==== Proof.Mla.Value.lean ====
module

public import proofs.«01_k».proof.Proof.Mla.Token
public import Idealize.ShloMosaic.Lib.Pipeline.ValueKit.Point
public import Idealize.ShloMosaic.Lib.Pipeline.ValueKit.Tiles

/-! The latent expansion: the kernel's three result arrays are the reference's. -/

@[expose] public section

set_option maxRecDepth 65536
noncomputable section
namespace Cert.MlaIdeal.Val
open Cert.MlaIdeal Cert.MlaIdeal.Gen Cert.Common Idealize.ShloMosaic Idealize.ShloMosaic.TcCoe Idealize.SL.Sem
open Cert.MlaReferenceIdeal.Read

variable (m : (ℓ : Loc nD τ sig) → Buf (Elt Ideal) ℓ)

/-- Which block of each array a grid point reads or writes. -/
theorem idxs : ∀ t : Fin grid0.N, win0_0.index t = ![(grid0.coords t 0).val, 6] ∧ win0_1.index t = ![(grid0.coords t 0).val, 7]
  ∧ win0_2.index t = ![(grid0.coords t 0).val, 8] ∧ win0_3.index t = ![(grid0.coords t 0).val, 0] ∧ win0_4.index t = ![0, 0]
  ∧ win0_5.index t = ![0, 0] ∧ win0_6.index t = ![0, 0] ∧ win0_7.index t = ![0, 0] ∧ win0_8.index t = ![0, 0] ∧ win0_9.index t = ![0, 0]
  ∧ win0_10.index t = ![(grid0.coords t 0).val, 0] ∧ win0_11.index t = ![(grid0.coords t 0).val, 0]
  ∧ win0_12.index t = ![0, (grid0.coords t 0).val] := by decide +kernel

variable (t : Fin cfg0.N) (i : Fin 32)

theorem blk0 (c : Dev nD) (hi : i.val = (grid0.coords t 0).val) (r : Fin 512) (k : Fin 512) :
    iblk m c 0 t (ix2 r k) = V m c main_v10 (ix2 ⟨512 * i.val + r.val, by omega⟩ ⟨3072 + k.val, by omega⟩) := by
  blk_ext [iblk, idxs t]

theorem blk1 (c : Dev nD) (hi : i.val = (grid0.coords t 0).val) (r : Fin 512) (k : Fin 512) :
    iblk m c 1 t (ix2 r k) = V m c main_v10 (ix2 ⟨512 * i.val + r.val, by omega⟩ ⟨3584 + k.val, by omega⟩) := by
  blk_ext [iblk, idxs t]

theorem blk2 (c : Dev nD) (hi : i.val = (grid0.coords t 0).val) (r : Fin 512) (k : Fin 512) :
    iblk m c 2 t (ix2 r k) = V m c main_v10 (ix2 ⟨512 * i.val + r.val, by omega⟩ ⟨4096 + k.val, by omega⟩) := by
  blk_ext [iblk, idxs t]

theorem blk3 (c : Dev nD) (hi : i.val = (grid0.coords t 0).val) (r : Fin 512) :
    iblk m c 3 t (ix2 r 0) = V m c main_v33 (ix2 ⟨512 * i.val + r.val, by omega⟩ 0) := by
  blk_ext [iblk, idxs t]

theorem blk4 (c : Dev nD) (n : Fin 128) : iblk m c 4 t (ix2 0 n) = V m c main_v19 (ix2 0 n) := by
  blk_ext [iblk, idxs t]

theorem blk5 (c : Dev nD) (n : Fin 512) : iblk m c 5 t (ix2 0 n) = V m c main_v34 (ix2 0 n) := by
  blk_ext [iblk, idxs t]

theorem blk6 (c : Dev nD) (n : Fin 512) : iblk m c 6 t (ix2 0 n) = V m c main_v35 (ix2 0 n) := by
  blk_ext [iblk, idxs t]

theorem blk7 (c : Dev nD) (k : Fin 512) (n : Fin 2048) : iblk m c 7 t (ix2 k n) = V m c main_v31 (ix2 k n) := by
  blk_ext [iblk, idxs t]

theorem blk8 (c : Dev nD) (k : Fin 512) (n : Fin 1024) : iblk m c 8 t (ix2 k n) = V m c main_v32 (ix2 k n) := by
  blk_ext [iblk, idxs t]

theorem blk9 (c : Dev nD) (k : Fin 512) (n : Fin 2048) : iblk m c 9 t (ix2 k n) = V m c main_v42 (ix2 k n) := by
  blk_ext [iblk, idxs t]

theorem emb10 (hi : i.val = (grid0.coords t 0).val) (r : Fin 512) (n : Fin 2048) (G : S16384x2048.Idx → EReal) :
    G ((win0_10.blk t).view.emb (ix2 r n)) = G (ix2 ⟨512 * i.val + r.val, by omega⟩ n) := by
  blk_ext [iblk, idxs t]

theorem emb11 (hi : i.val = (grid0.coords t 0).val) (r : Fin 512) (n : Fin 2048) (G : S16384x2048.Idx → EReal) :
    G ((win0_11.blk t).view.emb (ix2 r n)) = G (ix2 ⟨512 * i.val + r.val, by omega⟩ n) := by
  blk_ext [iblk, idxs t]

theorem emb12 (hi : i.val = (grid0.coords t 0).val) (r : Fin 512) (n : Fin 1152) (G : S1152x16384.Idx → EReal) :
    G ((win0_12.blk t).view.emb (ix2 n r)) = G (ix2 n ⟨512 * i.val + r.val, by omega⟩) := by
  blk_ext [iblk, idxs t]

variable (c : Dev nD) (b : Fin 8) (s : Fin 2048) (r : Fin 512)

section rows
variable (hi : i.val = (grid0.coords t 0).val) (e : ∀ h, (⟨512 * i.val + r.val, h⟩ : Fin 16384) = ⟨2048 * b.val + s.val, by omega⟩)
include hi e

/-- The rows of the query product at a grid point. -/
theorem prod_q (w : Fin 512 → Fin 2048 → EReal) : prod (iblk m c 0 t) (iblk m c 5 t) w r
    = expand (fun k => xcq m c (ix3 b s k)) (fun k => xgq m c (ix1 k)) w := by
  have h0 : (fun k => iblk m c 0 t (ix2 r k)) = fun k => xcq m c (ix3 b s k) := funext fun k => by rw [blk0 m t i c hi, e]; exact proj_q m c b s k
  have h5 : (fun k => iblk m c 5 t (ix2 0 k)) = fun k => xgq m c (ix1 k) := funext fun k => by rw [blk5 m t c]; exact gq_at m c k
  unfold prod expand
  rw [h0, h5]

theorem prod_q' (w : Fin 512 → Fin 1024 → EReal) : prod (iblk m c 0 t) (iblk m c 5 t) w r
    = expand (fun k => xcq m c (ix3 b s k)) (fun k => xgq m c (ix1 k)) w := by
  have h0 : (fun k => iblk m c 0 t (ix2 r k)) = fun k => xcq m c (ix3 b s k) := funext fun k => by rw [blk0 m t i c hi, e]; exact proj_q m c b s k
  have h5 : (fun k => iblk m c 5 t (ix2 0 k)) = fun k => xgq m c (ix1 k) := funext fun k => by rw [blk5 m t c]; exact gq_at m c k
  unfold prod expand
  rw [h0, h5]

theorem prod_kv (w : Fin 512 → Fin 2048 → EReal) : prod (iblk m c 1 t) (iblk m c 6 t) w r
    = expand (fun k => xckv m c (ix3 b s k)) (fun k => xgkv m c (ix1 k)) w := by
  have h1 : (fun k => iblk m c 1 t (ix2 r k)) = fun k => xckv m c (ix3 b s k) := funext fun k => by rw [blk1 m t i c hi, e]; exact proj_kv m c b s k
  have h6 : (fun k => iblk m c 6 t (ix2 0 k)) = fun k => xgkv m c (ix1 k) := funext fun k => by rw [blk6 m t c]; exact gkv_at m c k
  unfold prod expand
  rw [h1, h6]

theorem pos_row : iblk m c 3 t (ix2 r 0) = xpos m c (ix2 b s) := by
  rw [blk3 m t i c hi, e]; exact pos_at m c b s

theorem freq_row : (fun j => iblk m c 4 t (ix2 0 j)) = fl m c := funext fun j => blk4 m t c j

theorem cos_row : cosv (iblk m c 3 t) (iblk m c 4 t) r = lane Ideal.cos (real (xpos m c (ix2 b s))) (fl m c) := by
  unfold cosv
  rw [pos_row m t i c b s r hi e, freq_row m t i c b s r hi e]

theorem sin_row : sinv (iblk m c 3 t) (iblk m c 4 t) r = lane Ideal.sin (real (xpos m c (ix2 b s))) (fl m c) := by
  unfold sinv
  rw [pos_row m t i c b s r hi e, freq_row m t i c b s r hi e]

theorem row_q (n : Fin 2048) : qrow (iblk m c 0 t) (iblk m c 3 t) (iblk m c 4 t) (iblk m c 5 t) (iblk m c 7 t) (iblk m c 8 t) r n
    = qv (t1 m c b s) (t2 m c b s) (lane Ideal.cos (real (xpos m c (ix2 b s))) (fl m c)) (lane Ideal.sin (real (xpos m c (ix2 b s))) (fl m c)) n := by
  have h7 : (fun k n => iblk m c 7 t (ix2 k n)) = fun k n => V m c main_v31 (ix2 k n) := funext fun k => funext fun n => blk7 m t c k n
  have h8 : (fun k n => iblk m c 8 t (ix2 k n)) = fun k n => V m c main_v32 (ix2 k n) := funext fun k => funext fun n => blk8 m t c k n
  unfold qrow
  rw [prod_q m t i c b s r hi e, prod_q' m t i c b s r hi e, cos_row m t i c b s r hi e, sin_row m t i c b s r hi e, h7, h8]

theorem row_k (n : Fin 2048) : krow (iblk m c 1 t) (iblk m c 2 t) (iblk m c 3 t) (iblk m c 4 t) (iblk m c 6 t) (iblk m c 9 t) r n
    = kv (tk m c b s) (fun j => iblk m c 2 t (ix2 r ⟨256 + j.val, by omega⟩)) (fun j => iblk m c 2 t (ix2 r ⟨384 + j.val, by omega⟩))
      (lane Ideal.cos (real (xpos m c (ix2 b s))) (fl m c)) (lane Ideal.sin (real (xpos m c (ix2 b s))) (fl m c)) n := by
  have h9 : (fun k n => iblk m c 9 t (ix2 k n)) = fun k n => V m c main_v42 (ix2 k n) := funext fun k => funext fun n => blk9 m t c k n
  unfold krow
  rw [prod_kv m t i c b s r hi e, cos_row m t i c b s r hi e, sin_row m t i c b s r hi e, h9]

theorem row_v (n : Fin 1152) : vrow (iblk m c 1 t) (iblk m c 6 t) (iblk m c 9 t) r n = vv (tk m c b s) n := by
  have h9 : (fun k n => iblk m c 9 t (ix2 k n)) = fun k n => V m c main_v42 (ix2 k n) := funext fun k => funext fun n => blk9 m t c k n
  unfold vrow
  rw [prod_kv m t i c b s r hi e, h9]

theorem pe_row (j : Fin 64) : iblk m c 2 t (ix2 r ⟨256 + j.val, by omega⟩) = xkp m c (ix3 b s j) := by
  rw [blk2 m t i c hi, e]
  exact (congrArg (fun n => V m c main_v10 (ix2 _ n)) (Fin.ext (by simp only; omega))).trans (proj_pe m c b s j)

theorem rot_row_lo (j : Fin 32) : iblk m c 2 t (ix2 r ⟨384 + j.val, by omega⟩) = -xkp m c (ix3 b s ⟨32 + j.val, by omega⟩) := by
  rw [blk2 m t i c hi, e]
  exact (congrArg (fun n => V m c main_v10 (ix2 _ n)) (Fin.ext (by simp only; omega))).trans (proj_rot_lo m c b s j)

theorem rot_row_hi (j : Fin 32) : iblk m c 2 t (ix2 r ⟨384 + (32 + j.val), by omega⟩) = xkp m c (ix3 b s ⟨j.val, by omega⟩) := by
  rw [blk2 m t i c hi, e]
  exact (congrArg (fun n => V m c main_v10 (ix2 _ n)) (Fin.ext (by simp only; omega))).trans (proj_rot_hi m c b s j)

end rows

theorem split_lt (w : Nat) (h : Fin 8) (e : Fin w) : w * h.val + e.val < w * 8 := by
  have h1 : w * h.val ≤ w * 7 := Nat.mul_le_mul_left w (by omega)
  have h2 := e.isLt
  omega

theorem fin_split (w n : Nat) (hn : n < w * 8) (hw : 0 < w) : ∃ (h : Fin 8) (e : Fin w), n = w * h.val + e.val :=
  ⟨⟨n / w, Nat.div_lt_of_lt_mul hn⟩, ⟨n % w, Nat.mod_lt _ hw⟩, (Nat.div_add_mod n w).symm⟩

/-- The queries a grid point leaves. -/
theorem outs_q (n : Fin 2048) : (outsAt0 m c t).1 (ix2 r n) = qrow (iblk m c 0 t) (iblk m c 3 t) (iblk m c 4 t) (iblk m c 5 t) (iblk m c 7 t) (iblk m c 8 t) r n := by
  unfold outsAt0
  dsimp only
  exact out_q c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) r n

/-- The keys a grid point leaves. -/
theorem outs_k (n : Fin 2048) : (outsAt0 m c t).2.1 (ix2 r n) = krow (iblk m c 1 t) (iblk m c 2 t) (iblk m c 3 t) (iblk m c 4 t) (iblk m c 6 t) (iblk m c 9 t) r n := by
  unfold outsAt0
  dsimp only
  exact out_k c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) r n

/-- The values a grid point leaves. -/
theorem outs_v (n : Fin 1152) : (outsAt0 m c t).2.2 (ix2 n r) = vrow (iblk m c 1 t) (iblk m c 6 t) (iblk m c 9 t) r n := by
  unfold outsAt0
  dsimp only
  exact out_v c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) r n

/-- With real scales and real position weights, the kernel's queries are the reference's. -/
theorem result10_eq (hg : ∀ k, IsReal (xgq m c (ix1 k)))
    (hw : ∀ (k : Fin 512) (h : Fin 8) (d : Fin 32), IsReal (xwq m c (ix2 k ⟨192 * h.val + (160 + d.val), by omega⟩))) :
    (dats m 0 c).arrAt 10 cfg0.N = val_main_v104 (F := Ideal) (xcq m c) (xpos m c) (xgq m c) (xwq m c) := by
  refine (dats m 0 c).arrAt_eq_of_covers 10 _ (by decide +kernel) fun t hf y => ?_
  blk_simp
  rw [after0_10]
  obtain ⟨i, hi⟩ : ∃ i : Fin 32, i.val = (grid0.coords t 0).val := ⟨⟨_, (grid0.coords t 0).isLt⟩, rfl⟩
  obtain ⟨r, n, rfl⟩ : ∃ (r : Fin 512) (n : Fin 2048), y = ix2 r n := ⟨y 0, y 1, eq_ix2 y⟩
  refine Eq.trans ?_ (emb10 t i hi r n (val_main_v104 (F := Ideal) (xcq m c) (xpos m c) (xgq m c) (xwq m c))).symm
  obtain ⟨b, hb⟩ : ∃ b : Fin 8, b.val = i.val / 4 := ⟨⟨i.val / 4, by omega⟩, rfl⟩
  obtain ⟨s, hs⟩ : ∃ s : Fin 2048, s.val = 512 * (i.val % 4) + r.val := ⟨⟨512 * (i.val % 4) + r.val, by omega⟩, rfl⟩
  have e : ∀ h, (⟨512 * i.val + r.val, h⟩ : Fin 16384) = ⟨2048 * b.val + s.val, by omega⟩ := fun h => Fin.ext (by simp only; omega)
  obtain ⟨h, d, hn⟩ := fin_split 256 n.val n.isLt (by decide)
  obtain rfl : n = ⟨256 * h.val + d.val, split_lt 256 h d⟩ := Fin.ext hn
  rw [e, r104]
  exact (outs_q m t c r _).trans ((row_q m t i c b s r hi e _).trans (token_q m c b s h hg hw d))

/-- The keys of one token at a grid point. -/
theorem point_k (hi : i.val = (grid0.coords t 0).val) (e : ∀ h, (⟨512 * i.val + r.val, h⟩ : Fin 16384) = ⟨2048 * b.val + s.val, by omega⟩) (h : Fin 8) (d : Fin 256) :
    krow (iblk m c 1 t) (iblk m c 2 t) (iblk m c 3 t) (iblk m c 4 t) (iblk m c 6 t) (iblk m c 9 t) r ⟨256 * h.val + d.val, split_lt 256 h d⟩
      = val_main_v98 (F := Ideal) (xckv m c) (xkp m c) (xpos m c) (xgkv m c) (xwkv m c) (ix4 b s h d) := by
  refine (row_k m t i c b s r hi e _).trans ?_
  have hp := pe_row m t i c b s r hi e
  have hq := rot_row_lo m t i c b s r hi e
  have hq' := rot_row_hi m t i c b s r hi e
  generalize iblk m c 2 t = x at hp hq hq' ⊢
  exact token_k m c b s h (fun j => x (ix2 r ⟨256 + j.val, by omega⟩)) (fun j => x (ix2 r ⟨384 + j.val, by omega⟩)) (fun j => hp j) (fun j => hq j) (fun j => hq' j) d

/-- The kernel's keys are the reference's. -/
theorem result11_eq : (dats m 0 c).arrAt 11 cfg0.N
    = val_main_v105 (F := Ideal) (xckv m c) (xkp m c) (xpos m c) (xgkv m c) (xwkv m c) := by
  refine (dats m 0 c).arrAt_eq_of_covers 11 _ (by decide +kernel) fun t hf y => ?_
  blk_simp
  rw [after0_11]
  obtain ⟨i, hi⟩ : ∃ i : Fin 32, i.val = (grid0.coords t 0).val := ⟨⟨_, (grid0.coords t 0).isLt⟩, rfl⟩
  obtain ⟨r, n, rfl⟩ : ∃ (r : Fin 512) (n : Fin 2048), y = ix2 r n := ⟨y 0, y 1, eq_ix2 y⟩
  refine Eq.trans ?_ (emb11 t i hi r n (val_main_v105 (F := Ideal) (xckv m c) (xkp m c) (xpos m c) (xgkv m c) (xwkv m c))).symm
  obtain ⟨b, hb⟩ : ∃ b : Fin 8, b.val = i.val / 4 := ⟨⟨i.val / 4, by omega⟩, rfl⟩
  obtain ⟨s, hs⟩ : ∃ s : Fin 2048, s.val = 512 * (i.val % 4) + r.val := ⟨⟨512 * (i.val % 4) + r.val, by omega⟩, rfl⟩
  have e : ∀ h, (⟨512 * i.val + r.val, h⟩ : Fin 16384) = ⟨2048 * b.val + s.val, by omega⟩ := fun h => Fin.ext (by simp only; omega)
  obtain ⟨h, d, hn⟩ := fin_split 256 n.val n.isLt (by decide)
  obtain rfl : n = ⟨256 * h.val + d.val, split_lt 256 h d⟩ := Fin.ext hn
  rw [e, r105]
  exact (outs_k m t c r _).trans (point_k m t i c b s r hi e h d)

/-- The kernel's transposed values with their rows of ones are the reference's. -/
theorem result12_eq : (dats m 0 c).arrAt 12 cfg0.N = val_main_v106 (F := Ideal) (xckv m c) (xgkv m c) (xwkv m c) := by
  refine (dats m 0 c).arrAt_eq_of_covers 12 _ (by decide +kernel) fun t hf y => ?_
  blk_simp
  rw [after0_12]
  obtain ⟨i, hi⟩ : ∃ i : Fin 32, i.val = (grid0.coords t 0).val := ⟨⟨_, (grid0.coords t 0).isLt⟩, rfl⟩
  obtain ⟨n, r, rfl⟩ : ∃ (n : Fin 1152) (r : Fin 512), y = ix2 n r := ⟨y 0, y 1, eq_ix2 y⟩
  refine Eq.trans ?_ (emb12 t i hi r n (val_main_v106 (F := Ideal) (xckv m c) (xgkv m c) (xwkv m c))).symm
  obtain ⟨b, hb⟩ : ∃ b : Fin 8, b.val = i.val / 4 := ⟨⟨i.val / 4, by omega⟩, rfl⟩
  obtain ⟨s, hs⟩ : ∃ s : Fin 2048, s.val = 512 * (i.val % 4) + r.val := ⟨⟨512 * (i.val % 4) + r.val, by omega⟩, rfl⟩
  have e : ∀ h, (⟨512 * i.val + r.val, h⟩ : Fin 16384) = ⟨2048 * b.val + s.val, by omega⟩ := fun h => Fin.ext (by simp only; omega)
  obtain ⟨h, d, hn⟩ := fin_split 144 n.val n.isLt (by decide)
  obtain rfl : n = ⟨144 * h.val + d.val, split_lt 144 h d⟩ := Fin.ext hn
  rw [e, r106]
  exact (outs_v m t c r _).trans ((row_v m t i c b s r hi e _).trans (token_v m c b s h d))

end Cert.MlaIdeal.Val
end
-- ==== Proof.Mla.Pre.lean ====
module

public import proofs.«01_k».proof.Defs
public import proofs.«01_k».proof.Proof.Common.Real

/-! What the expansion's precondition says: the query scales and the query weights of the position columns' second half are real numbers. -/

@[expose] public section

noncomputable section
namespace Cert.Pre_finite_mla
open Idealize.ShloMosaic Cert.Common

/-- The side conditions the precondition's operations take. -/
theorem facts : Facts := ⟨by decide, by decide, by decide, by decide⟩

variable [Facts] (x0 x1 : FVec Ideal S8x2048x512 .f32) (x2 : FVec Ideal S8x2048x64 .f32) (x3 : IVec S8x2048 32) (x4 : FVec Ideal S512 .f32)
  (x5 : FVec Ideal S512x1536 .f32) (x6 : FVec Ideal S512 .f32) (x7 : FVec Ideal S512x2048 .f32)

theorem real_g (h : (fn (F := Ideal) x0 x1 x2 x3 x4 x5 x6 x7).1 = fun _ => 1#1) (i : S512.Idx) : IsReal (x4 i) := by
  refine isReal_of_abs_lt _ ?_
  rw [← infinite_bits]
  exact congrFun h i

/-- Each head's last 32 columns of the query weights are real. -/
theorem real_w (h : (fn (F := Ideal) x0 x1 x2 x3 x4 x5 x6 x7).2 = fun _ => 1#1) (k : Fin 512) (a : Fin 8) (d : Fin 32) :
    IsReal (x5 (ix2 k ⟨192 * a.val + (160 + d.val), by omega⟩)) := by
  refine isReal_of_abs_lt _ ?_
  rw [← infinite_bits]
  have e := congrFun h (ix3 k a d)
  have key : extractStridedSlice S512x8x32 ![0, 0, 160] (shapeCast S512x8x192 x5 Facts.shapeCasts_S512x1536_S512x8x192) Facts.slices_S512x8x192_S512x8x32_0_0_160 (ix3 k a d)
      = x5 (ix2 k ⟨192 * a.val + (160 + d.val), by omega⟩) := by
    pointwise
    exact congrArg (fun j => x5 (ix2 k j)) (Fin.ext (by simp only; omega))
  rw [← key]
  exact e

end Cert.Pre_finite_mla
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Act
public import proofs.«01_k».proof.Proof.Gen.Act.Frame
public import proofs.«01_k».proof.Proof.Gen.Act.Launch
public import proofs.«01_k».proof.Proof.Gen.Act.Points
public import proofs.«01_k».proof.Proof.Gen.Act.Skeleton
public import proofs.«01_k».proof.Proof.Gen.ActIdeal
public import proofs.«01_k».proof.Proof.Gen.ActIdeal.Frame
public import proofs.«01_k».proof.Proof.Gen.ActIdeal.Launch
public import proofs.«01_k».proof.Proof.Gen.ActIdeal.Points
public import proofs.«01_k».proof.Proof.Gen.ActIdeal.Skeleton
public import proofs.«01_k».proof.Proof.Gen.ActIdeal.Value
public import proofs.«01_k».proof.Proof.Gen.ActReferenceIdeal
public import proofs.«01_k».proof.Proof.Gen.ActReferenceIdeal.Read
public import proofs.«01_k».proof.Proof.Gen.ActReferenceIdeal.Run
public import proofs.«01_k».proof.Proof.Gen.Down
public import proofs.«01_k».proof.Proof.Gen.Down.Frame
public import proofs.«01_k».proof.Proof.Gen.Down.Launch
public import proofs.«01_k».proof.Proof.Gen.Down.Points
public import proofs.«01_k».proof.Proof.Gen.Down.Skeleton
public import proofs.«01_k».proof.Proof.Gen.DownIdeal
public import proofs.«01_k».proof.Proof.Gen.DownIdeal.Frame
public import proofs.«01_k».proof.Proof.Gen.DownIdeal.Launch
public import proofs.«01_k».proof.Proof.Gen.DownIdeal.Points
public import proofs.«01_k».proof.Proof.Gen.DownIdeal.Skeleton
public import proofs.«01_k».proof.Proof.Gen.DownIdeal.Value
public import proofs.«01_k».proof.Proof.Gen.DownReferenceIdeal
public import proofs.«01_k».proof.Proof.Gen.DownReferenceIdeal.Read
public import proofs.«01_k».proof.Proof.Gen.DownReferenceIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaIdeal.Value
public import proofs.«01_k».proof.Proof.Gen.MlaReferenceIdeal
public import proofs.«01_k».proof.Proof.Gen.MlaReferenceIdeal.Run
public import proofs.«01_k».proof.Proof.Gen.MlaReferenceIdeal.Read
public import proofs.«01_k».proof.Proof.Attn.Final
public import proofs.«01_k».proof.Proof.Attn.Pre
public import proofs.«01_k».proof.Proof.Act.Value
public import proofs.«01_k».proof.Proof.Down.Value
public import proofs.«01_k».proof.Proof.Proj.Value
public import proofs.«01_k».proof.Proof.Proj.Pre
public import proofs.«01_k».proof.Proof.Out.Value
public import proofs.«01_k».proof.Proof.Mla.Value
public import proofs.«01_k».proof.Proof.Mla.Pre
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The attention of the kernel and of the reference agree. -/
theorem attn : Cert.algebraic_KernelIdeal_ReferenceIdeal_pre_finite_scores (hKernelIdeal := Cert.KernelIdeal.Gen.facts)
    (hReferenceIdeal := Cert.ReferenceIdeal.Gen.facts) (hPre_finite_scores := Cert.Pre_finite_scores.facts) := by
  intro m g m' g' hpre hm
  letI := Cert.Pre_finite_scores.facts
  refine ⟨fun c => Cert.ReferenceIdeal.Read.val_main_v30 (F := Ideal) (Cert.KernelIdeal.Attn.xqn m c) (Cert.KernelIdeal.Attn.xqp m c)
    (Cert.KernelIdeal.Attn.xkn m c) (Cert.KernelIdeal.Attn.xkp m c) (Cert.KernelIdeal.Attn.xv m c), ?_, ?_⟩
  · refine (θ_run _ _ _).mono (fun r h c => ⟨(h c).1.trans ?_, (h c).2⟩) (Cert.KernelIdeal.Value.run_blocks m g)
    obtain ⟨p0, p1, p2, p3⟩ := hpre c
    choose rq hq using Cert.Pre_finite_scores.real0 _ _ _ _ _ p0
    choose rp hp using Cert.Pre_finite_scores.real1 _ _ _ _ _ p1
    choose rk hk using Cert.Pre_finite_scores.real2 _ _ _ _ _ p2
    choose rr hr using Cert.Pre_finite_scores.real3 _ _ _ _ _ p3
    exact Cert.KernelIdeal.Attn.result_eq m c rq rp rk rr hq hp hk hr
  · refine (θ_run _ _ _).mono (fun r h c => ⟨(h c).1.trans ?_, (h c).2⟩) (Cert.ReferenceIdeal.Value.run m' g')
    obtain ⟨e0, e1, e2, e3, e4⟩ := hm c
    refine (Cert.ReferenceIdeal.Read.val_main_v30_eq m' c).trans ?_
    rw [e0, e1, e2, e3, e4]

/-- The attention's reference keeps its arguments and leaves every counter at zero: it declares no semaphore. -/
theorem refFrame : Cert.quiescent_ReferenceIdeal (hReferenceIdeal := Cert.ReferenceIdeal.Gen.facts) := fun m g _ =>
  (θ_run Cert.ReferenceIdeal.defs _ _).mono (fun r h => And.intro (fun c => (h c).2) (sem_eq_zero_of_no_sems (by decide) r.2))
    (Cert.ReferenceIdeal.Value.run (F := Ideal) m g)

/-- The FFN's activation of the kernel and of the reference agree. -/
theorem act : Cert.algebraic_ActIdeal_ActReferenceIdeal (hActIdeal := Cert.ActIdeal.Gen.facts) (hActReferenceIdeal := Cert.ActReferenceIdeal.Gen.facts) := by
  intro m g m' g' _ hm
  refine ⟨fun c => Cert.ActReferenceIdeal.Read.val_main_v29 (F := Ideal) (Cert.ActIdeal.Val.xh m c) (Cert.ActIdeal.Val.xg m c)
    (Cert.ActIdeal.Val.xu m c) (Cert.ActIdeal.Val.xw m c) (Cert.ActIdeal.Val.xb m c), ?_, ?_⟩
  · exact (θ_run _ _ _).mono (fun r h c => ⟨(h c).1.trans (Cert.ActIdeal.Val.result_eq m c), (h c).2⟩) (Cert.ActIdeal.Value.run_blocks m g)
  · refine (θ_run _ _ _).mono (fun r h c => ⟨(h c).1.trans ?_, (h c).2⟩) (Cert.ActReferenceIdeal.Value.run m' g')
    obtain ⟨e0, e1, e2, e3, e4⟩ := hm c
    refine (Cert.ActReferenceIdeal.Read.val_main_v29_eq m' c).trans ?_
    rw [e0, e1, e2, e3, e4]

/-- The activation's reference keeps its arguments and leaves every counter at zero. -/
theorem actRefFrame : Cert.quiescent_ActReferenceIdeal (hActReferenceIdeal := Cert.ActReferenceIdeal.Gen.facts) := fun m g _ =>
  (θ_run Cert.ActReferenceIdeal.defs _ _).mono (fun r h => And.intro (fun c => (h c).2) (sem_eq_zero_of_no_sems (by decide) r.2))
    (Cert.ActReferenceIdeal.Value.run (F := Ideal) m g)

/-- The FFN's down product, residual and norm of the kernel and of the reference agree. -/
theorem down : Cert.algebraic_DownIdeal_DownReferenceIdeal (hDownIdeal := Cert.DownIdeal.Gen.facts) (hDownReferenceIdeal := Cert.DownReferenceIdeal.Gen.facts) := by
  intro m g m' g' _ hm
  refine ⟨fun c => Cert.DownReferenceIdeal.Read.val_main_v15 (F := Ideal) (Cert.DownIdeal.Val.xa m c) (Cert.DownIdeal.Val.xw m c)
    (Cert.DownIdeal.Val.xr m c) (Cert.DownIdeal.Val.xg m c), ?_, ?_⟩
  · exact (θ_run _ _ _).mono (fun r h c => ⟨(h c).1.trans (Cert.DownIdeal.Val.result_eq m c), (h c).2⟩) (Cert.DownIdeal.Value.run_blocks m g)
  · refine (θ_run _ _ _).mono (fun r h c => ⟨(h c).1.trans ?_, (h c).2⟩) (Cert.DownReferenceIdeal.Value.run m' g')
    obtain ⟨e0, e1, e2, e3⟩ := hm c
    refine (Cert.DownReferenceIdeal.Read.val_main_v15_eq _ _ _ _).trans ?_
    rw [e0, e1, e2, e3]

/-- The down product's reference keeps its arguments and leaves every counter at zero. -/
theorem downRefFrame : Cert.quiescent_DownReferenceIdeal (hDownReferenceIdeal := Cert.DownReferenceIdeal.Gen.facts) := fun m g _ =>
  (θ_run Cert.DownReferenceIdeal.defs _ _).mono (fun r h => And.intro (fun c => (h c).2) (sem_eq_zero_of_no_sems (by decide) r.2))
    (Cert.DownReferenceIdeal.Value.run (F := Ideal) m g)

/-- The norm and input projection of the kernel and of the reference agree. -/
theorem proj : Cert.algebraic_ProjIdeal_ProjReferenceIdeal_pre_finite_proj (hProjIdeal := Cert.ProjIdeal.Gen.facts)
    (hProjReferenceIdeal := Cert.ProjReferenceIdeal.Gen.facts) (hPre_finite_proj := Cert.Pre_finite_proj.facts) := by
  intro m g m' g' hpre hm
  letI := Cert.Pre_finite_proj.facts
  refine ⟨fun c => Cert.ProjReferenceIdeal.Read.val_main_v29 (F := Ideal) (Cert.ProjIdeal.Val.xx m c) (Cert.ProjIdeal.Val.xg m c) (Cert.ProjIdeal.Val.xw m c), ?_, ?_⟩
  · refine (θ_run _ _ _).mono (fun r h c => ⟨(h c).1.trans ?_, (h c).2⟩) (Cert.ProjIdeal.Value.run_blocks m g)
    obtain ⟨p1, p2⟩ := hpre c
    exact Cert.ProjIdeal.Val.result_eq m c (fun k => Cert.Pre_finite_proj.real_g _ _ _ p1 (ix1 k)) (fun k j hj => Cert.Pre_finite_proj.real_w _ _ _ p2 k j hj)
  · refine (θ_run _ _ _).mono (fun r h c => ⟨(h c).1.trans ?_, (h c).2⟩) (Cert.ProjReferenceIdeal.Value.run m' g')
    obtain ⟨e0, e1, e2⟩ := hm c
    refine (Cert.ProjReferenceIdeal.Read.val_main_v29_eq m' c).trans ?_
    rw [e0, e1, e2]

/-- The input projection's reference keeps its arguments and leaves every counter at zero. -/
theorem projRefFrame : Cert.quiescent_ProjReferenceIdeal (hProjReferenceIdeal := Cert.ProjReferenceIdeal.Gen.facts) := fun m g _ =>
  (θ_run Cert.ProjReferenceIdeal.defs _ _).mono (fun r h => And.intro (fun c => (h c).2) (sem_eq_zero_of_no_sems (by decide) r.2))
    (Cert.ProjReferenceIdeal.Value.run (F := Ideal) m g)

/-- The output projection, residual and norm of the kernel and of the reference agree. -/
theorem out : Cert.algebraic_OutIdeal_OutReferenceIdeal (hOutIdeal := Cert.OutIdeal.Gen.facts) (hOutReferenceIdeal := Cert.OutReferenceIdeal.Gen.facts) := by
  intro m g m' g' _ hm
  refine ⟨fun c => Cert.OutReferenceIdeal.Read.val_main_v3 (F := Ideal) (Cert.OutIdeal.Val.xa m c) (Cert.OutIdeal.Val.xm m c) (Cert.OutIdeal.Val.xw m c) (Cert.OutIdeal.Val.xr m c),
    fun c => Cert.OutReferenceIdeal.Read.val_main_v18 (F := Ideal) (Cert.OutIdeal.Val.xa m c) (Cert.OutIdeal.Val.xm m c) (Cert.OutIdeal.Val.xw m c) (Cert.OutIdeal.Val.xr m c) (Cert.OutIdeal.Val.xg m c), ?_, ?_⟩
  · exact (θ_run _ _ _).mono (fun r h c => ⟨(h c).1.trans (Cert.OutIdeal.Val.result4_eq m c), (h c).2.1.trans (Cert.OutIdeal.Val.result5_eq m c), (h c).2.2⟩)
      (Cert.OutIdeal.Value.run_blocks m g)
  · refine (θ_run _ _ _).mono (fun r h c => ⟨(h c).1.trans ?_, (h c).2.1.trans ?_, (h c).2.2⟩) (Cert.OutReferenceIdeal.Value.run m' g')
    · obtain ⟨e0, e1, e2, e3, e4⟩ := hm c
      refine (Cert.OutReferenceIdeal.Read.val_main_v3_eq _ _ _ _).trans ?_
      rw [e0, e1, e2, e3]
    · obtain ⟨e0, e1, e2, e3, e4⟩ := hm c
      refine (Cert.OutReferenceIdeal.Read.val_main_v18_eq _ _ _ _ _).trans ?_
      rw [e0, e1, e2, e3, e4]

/-- The output projection's reference keeps its arguments and leaves every counter at zero. -/
theorem outRefFrame : Cert.quiescent_OutReferenceIdeal (hOutReferenceIdeal := Cert.OutReferenceIdeal.Gen.facts) := fun m g _ =>
  (θ_run Cert.OutReferenceIdeal.defs _ _).mono (fun r h => And.intro (fun c => (h c).2.2) (sem_eq_zero_of_no_sems (by decide) r.2))
    (Cert.OutReferenceIdeal.Value.run (F := Ideal) m g)

/-- The expansion of the latents of the kernel and of the reference agree, all three results. -/
theorem mla : Cert.algebraic_MlaIdeal_MlaReferenceIdeal_pre_finite_mla (hMlaIdeal := Cert.MlaIdeal.Gen.facts)
    (hMlaReferenceIdeal := Cert.MlaReferenceIdeal.Gen.facts) (hPre_finite_mla := Cert.Pre_finite_mla.facts) := by
  intro m g m' g' hpre hm
  letI := Cert.Pre_finite_mla.facts
  refine ⟨fun c => Cert.MlaReferenceIdeal.Read.val_main_v104 (F := Ideal) (Cert.MlaIdeal.Val.xcq m c) (Cert.MlaIdeal.Val.xpos m c) (Cert.MlaIdeal.Val.xgq m c) (Cert.MlaIdeal.Val.xwq m c),
    fun c => Cert.MlaReferenceIdeal.Read.val_main_v105 (F := Ideal) (Cert.MlaIdeal.Val.xckv m c) (Cert.MlaIdeal.Val.xkp m c) (Cert.MlaIdeal.Val.xpos m c) (Cert.MlaIdeal.Val.xgkv m c) (Cert.MlaIdeal.Val.xwkv m c),
    fun c => Cert.MlaReferenceIdeal.Read.val_main_v106 (F := Ideal) (Cert.MlaIdeal.Val.xckv m c) (Cert.MlaIdeal.Val.xgkv m c) (Cert.MlaIdeal.Val.xwkv m c), ?_, ?_⟩
  · refine (θ_run _ _ _).mono (fun r h c => ⟨(h c).1.trans ?_, (h c).2.1.trans (Cert.MlaIdeal.Val.result11_eq m c), (h c).2.2.1.trans (Cert.MlaIdeal.Val.result12_eq m c), (h c).2.2.2⟩)
      (Cert.MlaIdeal.Value.run_blocks m g)
    obtain ⟨p0, p1⟩ := hpre c
    exact Cert.MlaIdeal.Val.result10_eq m c (fun k => Cert.Pre_finite_mla.real_g _ _ _ _ _ _ _ _ p0 (ix1 k))
      (fun k a d => Cert.Pre_finite_mla.real_w _ _ _ _ _ _ _ _ p1 k a d)
  · refine (θ_run _ _ _).mono (fun r h c => ⟨(h c).1.trans ?_, (h c).2.1.trans ?_, (h c).2.2.1.trans ?_, (h c).2.2.2⟩) (Cert.MlaReferenceIdeal.Value.run m' g')
    · obtain ⟨e0, e1, e2, e3, e4, e5, e6, e7⟩ := hm c
      refine (Cert.MlaReferenceIdeal.Read.val_main_v104_eq m' c).trans ?_
      rw [e0, e3, e4, e5]
    · obtain ⟨e0, e1, e2, e3, e4, e5, e6, e7⟩ := hm c
      refine (Cert.MlaReferenceIdeal.Read.val_main_v105_eq m' c).trans ?_
      rw [e1, e2, e3, e6, e7]
    · obtain ⟨e0, e1, e2, e3, e4, e5, e6, e7⟩ := hm c
      refine (Cert.MlaReferenceIdeal.Read.val_main_v106_eq _ _ _).trans ?_
      rw [e1, e6, e7]

/-- The expansion's reference keeps its arguments and leaves every counter at zero. -/
theorem mlaRefFrame : Cert.quiescent_MlaReferenceIdeal (hMlaReferenceIdeal := Cert.MlaReferenceIdeal.Gen.facts) := fun m g _ =>
  (θ_run Cert.MlaReferenceIdeal.defs _ _).mono (fun r h => And.intro (fun c => (h c).2.2.2) (sem_eq_zero_of_no_sems (by decide) r.2))
    (Cert.MlaReferenceIdeal.Value.run (F := Ideal) m g)

theorem claim : Cert.Claim := ⟨Cert.Kernel.Gen.facts, Cert.KernelIdeal.Gen.facts, Cert.ReferenceIdeal.Gen.facts,
  Cert.Act.Gen.facts, Cert.ActIdeal.Gen.facts, Cert.ActReferenceIdeal.Gen.facts,
  Cert.Down.Gen.facts, Cert.DownIdeal.Gen.facts, Cert.DownReferenceIdeal.Gen.facts,
  Cert.Proj.Gen.facts, Cert.ProjIdeal.Gen.facts, Cert.ProjReferenceIdeal.Gen.facts,
  Cert.Out.Gen.facts, Cert.OutIdeal.Gen.facts, Cert.OutReferenceIdeal.Gen.facts,
  Cert.Mla.Gen.facts, Cert.MlaIdeal.Gen.facts, Cert.MlaReferenceIdeal.Gen.facts,
  Cert.Pre_finite_scores.facts, Cert.Pre_finite_proj.facts, Cert.Pre_finite_mla.facts,
  fun m g _ => Cert.Kernel.Gen.frame m g,
  fun m g _ => Cert.KernelIdeal.Gen.frame m g,
  fun m g _ => Cert.KernelIdeal.Gen.frame m g,
  refFrame,
  fun m g _ => refFrame m g trivial,
  fun m g _ => Cert.Act.Gen.frame m g,
  fun m g _ => Cert.ActIdeal.Gen.frame m g,
  actRefFrame,
  fun m g _ => Cert.Down.Gen.frame m g,
  fun m g _ => Cert.DownIdeal.Gen.frame m g,
  downRefFrame,
  fun m g _ => Cert.Proj.Gen.frame m g,
  fun m g _ => Cert.ProjIdeal.Gen.frame m g,
  fun m g _ => Cert.ProjIdeal.Gen.frame m g,
  projRefFrame,
  fun m g _ => projRefFrame m g trivial,
  fun m g _ => Cert.Out.Gen.frame m g,
  fun m g _ => Cert.OutIdeal.Gen.frame m g,
  outRefFrame,
  fun m g _ => Cert.Mla.Gen.frame m g,
  fun m g _ => Cert.MlaIdeal.Gen.frame m g,
  fun m g _ => Cert.MlaIdeal.Gen.frame m g,
  mlaRefFrame,
  fun m g _ => mlaRefFrame m g trivial,
  IdealRules.named_const.statement _ _ _ _ _ rfl,
  attn,
  trivial,
  act,
  trivial,
  down,
  trivial,
  proj,
  trivial,
  out,
  IdealRules.named_const.statement _ _ _ _ _ rfl,
  mla⟩

end Cert.Proof

end
